-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "inv192" .f32 0x3BAAAAAB#32 ((192⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v157_0)) (v1 : (c : Dev Cert.Kernel2Ideal.nD) → Buf (Elt Ideal) ((c.tc : Thread Cert.Kernel2Ideal.nD Cert.Kernel2Ideal.τ).loc Cert.Kernel2Ideal.main_v157_1)) (v2 : (c : Dev Cert.Kernel2Ideal.nD) → Buf (Elt Ideal) ((c.tc : Thread Cert.Kernel2Ideal.nD Cert.Kernel2Ideal.τ).loc Cert.Kernel2Ideal.main_v157_2)) (v3 : (c : Dev Cert.Kernel2Ideal.nD) → Buf (Elt Ideal) ((c.tc : Thread Cert.Kernel2Ideal.nD Cert.Kernel2Ideal.τ).loc Cert.Kernel2Ideal.main_v157_3)) (v4 : (c : Dev Cert.Kernel2Ideal.nD) → Buf (Elt Ideal) ((c.tc : Thread Cert.Kernel2Ideal.nD Cert.Kernel2Ideal.τ).loc Cert.Kernel2Ideal.main_v157_4)) (v5 : (c : Dev Cert.Kernel2Ideal.nD) → Buf (Elt Ideal) ((c.tc : Thread Cert.Kernel2Ideal.nD Cert.Kernel2Ideal.τ).loc Cert.Kernel2Ideal.main_v157_5)) (v6 : (c : Dev Cert.Kernel2Ideal.nD) → Buf (Elt Ideal) ((c.tc : Thread Cert.Kernel2Ideal.nD Cert.Kernel2Ideal.τ).loc Cert.Kernel2Ideal.main_v157_6)) (v7 : (c : Dev Cert.Kernel2Ideal.nD) → Buf (Elt Ideal) ((c.tc : Thread Cert.Kernel2Ideal.nD Cert.Kernel2Ideal.τ).loc Cert.Kernel2Ideal.main_v157_7)) (v8 : (c : Dev Cert.Kernel2Ideal.nD) → Buf (Elt Ideal) ((c.tc : Thread Cert.Kernel2Ideal.nD Cert.Kernel2Ideal.τ).loc Cert.Kernel2Ideal.main_v157_8)) (v9 : (c : Dev Cert.Kernel2Ideal.nD) → Buf (Elt Ideal) ((c.tc : Thread Cert.Kernel2Ideal.nD Cert.Kernel2Ideal.τ).loc Cert.Kernel2Ideal.main_v157_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v157_0) = v0 c
          ∧ r.2.mem ((c.tc : Thread Cert.Kernel2Ideal.nD Cert.Kernel2Ideal.τ).loc Cert.Kernel2Ideal.main_v157_1) = v1 c
          ∧ r.2.mem ((c.tc : Thread Cert.Kernel2Ideal.nD Cert.Kernel2Ideal.τ).loc Cert.Kernel2Ideal.main_v157_2) = v2 c
          ∧ r.2.mem ((c.tc : Thread Cert.Kernel2Ideal.nD Cert.Kernel2Ideal.τ).loc Cert.Kernel2Ideal.main_v157_3) = v3 c
          ∧ r.2.mem ((c.tc : Thread Cert.Kernel2Ideal.nD Cert.Kernel2Ideal.τ).loc Cert.Kernel2Ideal.main_v157_4) = v4 c
          ∧ r.2.mem ((c.tc : Thread Cert.Kernel2Ideal.nD Cert.Kernel2Ideal.τ).loc Cert.Kernel2Ideal.main_v157_5) = v5 c
          ∧ r.2.mem ((c.tc : Thread Cert.Kernel2Ideal.nD Cert.Kernel2Ideal.τ).loc Cert.Kernel2Ideal.main_v157_6) = v6 c
          ∧ r.2.mem ((c.tc : Thread Cert.Kernel2Ideal.nD Cert.Kernel2Ideal.τ).loc Cert.Kernel2Ideal.main_v157_7) = v7 c
          ∧ r.2.mem ((c.tc : Thread Cert.Kernel2Ideal.nD Cert.Kernel2Ideal.τ).loc Cert.Kernel2Ideal.main_v157_8) = v8 c
          ∧ r.2.mem ((c.tc : Thread Cert.Kernel2Ideal.nD Cert.Kernel2Ideal.τ).loc Cert.Kernel2Ideal.main_v157_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v443) = v0 c
          ∧ r.2.mem ((c.tc : Thread Cert.Reference2Ideal.nD Cert.Reference2Ideal.τ).loc Cert.Reference2Ideal.main_v447) = v1 c
          ∧ r.2.mem ((c.tc : Thread Cert.Reference2Ideal.nD Cert.Reference2Ideal.τ).loc Cert.Reference2Ideal.main_v451) = v2 c
          ∧ r.2.mem ((c.tc : Thread Cert.Reference2Ideal.nD Cert.Reference2Ideal.τ).loc Cert.Reference2Ideal.main_v455) = v3 c
          ∧ r.2.mem ((c.tc : Thread Cert.Reference2Ideal.nD Cert.Reference2Ideal.τ).loc Cert.Reference2Ideal.main_v459) = v4 c
          ∧ r.2.mem ((c.tc : Thread Cert.Reference2Ideal.nD Cert.Reference2Ideal.τ).loc Cert.Reference2Ideal.main_v465) = v5 c
          ∧ r.2.mem ((c.tc : Thread Cert.Reference2Ideal.nD Cert.Reference2Ideal.τ).loc Cert.Reference2Ideal.main_v468) = v6 c
          ∧ r.2.mem ((c.tc : Thread Cert.Reference2Ideal.nD Cert.Reference2Ideal.τ).loc Cert.Reference2Ideal.main_v472) = v7 c
          ∧ r.2.mem ((c.tc : Thread Cert.Reference2Ideal.nD Cert.Reference2Ideal.τ).loc Cert.Reference2Ideal.main_v476) = v8 c
          ∧ r.2.mem ((c.tc : Thread Cert.Reference2Ideal.nD Cert.Reference2Ideal.τ).loc Cert.Reference2Ideal.main_v480) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_queries_keys : Cert.Pre_finite_queries_keys.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
-- ==== Pre_finite_queries_keys.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S_ : Shape := ⟨0, ![]⟩

class Facts : Prop where
  bcast_S_S8x4096x4x96 : S_.BroadcastsInDim S8x4096x4x96 (![] : Fin 0 → Fin S8x4096x4x96.rank)
  bcast_S_S8x256x4x96 : S_.BroadcastsInDim S8x256x4x96 (![] : Fin 0 → Fin S8x256x4x96.rank)

variable [Facts]

def fn {F : FTy → Type} [FloatOps F] (main_arg0 : FVec F S8x4096x4x96 .f32) (main_arg1 : FVec F S8x4096x4x96 .f32) (main_arg2 : FVec F S8x4096x4x64 .f32) (main_arg3 : FVec F S8x256x4x96 .f32) (main_arg4 : FVec F S8x256x4x96 .f32) (main_arg5 : FVec F S8x256x4x64 .f32) : IVec S8x4096x4x96 1 × IVec S8x4096x4x96 1 × IVec S8x256x4x96 1 × IVec S8x256x4x96 1 :=
  let main_v0 : FVec F S8x4096x4x96 .f32 := Host.absf main_arg0
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_v3 : FVec F S8x4096x4x96 .f32 := Host.absf main_arg1
  let main_cst_0 : FVec F S_ .f32 := constant S_ .f32 0x7F800000#32
  let main_v4 : FVec F S8x4096x4x96 .f32 := broadcastInDim S8x4096x4x96 ![] bcast_S_S8x4096x4x96 main_cst_0
  let main_v5 : IVec S8x4096x4x96 1 := cmpf .olt main_v3 main_v4
  let main_v6 : FVec F S8x256x4x96 .f32 := Host.absf main_arg3
  let main_cst_1 : FVec F S_ .f32 := constant S_ .f32 0x7F800000#32
  let main_v7 : FVec F S8x256x4x96 .f32 := broadcastInDim S8x256x4x96 ![] bcast_S_S8x256x4x96 main_cst_1
  let main_v8 : IVec S8x256x4x96 1 := cmpf .olt main_v6 main_v7
  let main_v9 : FVec F S8x256x4x96 .f32 := Host.absf main_arg4
  let main_cst_2 : FVec F S_ .f32 := constant S_ .f32 0x7F800000#32
  let main_v10 : FVec F S8x256x4x96 .f32 := broadcastInDim S8x256x4x96 ![] bcast_S_S8x256x4x96 main_cst_2
  let main_v11 : IVec S8x256x4x96 1 := cmpf .olt main_v9 main_v10
  (main_v2, main_v5, main_v8, main_v11)
-- ==== Kernel.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S1x1x512 : Shape := ⟨3, ![1, 1, 512]⟩
abbrev S_ : Shape := ⟨0, ![]⟩
abbrev S8x4352x4x96 : Shape := ⟨4, ![8, 4352, 4, 96]⟩
abbrev S8x4352x4x128 : Shape := ⟨4, ![8, 4352, 4, 128]⟩
abbrev S8x4352x512 : Shape := ⟨3, ![8, 4352, 512]⟩
abbrev S8x4352x4x64 : Shape := ⟨4, ![8, 4352, 4, 64]⟩
abbrev S1x256x512 : Shape := ⟨3, ![1, 256, 512]⟩
abbrev S1x4352x512 : Shape := ⟨3, ![1, 4352, 512]⟩
abbrev S1x128 : Shape := ⟨2, ![1, 128]⟩
abbrev S1x256x128 : Shape := ⟨3, ![1, 256, 128]⟩
abbrev S256x128 : Shape := ⟨2, ![256, 128]⟩
abbrev S1x4352x128 : Shape := ⟨3, ![1, 4352, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S256x256 : Shape := ⟨2, ![256, 256]⟩

abbrev nBuf : Space → Nat
  | .hbm => 54
  | .vmem => 8
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x96, .f32⟩
  | .hbm, ⟨5, _⟩ => ⟨S8x256x4x64, .f32⟩
  | .hbm, ⟨6, _⟩ => ⟨S1x1x512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S1x1x512, .i32⟩
  | .hbm, ⟨14, _⟩ => ⟨S1x1x512, .i32⟩
  | .hbm, ⟨15, _⟩ => ⟨S_, .i32⟩
  | .hbm, ⟨16, _⟩ => ⟨S1x1x512, .i32⟩
  | .hbm, ⟨17, _⟩ => ⟨S1x1x512, .i1⟩
  | .hbm, ⟨18, _⟩ => ⟨S_, .i32⟩
  | .hbm, ⟨19, _⟩ => ⟨S1x1x512, .i32⟩
  | .hbm, ⟨20, _⟩ => ⟨S1x1x512, .i1⟩
  | .hbm, ⟨21, _⟩ => ⟨S_, .i32⟩
  | .hbm, ⟨22, _⟩ => ⟨S_, .i1⟩
  | .hbm, ⟨23, _⟩ => ⟨S1x1x512, .i1⟩
  | .hbm, ⟨24, _⟩ => ⟨S1x1x512, .i1⟩
  | .hbm, ⟨25, _⟩ => ⟨S1x1x512, .i1⟩
  | .hbm, ⟨26, _⟩ => ⟨S1x1x512, .i32⟩
  | .hbm, ⟨27, _⟩ => ⟨S1x1x512, .i32⟩
  | .hbm, ⟨28, _⟩ => ⟨S1x1x512, .i32⟩
  | .hbm, ⟨29, _⟩ => ⟨S_, .i32⟩
  | .hbm, ⟨30, _⟩ => ⟨S1x1x512, .i32⟩
  | .hbm, ⟨31, _⟩ => ⟨S1x1x512, .i1⟩
  | .hbm, ⟨32, _⟩ => ⟨S1x1x512, .f32⟩
  | .hbm, ⟨33, _⟩ => ⟨S8x4352x4x96, .f32⟩
  | .hbm, ⟨34, _⟩ => ⟨S_, .i32⟩
  | .hbm, ⟨35, _⟩ => ⟨S_, .f32⟩
  | .hbm, ⟨36, _⟩ => ⟨S8x4352x4x128, .f32⟩
  | .hbm, ⟨37, _⟩ => ⟨S8x4352x512, .f32⟩
  | .hbm, ⟨38, _⟩ => ⟨S8x4352x512, .bf16⟩
  | .hbm, ⟨39, _⟩ => ⟨S8x4352x4x96, .f32⟩
  | .hbm, ⟨40, _⟩ => ⟨S_, .i32⟩
  | .hbm, ⟨41, _⟩ => ⟨S_, .f32⟩
  | .hbm, ⟨42, _⟩ => ⟨S8x4352x4x128, .f32⟩
  | .hbm, ⟨43, _⟩ => ⟨S8x4352x512, .f32⟩
  | .hbm, ⟨44, _⟩ => ⟨S8x4352x512, .bf16⟩
  | .hbm, ⟨45, _⟩ => ⟨S8x4352x4x64, .f32⟩
  | .hbm, ⟨46, _⟩ => ⟨S_, .i32⟩
  | .hbm, ⟨47, _⟩ => ⟨S_, .f32⟩
  | .hbm, ⟨48, _⟩ => ⟨S8x4352x4x128, .f32⟩
  | .hbm, ⟨49, _⟩ => ⟨S8x4352x512, .f32⟩
  | .hbm, ⟨50, _⟩ => ⟨S8x4352x512, .f32⟩
  | .hbm, ⟨51, _⟩ => ⟨S8x4352x512, .f32⟩
  | .hbm, ⟨52, _⟩ => ⟨S8x4352x512, .bf16⟩
  | .hbm, ⟨53, _⟩ => ⟨S8x4352x512, .f32⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x512, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x512, .f32⟩
  | .local _ .vmem, ⟨7, _⟩ => ⟨S1x256x512, .f32⟩
  | _, _ => ⟨S8x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c_2 : Ref sig .tc := ⟨.hbm, 40, rfl⟩
abbrev main_call2_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_3 : Ref sig .tc := ⟨.hbm, 46, rfl⟩
abbrev main_call3_v0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c1_i32 : BitVec 32 := 1#32
  let v0 : BitVec 1 := Scalar.cmpi .sge arg1 c1_i32
  let v2 : BitVec 32 := Scalar.extui v0
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c1_i32 : BitVec 32 := 1#32
  let v0 : BitVec 1 := Scalar.cmpi .sge arg1 c1_i32
  let v_true : BitVec 1 := 1#1
  let v4 : BitVec 1 := Scalar.xori v0 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S8x4x4096x4096 : Shape := ⟨4, ![8, 4, 4096, 4096]⟩
abbrev S_ : Shape := ⟨0, ![]⟩
abbrev S8x4x4096x256 : Shape := ⟨4, ![8, 4, 4096, 256]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4x64x256 : Shape := ⟨4, ![8, 4, 64, 256]⟩
abbrev S8x4352x4x64 : Shape := ⟨4, ![8, 4352, 4, 64]⟩
abbrev S8x4352x4x128 : Shape := ⟨4, ![8, 4352, 4, 128]⟩
abbrev S8x4352x512 : Shape := ⟨3, ![8, 4352, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x96, .f32⟩
  | .hbm, ⟨5, _⟩ => ⟨S8x256x4x64, .f32⟩
  | .hbm, ⟨6, _⟩ => ⟨S8x4x4096x4096, .f32⟩
  | .hbm, ⟨7, _⟩ => ⟨S_, .f32⟩
  | .hbm, ⟨8, _⟩ => ⟨S8x4x4096x4096, .f32⟩
  | .hbm, ⟨9, _⟩ => ⟨S8x4x4096x4096, .f32⟩
  | .hbm, ⟨10, _⟩ => ⟨S8x4x4096x256, .f32⟩
  | .hbm, ⟨11, _⟩ => ⟨S_, .f32⟩
  | .hbm, ⟨12, _⟩ => ⟨S8x4x4096x256, .f32⟩
  | .hbm, ⟨13, _⟩ => ⟨S8x4x4096x256, .f32⟩
  | .hbm, ⟨14, _⟩ => ⟨S8x4x4096x4352, .f32⟩
  | .hbm, ⟨15, _⟩ => ⟨S_, .f32⟩
  | .hbm, ⟨16, _⟩ => ⟨S8x4x4096, .f32⟩
  | .hbm, ⟨17, _⟩ => ⟨S_, .f32⟩
  | .hbm, ⟨18, _⟩ => ⟨S8x4x4096, .f32⟩
  | .hbm, ⟨19, _⟩ => ⟨S8x4x4096, .f32⟩
  | .hbm, ⟨20, _⟩ => ⟨S8x4x4096x1, .f32⟩
  | .hbm, ⟨21, _⟩ => ⟨S8x4x4096x4352, .f32⟩
  | .hbm, ⟨22, _⟩ => ⟨S8x4x4096x4352, .f32⟩
  | .hbm, ⟨23, _⟩ => ⟨S8x4x4096x4352, .f32⟩
  | .hbm, ⟨24, _⟩ => ⟨S_, .f32⟩
  | .hbm, ⟨25, _⟩ => ⟨S8x4x4096, .f32⟩
  | .hbm, ⟨26, _⟩ => ⟨S8x4x4096x1, .f32⟩
  | .hbm, ⟨27, _⟩ => ⟨S8x4x4096x4352, .f32⟩
  | .hbm, ⟨28, _⟩ => ⟨S8x4x4096x4352, .f32⟩
  | .hbm, ⟨29, _⟩ => ⟨S8x4x4096x4096, .f32⟩
  | .hbm, ⟨30, _⟩ => ⟨S8x4x64x4096, .f32⟩
  | .hbm, ⟨31, _⟩ => ⟨S8x4096x4x64, .f32⟩
  | .hbm, ⟨32, _⟩ => ⟨S8x4x4096x256, .f32⟩
  | .hbm, ⟨33, _⟩ => ⟨S8x4x64x4096, .f32⟩
  | .hbm, ⟨34, _⟩ => ⟨S8x4096x4x64, .f32⟩
  | .hbm, ⟨35, _⟩ => ⟨S8x4096x4x64, .f32⟩
  | .hbm, ⟨36, _⟩ => ⟨S8x4x256x256, .f32⟩
  | .hbm, ⟨37, _⟩ => ⟨S_, .f32⟩
  | .hbm, ⟨38, _⟩ => ⟨S8x4x256x256, .f32⟩
  | .hbm, ⟨39, _⟩ => ⟨S8x4x256x256, .f32⟩
  | .hbm, ⟨40, _⟩ => ⟨S_, .f32⟩
  | .hbm, ⟨41, _⟩ => ⟨S8x4x256, .f32⟩
  | .hbm, ⟨42, _⟩ => ⟨S_, .f32⟩
  | .hbm, ⟨43, _⟩ => ⟨S8x4x256, .f32⟩
  | .hbm, ⟨44, _⟩ => ⟨S8x4x256, .f32⟩
  | .hbm, ⟨45, _⟩ => ⟨S8x4x256x1, .f32⟩
  | .hbm, ⟨46, _⟩ => ⟨S8x4x256x256, .f32⟩
  | .hbm, ⟨47, _⟩ => ⟨S8x4x256x256, .f32⟩
  | .hbm, ⟨48, _⟩ => ⟨S8x4x256x256, .f32⟩
  | .hbm, ⟨49, _⟩ => ⟨S_, .f32⟩
  | .hbm, ⟨50, _⟩ => ⟨S8x4x256, .f32⟩
  | .hbm, ⟨51, _⟩ => ⟨S8x4x256x1, .f32⟩
  | .hbm, ⟨52, _⟩ => ⟨S8x4x256x256, .f32⟩
  | .hbm, ⟨53, _⟩ => ⟨S8x4x256x256, .f32⟩
  | .hbm, ⟨54, _⟩ => ⟨S8x4x64x256, .f32⟩
  | .hbm, ⟨55, _⟩ => ⟨S8x256x4x64, .f32⟩
  | .hbm, ⟨56, _⟩ => ⟨S8x4352x4x64, .f32⟩
  | .hbm, ⟨57, _⟩ => ⟨S_, .i32⟩
  | .hbm, ⟨58, _⟩ => ⟨S_, .f32⟩
  | .hbm, ⟨59, _⟩ => ⟨S8x4352x4x128, .f32⟩
  | .hbm, ⟨60, _⟩ => ⟨S8x4352x512, .f32⟩
  | _, _ => ⟨S8x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call0_v0 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x1888 : Shape := ⟨2, ![1024, 1888]⟩
abbrev S192 : Shape := ⟨1, ![192]⟩
abbrev S192x384 : Shape := ⟨2, ![192, 384]⟩
abbrev S128 : Shape := ⟨1, ![128]⟩
abbrev S128x512 : Shape := ⟨2, ![128, 512]⟩
abbrev S4096 : Shape := ⟨1, ![4096]⟩
abbrev S8x6x1024 : Shape := ⟨3, ![8, 6, 1024]⟩
abbrev S1x6x1024 : Shape := ⟨3, ![1, 6, 1024]⟩
abbrev S8x1x6x1024 : Shape := ⟨4, ![8, 1, 6, 1024]⟩
abbrev S8x2x6x1024 : Shape := ⟨4, ![8, 2, 6, 1024]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x0 : Shape := ⟨2, ![4096, 0]⟩
abbrev S4096x64 : Shape := ⟨2, ![4096, 64]⟩
abbrev S4096x128 : Shape := ⟨2, ![4096, 128]⟩
abbrev S1x4096x128 : Shape := ⟨3, ![1, 4096, 128]⟩
abbrev S3x4096x128 : Shape := ⟨3, ![3, 4096, 128]⟩
abbrev S256x128 : Shape := ⟨2, ![256, 128]⟩
abbrev S1x256x128 : Shape := ⟨3, ![1, 256, 128]⟩
abbrev S3x256x128 : Shape := ⟨3, ![3, 256, 128]⟩
abbrev S3x4352x128 : Shape := ⟨3, ![3, 4352, 128]⟩
abbrev S8 : Shape := ⟨1, ![8]⟩
abbrev S1x8 : Shape := ⟨2, ![1, 8]⟩
abbrev S4096x8 : Shape := ⟨2, ![4096, 8]⟩
abbrev S4096x32 : Shape := ⟨2, ![4096, 32]⟩
abbrev S32768x1024 : Shape := ⟨2, ![32768, 1024]⟩
abbrev S2048x1024 : Shape := ⟨2, ![2048, 1024]⟩
abbrev S34816x1024 : Shape := ⟨2, ![34816, 1024]⟩
abbrev S1024x256 : Shape := ⟨2, ![1024, 256]⟩
abbrev S1024x128 : Shape := ⟨2, ![1024, 128]⟩
abbrev S1024x192 : Shape := ⟨2, ![1024, 192]⟩
abbrev S1024x32 : Shape := ⟨2, ![1024, 32]⟩
abbrev S1024x64 : Shape := ⟨2, ![1024, 64]⟩
abbrev S1024x4x64 : Shape := ⟨3, ![1024, 4, 64]⟩
abbrev S1024x4x128 : Shape := ⟨3, ![1024, 4, 128]⟩
abbrev S1024x512 : Shape := ⟨2, ![1024, 512]⟩
abbrev S1024x2x64 : Shape := ⟨3, ![1024, 2, 64]⟩
abbrev S1024x2x128 : Shape := ⟨3, ![1024, 2, 128]⟩
abbrev S1024x3328 : Shape := ⟨2, ![1024, 3328]⟩
abbrev S192x4x96 : Shape := ⟨3, ![192, 4, 96]⟩
abbrev S192x4x128 : Shape := ⟨3, ![192, 4, 128]⟩
abbrev S192x512 : Shape := ⟨2, ![192, 512]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S128x1024 : Shape := ⟨2, ![128, 1024]⟩
abbrev S256 : Shape := ⟨1, ![256]⟩
abbrev S1x256 : Shape := ⟨2, ![1, 256]⟩
abbrev S1x128 : Shape := ⟨2, ![1, 128]⟩
abbrev S1x1024 : Shape := ⟨2, ![1, 1024]⟩
abbrev S8x4352x512 : Shape := ⟨3, ![8, 4352, 512]⟩
abbrev S8x4352x256 : Shape := ⟨3, ![8, 4352, 256]⟩
abbrev S4352x2048 : Shape := ⟨2, ![4352, 2048]⟩
abbrev S256x1024 : Shape := ⟨2, ![256, 1024]⟩
abbrev S1x1x6x1024 : Shape := ⟨4, ![1, 1, 6, 1024]⟩
abbrev S1x256x512 : Shape := ⟨3, ![1, 256, 512]⟩
abbrev S1x256x256 : Shape := ⟨3, ![1, 256, 256]⟩
abbrev S256x256 : Shape := ⟨2, ![256, 256]⟩
abbrev S6x1024 : Shape := ⟨2, ![6, 1024]⟩
abbrev S256x1 : Shape := ⟨2, ![256, 1]⟩
abbrev S256x3328 : Shape := ⟨2, ![256, 3328]⟩

abbrev nBuf : Space → Nat
  | .hbm => 229
  | .vmem => 34
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x1888, .f32⟩
  | 6 => ⟨S192, .f32⟩
  | 7 => ⟨S192x384, .f32⟩
  | 8 => ⟨S128, .f32⟩
  | 9 => ⟨S128x512, .f32⟩
  | 10 => ⟨S4096, .i32⟩
  | 11 => ⟨S4096, .i32⟩
  | 12 => ⟨S8x6x1024, .f32⟩
  | 13 => ⟨S1x6x1024, .f32⟩
  | 14 => ⟨S8x6x1024, .f32⟩
  | 15 => ⟨S8x1x6x1024, .f32⟩
  | 16 => ⟨S8x1x6x1024, .f32⟩
  | 17 => ⟨S8x2x6x1024, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4096, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096, .f32⟩
  | 33 => ⟨S4096x1, .f32⟩
  | 34 => ⟨S1x16, .f32⟩
  | 35 => ⟨S4096x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S_, .f32⟩
  | 43 => ⟨S4096x16, .f32⟩
  | 44 => ⟨S_, .f32⟩
  | 45 => ⟨S4096x0, .f32⟩
  | 46 => ⟨S_, .f32⟩
  | 47 => ⟨S4096x64, .f32⟩
  | 48 => ⟨S4096x128, .f32⟩
  | 49 => ⟨S_, .f32⟩
  | 50 => ⟨S4096x0, .f32⟩
  | 51 => ⟨S_, .f32⟩
  | 52 => ⟨S4096x64, .f32⟩
  | 53 => ⟨S4096x128, .f32⟩
  | 54 => ⟨S_, .f32⟩
  | 55 => ⟨S4096x0, .f32⟩
  | 56 => ⟨S4096x16, .f32⟩
  | 57 => ⟨S4096x16, .f32⟩
  | 58 => ⟨S_, .f32⟩
  | 59 => ⟨S4096x64, .f32⟩
  | 60 => ⟨S4096x128, .f32⟩
  | 61 => ⟨S1x4096x128, .f32⟩
  | 62 => ⟨S1x4096x128, .f32⟩
  | 63 => ⟨S1x4096x128, .f32⟩
  | 64 => ⟨S3x4096x128, .f32⟩
  | 65 => ⟨S_, .f32⟩
  | 66 => ⟨S256x128, .f32⟩
  | 67 => ⟨S_, .f32⟩
  | 68 => ⟨S256x128, .f32⟩
  | 69 => ⟨S_, .f32⟩
  | 70 => ⟨S256x128, .f32⟩
  | 71 => ⟨S1x256x128, .f32⟩
  | 72 => ⟨S1x256x128, .f32⟩
  | 73 => ⟨S1x256x128, .f32⟩
  | 74 => ⟨S3x256x128, .f32⟩
  | 75 => ⟨S3x4352x128, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S4096, .f32⟩
  | 85 => ⟨S4096x1, .f32⟩
  | 86 => ⟨S1x8, .f32⟩
  | 87 => ⟨S4096x8, .f32⟩
  | 88 => ⟨S4096x8, .f32⟩
  | 89 => ⟨S4096x8, .f32⟩
  | 90 => ⟨S4096, .f32⟩
  | 91 => ⟨S4096x1, .f32⟩
  | 92 => ⟨S1x8, .f32⟩
  | 93 => ⟨S4096x8, .f32⟩
  | 94 => ⟨S4096x8, .f32⟩
  | 95 => ⟨S4096x8, .f32⟩
  | 96 => ⟨S4096x8, .f32⟩
  | 97 => ⟨S4096x8, .f32⟩
  | 98 => ⟨S4096x8, .f32⟩
  | 99 => ⟨S4096x8, .f32⟩
  | 100 => ⟨S_, .f32⟩
  | 101 => ⟨S4096x8, .f32⟩
  | 102 => ⟨S_, .f32⟩
  | 103 => ⟨S4096x64, .f32⟩
  | 104 => ⟨S_, .f32⟩
  | 105 => ⟨S4096x32, .f32⟩
  | 106 => ⟨S4096x128, .f32⟩
  | 107 => ⟨S_, .f32⟩
  | 108 => ⟨S4096x64, .f32⟩
  | 109 => ⟨S_, .f32⟩
  | 110 => ⟨S4096x32, .f32⟩
  | 111 => ⟨S4096x128, .f32⟩
  | 112 => ⟨S_, .f32⟩
  | 113 => ⟨S4096x64, .f32⟩
  | 114 => ⟨S4096x8, .f32⟩
  | 115 => ⟨S4096x8, .f32⟩
  | 116 => ⟨S_, .f32⟩
  | 117 => ⟨S4096x32, .f32⟩
  | 118 => ⟨S4096x128, .f32⟩
  | 119 => ⟨S1x4096x128, .f32⟩
  | 120 => ⟨S1x4096x128, .f32⟩
  | 121 => ⟨S1x4096x128, .f32⟩
  | 122 => ⟨S3x4096x128, .f32⟩
  | 123 => ⟨S_, .f32⟩
  | 124 => ⟨S256x128, .f32⟩
  | 125 => ⟨S_, .f32⟩
  | 126 => ⟨S256x128, .f32⟩
  | 127 => ⟨S_, .f32⟩
  | _ => ⟨S8x4096x1024, .f32⟩

abbrev hbmTy0_1 (i : Nat) : BufTy := match i % 128 with
  | 0 => ⟨S256x128, .f32⟩
  | 1 => ⟨S1x256x128, .f32⟩
  | 2 => ⟨S1x256x128, .f32⟩
  | 3 => ⟨S1x256x128, .f32⟩
  | 4 => ⟨S3x256x128, .f32⟩
  | 5 => ⟨S3x4352x128, .f32⟩
  | 6 => ⟨S32768x1024, .f32⟩
  | 7 => ⟨S2048x1024, .f32⟩
  | 8 => ⟨S34816x1024, .f32⟩
  | 9 => ⟨S1024x256, .f32⟩
  | 10 => ⟨S1024x128, .f32⟩
  | 11 => ⟨S1024x128, .f32⟩
  | 12 => ⟨S1024x192, .f32⟩
  | 13 => ⟨S1024x128, .f32⟩
  | 14 => ⟨S1024x32, .f32⟩
  | 15 => ⟨S1024x256, .f32⟩
  | 16 => ⟨S1024x256, .f32⟩
  | 17 => ⟨S1024x256, .f32⟩
  | 18 => ⟨S1024x256, .f32⟩
  | 19 => ⟨S_, .f32⟩
  | 20 => ⟨S1024x64, .f32⟩
  | 21 => ⟨S_, .f32⟩
  | 22 => ⟨S1024x32, .f32⟩
  | 23 => ⟨S1024x128, .f32⟩
  | 24 => ⟨S1024x4x64, .f32⟩
  | 25 => ⟨S_, .i32⟩
  | 26 => ⟨S_, .f32⟩
  | 27 => ⟨S1024x4x128, .f32⟩
  | 28 => ⟨S1024x512, .f32⟩
  | 29 => ⟨S1024x2x64, .f32⟩
  | 30 => ⟨S_, .i32⟩
  | 31 => ⟨S_, .f32⟩
  | 32 => ⟨S1024x2x128, .f32⟩
  | 33 => ⟨S1024x256, .f32⟩
  | 34 => ⟨S1024x2x64, .f32⟩
  | 35 => ⟨S_, .i32⟩
  | 36 => ⟨S_, .f32⟩
  | 37 => ⟨S1024x2x128, .f32⟩
  | 38 => ⟨S1024x256, .f32⟩
  | 39 => ⟨S_, .i32⟩
  | 40 => ⟨S_, .f32⟩
  | 41 => ⟨S1024x256, .f32⟩
  | 42 => ⟨S1024x4x64, .f32⟩
  | 43 => ⟨S_, .i32⟩
  | 44 => ⟨S_, .f32⟩
  | 45 => ⟨S1024x4x128, .f32⟩
  | 46 => ⟨S1024x512, .f32⟩
  | 47 => ⟨S1024x4x64, .f32⟩
  | 48 => ⟨S_, .i32⟩
  | 49 => ⟨S_, .f32⟩
  | 50 => ⟨S1024x4x128, .f32⟩
  | 51 => ⟨S1024x512, .f32⟩
  | 52 => ⟨S1024x4x64, .f32⟩
  | 53 => ⟨S_, .i32⟩
  | 54 => ⟨S_, .f32⟩
  | 55 => ⟨S1024x4x128, .f32⟩
  | 56 => ⟨S1024x512, .f32⟩
  | 57 => ⟨S1024x3328, .f32⟩
  | 58 => ⟨S1024x3328, .bf16⟩
  | 59 => ⟨S192x4x96, .f32⟩
  | 60 => ⟨S_, .i32⟩
  | 61 => ⟨S_, .f32⟩
  | 62 => ⟨S192x4x128, .f32⟩
  | 63 => ⟨S192x512, .f32⟩
  | 64 => ⟨S_, .i32⟩
  | 65 => ⟨S_, .f32⟩
  | 66 => ⟨S256x512, .f32⟩
  | 67 => ⟨S256x512, .bf16⟩
  | 68 => ⟨S128x4x128, .f32⟩
  | 69 => ⟨S128x4x64, .f32⟩
  | 70 => ⟨S128x256, .f32⟩
  | 71 => ⟨S128x4x64, .f32⟩
  | 72 => ⟨S_, .i32⟩
  | 73 => ⟨S_, .f32⟩
  | 74 => ⟨S128x4x128, .f32⟩
  | 75 => ⟨S128x512, .f32⟩
  | 76 => ⟨S128x4x64, .f32⟩
  | 77 => ⟨S128x256, .f32⟩
  | 78 => ⟨S128x4x64, .f32⟩
  | 79 => ⟨S_, .i32⟩
  | 80 => ⟨S_, .f32⟩
  | 81 => ⟨S128x4x128, .f32⟩
  | 82 => ⟨S128x512, .f32⟩
  | 83 => ⟨S128x1024, .f32⟩
  | 84 => ⟨S128x1024, .bf16⟩
  | 85 => ⟨S_, .i32⟩
  | 86 => ⟨S_, .f32⟩
  | 87 => ⟨S256, .f32⟩
  | 88 => ⟨S1x256, .f32⟩
  | 89 => ⟨S1x128, .f32⟩
  | 90 => ⟨S1x1024, .f32⟩
  | 91 => ⟨S8x4352x512, .bf16⟩
  | 92 => ⟨S8x4352x256, .bf16⟩
  | 93 => ⟨S8x4352x256, .bf16⟩
  | 94 => ⟨S8x4352x512, .bf16⟩
  | 95 => ⟨S8x4352x512, .bf16⟩
  | 96 => ⟨S8x4352x512, .bf16⟩
  | 97 => ⟨S4352x2048, .f32⟩
  | 98 => ⟨S8x4352x512, .bf16⟩
  | 99 => ⟨S8x4352x512, .bf16⟩
  | 100 => ⟨S8x4352x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3328, .bf16⟩
  | .local _ .vmem, ⟨6, _⟩ => ⟨S3x256x128, .f32⟩
  | .local _ .vmem, ⟨7, _⟩ => ⟨S3x256x128, .f32⟩
  | .local _ .vmem, ⟨8, _⟩ => ⟨S3x256x128, .f32⟩
  | .local _ .vmem, ⟨9, _⟩ => ⟨S3x256x128, .f32⟩
  | .local _ .vmem, ⟨10, _⟩ => ⟨S1x256, .f32⟩
  | .local _ .vmem, ⟨11, _⟩ => ⟨S256x512, .bf16⟩
  | .local _ .vmem, ⟨12, _⟩ => ⟨S1x128, .f32⟩
  | .local _ .vmem, ⟨13, _⟩ => ⟨S128x1024, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x512, .bf16⟩
  | .local _ .vmem, ⟨21, _⟩ => ⟨S1x256x512, .bf16⟩
  | .local _ .vmem, ⟨22, _⟩ => ⟨S1x256x512, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S256x256, .f32⟩
  | .local _ .vmem, ⟨27, _⟩ => ⟨S256x256, .f32⟩
  | .local _ .vmem, ⟨28, _⟩ => ⟨S1x256x512, .bf16⟩
  | .local _ .vmem, ⟨29, _⟩ => ⟨S1x256x512, .bf16⟩
  | .local _ .vmem, ⟨30, _⟩ => ⟨S1x256x512, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_cst_21 : Ref sig .tc := ⟨.hbm, 125, rfl⟩
abbrev main_v91 : Ref sig .tc := ⟨.hbm, 126, rfl⟩
abbrev main_cst_22 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c : Ref sig .tc := ⟨.hbm, 153, rfl⟩
abbrev main_call0_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_25 : Ref sig .tc := ⟨.hbm, 158, rfl⟩
abbrev main_call1_v0 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_26 : Ref sig .tc := ⟨.hbm, 163, rfl⟩
abbrev main_call2_v0 : Ref sig .tc := ⟨.hbm, 164, rfl⟩
abbrev main_v121 : Ref sig .tc := ⟨.hbm, 165, rfl⟩
abbrev main_v122 : Ref sig .tc := ⟨.hbm, 166, rfl⟩
abbrev main_c_27 : Ref sig .tc := ⟨.hbm, 167, rfl⟩
abbrev main_call3_v0 : Ref sig .tc := ⟨.hbm, 168, rfl⟩
abbrev main_v123 : Ref sig .tc := ⟨.hbm, 169, rfl⟩
abbrev main_v124 : Ref sig .tc := ⟨.hbm, 170, rfl⟩
abbrev main_c_28 : Ref sig .tc := ⟨.hbm, 171, rfl⟩
abbrev main_call4_v0 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_29 : Ref sig .tc := ⟨.hbm, 176, rfl⟩
abbrev main_call5_v0 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_30 : Ref sig .tc := ⟨.hbm, 181, rfl⟩
abbrev main_call6_v0 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_31 : Ref sig .tc := ⟨.hbm, 188, rfl⟩
abbrev main_call7_v0 : Ref sig .tc := ⟨.hbm, 189, rfl⟩
abbrev main_v136 : Ref sig .tc := ⟨.hbm, 190, rfl⟩
abbrev main_v137 : Ref sig .tc := ⟨.hbm, 191, rfl⟩
abbrev main_c_32 : Ref sig .tc := ⟨.hbm, 192, rfl⟩
abbrev main_call8_v0 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_c_33 : Ref sig .tc := ⟨.hbm, 200, rfl⟩
abbrev main_call9_v0 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_34 : Ref sig .tc := ⟨.hbm, 207, rfl⟩
abbrev main_call10_v0 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_c_35 : Ref sig .tc := ⟨.hbm, 213, rfl⟩
abbrev main_call11_v0 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157_0 : Ref sig .tc := ⟨.hbm, 219, rfl⟩
abbrev main_v157_1 : Ref sig .tc := ⟨.hbm, 220, rfl⟩
abbrev main_v157_2 : Ref sig .tc := ⟨.hbm, 221, rfl⟩
abbrev main_v157_3 : Ref sig .tc := ⟨.hbm, 222, rfl⟩
abbrev main_v157_4 : Ref sig .tc := ⟨.hbm, 223, rfl⟩
abbrev main_v157_5 : Ref sig .tc := ⟨.hbm, 224, rfl⟩
abbrev main_v157_6 : Ref sig .tc := ⟨.hbm, 225, rfl⟩
abbrev main_v157_7 : Ref sig .tc := ⟨.hbm, 226, rfl⟩
abbrev main_v157_8 : Ref sig .tc := ⟨.hbm, 227, rfl⟩
abbrev main_v157_9 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c128_i32 : BitVec 32 := 128#32
  let v1 : BitVec 32 := Scalar.addi c128_i32 arg0
  let c16_i32 : BitVec 32 := 16#32
  let v2 : BitVec 32 := Scalar.muli arg0 c16_i32
  let v3 : BitVec 32 := Scalar.addi v2 arg1
  let c1_i32 : BitVec 32 := 1#32
  let v4 : BitVec 32 := Scalar.subi v3 c1_i32
  let v5 : BitVec 32 := Scalar.select v0 v1 v4
  let c0_i32_0 : BitVec 32 := 0#32
  let c0_i32_1 : BitVec 32 := 0#32
  ![v5.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S3x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel2Ideal.lean ====
variable {F : FTy → Type} [FloatOps F] [Named F]
def κ : String → Option EReal := fun
  | "inv192" => some ((192⁻¹ : ℝ) : EReal)
  | _ => none
-- ==== Reference2Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x1888 : Shape := ⟨2, ![1024, 1888]⟩
abbrev S192 : Shape := ⟨1, ![192]⟩
abbrev S192x384 : Shape := ⟨2, ![192, 384]⟩
abbrev S128 : Shape := ⟨1, ![128]⟩
abbrev S128x512 : Shape := ⟨2, ![128, 512]⟩
abbrev S4096 : Shape := ⟨1, ![4096]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1888 : Shape := ⟨3, ![8, 4096, 1888]⟩
abbrev S8x4096x256 : Shape := ⟨3, ![8, 4096, 256]⟩
abbrev S8x4096x128 : Shape := ⟨3, ![8, 4096, 128]⟩
abbrev S8x4096x192 : Shape := ⟨3, ![8, 4096, 192]⟩
abbrev S8x4096x32 : Shape := ⟨3, ![8, 4096, 32]⟩
abbrev S1x1x192 : Shape := ⟨3, ![1, 1, 192]⟩
abbrev S8x4096x384 : Shape := ⟨3, ![8, 4096, 384]⟩
abbrev S8x4096x4x96 : Shape := ⟨4, ![8, 4096, 4, 96]⟩
abbrev S8x4096x4x64 : Shape := ⟨4, ![8, 4096, 4, 64]⟩
abbrev S8x4096x4x32 : Shape := ⟨4, ![8, 4096, 4, 32]⟩
abbrev S8x4096x4x16 : Shape := ⟨4, ![8, 4096, 4, 16]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S8x4096x4x8 : Shape := ⟨4, ![8, 4096, 4, 8]⟩
abbrev S1x4096x1x8 : Shape := ⟨4, ![1, 4096, 1, 8]⟩
abbrev S1x1x128 : Shape := ⟨3, ![1, 1, 128]⟩
abbrev S8x4096x512 : Shape := ⟨3, ![8, 4096, 512]⟩
abbrev S8x4096x4x128 : Shape := ⟨4, ![8, 4096, 4, 128]⟩
abbrev S8x4096x1x32 : Shape := ⟨4, ![8, 4096, 1, 32]⟩
abbrev S8x4096x1x16 : Shape := ⟨4, ![8, 4096, 1, 16]⟩
abbrev S8x4096x1x8 : Shape := ⟨4, ![8, 4096, 1, 8]⟩
abbrev S16 : Shape := ⟨1, ![16]⟩
abbrev S1x16 : Shape := ⟨2, ![1, 16]⟩
abbrev S4096x16 : Shape := ⟨2, ![4096, 16]⟩
abbrev S4096x1x16 : Shape := ⟨3, ![4096, 1, 16]⟩
abbrev S1x4096x1x16 : Shape := ⟨4, ![1, 4096, 1, 16]⟩
abbrev S8x4096x2x64 : Shape := ⟨4, ![8, 4096, 2, 64]⟩
abbrev S8x4096x2x32 : Shape := ⟨4, ![8, 4096, 2, 32]⟩
abbrev S8x4096x2x16 : Shape := ⟨4, ![8, 4096, 2, 16]⟩
abbrev S8x256 : Shape := ⟨2, ![8, 256]⟩
abbrev S8x256x1 : Shape := ⟨3, ![8, 256, 1]⟩
abbrev S8x256x1888 : Shape := ⟨3, ![8, 256, 1888]⟩
abbrev S8x256x256 : Shape := ⟨3, ![8, 256, 256]⟩
abbrev S8x256x128 : Shape := ⟨3, ![8, 256, 128]⟩
abbrev S8x256x192 : Shape := ⟨3, ![8, 256, 192]⟩
abbrev S8x256x32 : Shape := ⟨3, ![8, 256, 32]⟩
abbrev S8x256x384 : Shape := ⟨3, ![8, 256, 384]⟩
abbrev S8x256x4x96 : Shape := ⟨4, ![8, 256, 4, 96]⟩
abbrev S8x256x4x64 : Shape := ⟨4, ![8, 256, 4, 64]⟩
abbrev S8x256x4x32 : Shape := ⟨4, ![8, 256, 4, 32]⟩
abbrev S8x256x512 : Shape := ⟨3, ![8, 256, 512]⟩
abbrev S8x256x4x128 : Shape := ⟨4, ![8, 256, 4, 128]⟩
abbrev S8x256x1x32 : Shape := ⟨4, ![8, 256, 1, 32]⟩
abbrev S8x256x2x64 : Shape := ⟨4, ![8, 256, 2, 64]⟩
abbrev S8x4352x4x64 : Shape := ⟨4, ![8, 4352, 4, 64]⟩
abbrev S8x4352x4x128 : Shape := ⟨4, ![8, 4352, 4, 128]⟩
abbrev S8x4352x512 : Shape := ⟨3, ![8, 4352, 512]⟩
abbrev S8x4352x2x64 : Shape := ⟨4, ![8, 4352, 2, 64]⟩
abbrev S8x4352x2x128 : Shape := ⟨4, ![8, 4352, 2, 128]⟩
abbrev S8x4352x256 : Shape := ⟨3, ![8, 4352, 256]⟩
abbrev S8x4352x4x96 : Shape := ⟨4, ![8, 4352, 4, 96]⟩
abbrev S8x4352x4x1 : Shape := ⟨4, ![8, 4352, 4, 1]⟩
abbrev S8x4352x4x65 : Shape := ⟨4, ![8, 4352, 4, 65]⟩
abbrev S4352x8x256 : Shape := ⟨3, ![4352, 8, 256]⟩
abbrev S4352x2048 : Shape := ⟨2, ![4352, 2048]⟩

abbrev nBuf : Space → Nat
  | .hbm => 552
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S6144, .f32⟩
  | 4 => ⟨S1024, .f32⟩
  | 5 => ⟨S1024x1888, .f32⟩
  | 6 => ⟨S192, .f32⟩
  | 7 => ⟨S192x384, .f32⟩
  | 8 => ⟨S128, .f32⟩
  | 9 => ⟨S128x512, .f32⟩
  | 10 => ⟨S4096, .i32⟩
  | 11 => ⟨S4096, .i32⟩
  | 12 => ⟨S8x1024, .f32⟩
  | 13 => ⟨S8x1x1024, .f32⟩
  | 14 => ⟨S8x1024, .f32⟩
  | 15 => ⟨S8x1x1024, .f32⟩
  | 16 => ⟨S1024, .f32⟩
  | 17 => ⟨S1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x1888, .f32⟩
  | 42 => ⟨S8x4096x256, .f32⟩
  | 43 => ⟨S8x4096x128, .f32⟩
  | 44 => ⟨S8x4096x128, .f32⟩
  | 45 => ⟨S8x4096x192, .f32⟩
  | 46 => ⟨S8x4096x128, .f32⟩
  | 47 => ⟨S8x4096x32, .f32⟩
  | 48 => ⟨S8x4096x256, .f32⟩
  | 49 => ⟨S8x4096x256, .f32⟩
  | 50 => ⟨S8x4096x256, .f32⟩
  | 51 => ⟨S8x4096x256, .f32⟩
  | 52 => ⟨S8x4096x192, .f32⟩
  | 53 => ⟨S_, .f32⟩
  | 54 => ⟨S8x4096, .f32⟩
  | 55 => ⟨S8x4096x1, .f32⟩
  | 56 => ⟨S_, .f32⟩
  | 57 => ⟨S8x4096x1, .f32⟩
  | 58 => ⟨S8x4096x1, .f32⟩
  | 59 => ⟨S_, .f32⟩
  | 60 => ⟨S8x4096x1, .f32⟩
  | 61 => ⟨S8x4096x1, .f32⟩
  | 62 => ⟨S8x4096x1, .f32⟩
  | 63 => ⟨S8x4096x192, .f32⟩
  | 64 => ⟨S8x4096x192, .f32⟩
  | 65 => ⟨S1x1x192, .f32⟩
  | 66 => ⟨S8x4096x192, .f32⟩
  | 67 => ⟨S8x4096x192, .f32⟩
  | 68 => ⟨S8x4096x384, .f32⟩
  | 69 => ⟨S8x4096x4x96, .f32⟩
  | 70 => ⟨S8x4096x4x64, .f32⟩
  | 71 => ⟨S8x4096x4x32, .f32⟩
  | 72 => ⟨S8x4096x4x16, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S4096, .f32⟩
  | 82 => ⟨S4096x1, .f32⟩
  | 83 => ⟨S1x8, .f32⟩
  | 84 => ⟨S4096x8, .f32⟩
  | 85 => ⟨S4096x8, .f32⟩
  | 86 => ⟨S4096x8, .f32⟩
  | 87 => ⟨S4096x8, .f32⟩
  | 88 => ⟨S4096x1x8, .f32⟩
  | 89 => ⟨S4096x8, .f32⟩
  | 90 => ⟨S4096x1x8, .f32⟩
  | 91 => ⟨S8x4096x4x8, .f32⟩
  | 92 => ⟨S8x4096x4x8, .f32⟩
  | 93 => ⟨S1x4096x1x8, .f32⟩
  | 94 => ⟨S8x4096x4x8, .f32⟩
  | 95 => ⟨S8x4096x4x8, .f32⟩
  | 96 => ⟨S1x4096x1x8, .f32⟩
  | 97 => ⟨S8x4096x4x8, .f32⟩
  | 98 => ⟨S8x4096x4x8, .f32⟩
  | 99 => ⟨S8x4096x4x8, .f32⟩
  | 100 => ⟨S1x4096x1x8, .f32⟩
  | 101 => ⟨S8x4096x4x8, .f32⟩
  | 102 => ⟨S8x4096x4x8, .f32⟩
  | 103 => ⟨S1x4096x1x8, .f32⟩
  | 104 => ⟨S8x4096x4x8, .f32⟩
  | 105 => ⟨S8x4096x4x8, .f32⟩
  | 106 => ⟨S8x4096x4x8, .f32⟩
  | 107 => ⟨S8x4096x4x16, .f32⟩
  | 108 => ⟨S8x4096x4x16, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S4096, .f32⟩
  | 118 => ⟨S4096x1, .f32⟩
  | 119 => ⟨S1x8, .f32⟩
  | 120 => ⟨S4096x8, .f32⟩
  | 121 => ⟨S4096x8, .f32⟩
  | 122 => ⟨S4096x8, .f32⟩
  | 123 => ⟨S4096x8, .f32⟩
  | 124 => ⟨S4096x1x8, .f32⟩
  | 125 => ⟨S4096x8, .f32⟩
  | 126 => ⟨S4096x1x8, .f32⟩
  | 127 => ⟨S8x4096x4x8, .f32⟩
  | _ => ⟨S8x4096x1024, .f32⟩

abbrev hbmTy0_1 (i : Nat) : BufTy := match i % 128 with
  | 0 => ⟨S8x4096x4x8, .f32⟩
  | 1 => ⟨S1x4096x1x8, .f32⟩
  | 2 => ⟨S8x4096x4x8, .f32⟩
  | 3 => ⟨S8x4096x4x8, .f32⟩
  | 4 => ⟨S1x4096x1x8, .f32⟩
  | 5 => ⟨S8x4096x4x8, .f32⟩
  | 6 => ⟨S8x4096x4x8, .f32⟩
  | 7 => ⟨S8x4096x4x8, .f32⟩
  | 8 => ⟨S1x4096x1x8, .f32⟩
  | 9 => ⟨S8x4096x4x8, .f32⟩
  | 10 => ⟨S8x4096x4x8, .f32⟩
  | 11 => ⟨S1x4096x1x8, .f32⟩
  | 12 => ⟨S8x4096x4x8, .f32⟩
  | 13 => ⟨S8x4096x4x8, .f32⟩
  | 14 => ⟨S8x4096x4x8, .f32⟩
  | 15 => ⟨S8x4096x4x16, .f32⟩
  | 16 => ⟨S8x4096x4x32, .f32⟩
  | 17 => ⟨S8x4096x4x96, .f32⟩
  | 18 => ⟨S8x4096x128, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x128, .f32⟩
  | 30 => ⟨S8x4096x128, .f32⟩
  | 31 => ⟨S1x1x128, .f32⟩
  | 32 => ⟨S8x4096x128, .f32⟩
  | 33 => ⟨S8x4096x128, .f32⟩
  | 34 => ⟨S8x4096x512, .f32⟩
  | 35 => ⟨S8x4096x4x128, .f32⟩
  | 36 => ⟨S8x4096x1x32, .f32⟩
  | 37 => ⟨S8x4096x1x16, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S4096, .f32⟩
  | 47 => ⟨S4096x1, .f32⟩
  | 48 => ⟨S1x8, .f32⟩
  | 49 => ⟨S4096x8, .f32⟩
  | 50 => ⟨S4096x8, .f32⟩
  | 51 => ⟨S4096x8, .f32⟩
  | 52 => ⟨S4096x8, .f32⟩
  | 53 => ⟨S4096x1x8, .f32⟩
  | 54 => ⟨S4096x8, .f32⟩
  | 55 => ⟨S4096x1x8, .f32⟩
  | 56 => ⟨S8x4096x1x8, .f32⟩
  | 57 => ⟨S8x4096x1x8, .f32⟩
  | 58 => ⟨S1x4096x1x8, .f32⟩
  | 59 => ⟨S8x4096x1x8, .f32⟩
  | 60 => ⟨S8x4096x1x8, .f32⟩
  | 61 => ⟨S1x4096x1x8, .f32⟩
  | 62 => ⟨S8x4096x1x8, .f32⟩
  | 63 => ⟨S8x4096x1x8, .f32⟩
  | 64 => ⟨S8x4096x1x8, .f32⟩
  | 65 => ⟨S1x4096x1x8, .f32⟩
  | 66 => ⟨S8x4096x1x8, .f32⟩
  | 67 => ⟨S8x4096x1x8, .f32⟩
  | 68 => ⟨S1x4096x1x8, .f32⟩
  | 69 => ⟨S8x4096x1x8, .f32⟩
  | 70 => ⟨S8x4096x1x8, .f32⟩
  | 71 => ⟨S8x4096x1x8, .f32⟩
  | 72 => ⟨S8x4096x1x16, .f32⟩
  | 73 => ⟨S8x4096x1x16, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S4096, .f32⟩
  | 83 => ⟨S4096x1, .f32⟩
  | 84 => ⟨S1x8, .f32⟩
  | 85 => ⟨S4096x8, .f32⟩
  | 86 => ⟨S4096x8, .f32⟩
  | 87 => ⟨S4096x8, .f32⟩
  | 88 => ⟨S4096x8, .f32⟩
  | 89 => ⟨S4096x1x8, .f32⟩
  | 90 => ⟨S4096x8, .f32⟩
  | 91 => ⟨S4096x1x8, .f32⟩
  | 92 => ⟨S8x4096x1x8, .f32⟩
  | 93 => ⟨S8x4096x1x8, .f32⟩
  | 94 => ⟨S1x4096x1x8, .f32⟩
  | 95 => ⟨S8x4096x1x8, .f32⟩
  | 96 => ⟨S8x4096x1x8, .f32⟩
  | 97 => ⟨S1x4096x1x8, .f32⟩
  | 98 => ⟨S8x4096x1x8, .f32⟩
  | 99 => ⟨S8x4096x1x8, .f32⟩
  | 100 => ⟨S8x4096x1x8, .f32⟩
  | 101 => ⟨S1x4096x1x8, .f32⟩
  | 102 => ⟨S8x4096x1x8, .f32⟩
  | 103 => ⟨S8x4096x1x8, .f32⟩
  | 104 => ⟨S1x4096x1x8, .f32⟩
  | 105 => ⟨S8x4096x1x8, .f32⟩
  | 106 => ⟨S8x4096x1x8, .f32⟩
  | 107 => ⟨S8x4096x1x8, .f32⟩
  | 108 => ⟨S8x4096x1x16, .f32⟩
  | 109 => ⟨S8x4096x1x32, .f32⟩
  | 110 => ⟨S8x4096x4x64, .f32⟩
  | 111 => ⟨S8x4096x4x32, .f32⟩
  | 112 => ⟨S8x4096x4x96, .f32⟩
  | 113 => ⟨S8x4096x4x64, .f32⟩
  | 114 => ⟨S8x4096x4x32, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S4096, .f32⟩
  | 124 => ⟨S4096x1, .f32⟩
  | 125 => ⟨S1x16, .f32⟩
  | 126 => ⟨S4096x16, .f32⟩
  | 127 => ⟨S4096x16, .f32⟩
  | _ => ⟨S8x4096x1024, .f32⟩

abbrev hbmTy0_2 (i : Nat) : BufTy := match i % 128 with
  | 0 => ⟨S4096x16, .f32⟩
  | 1 => ⟨S4096x16, .f32⟩
  | 2 => ⟨S4096x1x16, .f32⟩
  | 3 => ⟨S4096x16, .f32⟩
  | 4 => ⟨S4096x1x16, .f32⟩
  | 5 => ⟨S8x4096x4x16, .f32⟩
  | 6 => ⟨S8x4096x4x16, .f32⟩
  | 7 => ⟨S1x4096x1x16, .f32⟩
  | 8 => ⟨S8x4096x4x16, .f32⟩
  | 9 => ⟨S8x4096x4x16, .f32⟩
  | 10 => ⟨S1x4096x1x16, .f32⟩
  | 11 => ⟨S8x4096x4x16, .f32⟩
  | 12 => ⟨S8x4096x4x16, .f32⟩
  | 13 => ⟨S8x4096x4x16, .f32⟩
  | 14 => ⟨S1x4096x1x16, .f32⟩
  | 15 => ⟨S8x4096x4x16, .f32⟩
  | 16 => ⟨S8x4096x4x16, .f32⟩
  | 17 => ⟨S1x4096x1x16, .f32⟩
  | 18 => ⟨S8x4096x4x16, .f32⟩
  | 19 => ⟨S8x4096x4x16, .f32⟩
  | 20 => ⟨S8x4096x4x16, .f32⟩
  | 21 => ⟨S8x4096x4x32, .f32⟩
  | 22 => ⟨S8x4096x4x32, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S4096, .f32⟩
  | 32 => ⟨S4096x1, .f32⟩
  | 33 => ⟨S1x16, .f32⟩
  | 34 => ⟨S4096x16, .f32⟩
  | 35 => ⟨S4096x16, .f32⟩
  | 36 => ⟨S4096x16, .f32⟩
  | 37 => ⟨S4096x16, .f32⟩
  | 38 => ⟨S4096x1x16, .f32⟩
  | 39 => ⟨S4096x16, .f32⟩
  | 40 => ⟨S4096x1x16, .f32⟩
  | 41 => ⟨S8x4096x4x16, .f32⟩
  | 42 => ⟨S8x4096x4x16, .f32⟩
  | 43 => ⟨S1x4096x1x16, .f32⟩
  | 44 => ⟨S8x4096x4x16, .f32⟩
  | 45 => ⟨S8x4096x4x16, .f32⟩
  | 46 => ⟨S1x4096x1x16, .f32⟩
  | 47 => ⟨S8x4096x4x16, .f32⟩
  | 48 => ⟨S8x4096x4x16, .f32⟩
  | 49 => ⟨S8x4096x4x16, .f32⟩
  | 50 => ⟨S1x4096x1x16, .f32⟩
  | 51 => ⟨S8x4096x4x16, .f32⟩
  | 52 => ⟨S8x4096x4x16, .f32⟩
  | 53 => ⟨S1x4096x1x16, .f32⟩
  | 54 => ⟨S8x4096x4x16, .f32⟩
  | 55 => ⟨S8x4096x4x16, .f32⟩
  | 56 => ⟨S8x4096x4x16, .f32⟩
  | 57 => ⟨S8x4096x4x32, .f32⟩
  | 58 => ⟨S8x4096x4x64, .f32⟩
  | 59 => ⟨S_, .f32⟩
  | 60 => ⟨S8x4096x4x64, .f32⟩
  | 61 => ⟨S8x4096x4x64, .f32⟩
  | 62 => ⟨S8x4096x2x64, .f32⟩
  | 63 => ⟨S8x4096x2x32, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4096, .f32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S4096x16, .f32⟩
  | 79 => ⟨S4096x1x16, .f32⟩
  | 80 => ⟨S4096x16, .f32⟩
  | 81 => ⟨S4096x1x16, .f32⟩
  | 82 => ⟨S8x4096x2x16, .f32⟩
  | 83 => ⟨S8x4096x2x16, .f32⟩
  | 84 => ⟨S1x4096x1x16, .f32⟩
  | 85 => ⟨S8x4096x2x16, .f32⟩
  | 86 => ⟨S8x4096x2x16, .f32⟩
  | 87 => ⟨S1x4096x1x16, .f32⟩
  | 88 => ⟨S8x4096x2x16, .f32⟩
  | 89 => ⟨S8x4096x2x16, .f32⟩
  | 90 => ⟨S8x4096x2x16, .f32⟩
  | 91 => ⟨S1x4096x1x16, .f32⟩
  | 92 => ⟨S8x4096x2x16, .f32⟩
  | 93 => ⟨S8x4096x2x16, .f32⟩
  | 94 => ⟨S1x4096x1x16, .f32⟩
  | 95 => ⟨S8x4096x2x16, .f32⟩
  | 96 => ⟨S8x4096x2x16, .f32⟩
  | 97 => ⟨S8x4096x2x16, .f32⟩
  | 98 => ⟨S8x4096x2x32, .f32⟩
  | 99 => ⟨S8x4096x2x32, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S4096, .f32⟩
  | 109 => ⟨S4096x1, .f32⟩
  | 110 => ⟨S1x16, .f32⟩
  | 111 => ⟨S4096x16, .f32⟩
  | 112 => ⟨S4096x16, .f32⟩
  | 113 => ⟨S4096x16, .f32⟩
  | 114 => ⟨S4096x16, .f32⟩
  | 115 => ⟨S4096x1x16, .f32⟩
  | 116 => ⟨S4096x16, .f32⟩
  | 117 => ⟨S4096x1x16, .f32⟩
  | 118 => ⟨S8x4096x2x16, .f32⟩
  | 119 => ⟨S8x4096x2x16, .f32⟩
  | 120 => ⟨S1x4096x1x16, .f32⟩
  | 121 => ⟨S8x4096x2x16, .f32⟩
  | 122 => ⟨S8x4096x2x16, .f32⟩
  | 123 => ⟨S1x4096x1x16, .f32⟩
  | 124 => ⟨S8x4096x2x16, .f32⟩
  | 125 => ⟨S8x4096x2x16, .f32⟩
  | 126 => ⟨S8x4096x2x16, .f32⟩
  | 127 => ⟨S1x4096x1x16, .f32⟩
  | _ => ⟨S8x4096x1024, .f32⟩

abbrev hbmTy0_3 (i : Nat) : BufTy := match i % 128 with
  | 0 => ⟨S8x4096x2x16, .f32⟩
  | 1 => ⟨S8x4096x2x16, .f32⟩
  | 2 => ⟨S1x4096x1x16, .f32⟩
  | 3 => ⟨S8x4096x2x16, .f32⟩
  | 4 => ⟨S8x4096x2x16, .f32⟩
  | 5 => ⟨S8x4096x2x16, .f32⟩
  | 6 => ⟨S8x4096x2x32, .f32⟩
  | 7 => ⟨S8x4096x2x64, .f32⟩
  | 8 => ⟨S8x4096x2x64, .f32⟩
  | 9 => ⟨S8x4096x4x64, .f32⟩
  | 10 => ⟨S8x4096x4x64, .f32⟩
  | 11 => ⟨S_, .f32⟩
  | 12 => ⟨S8x4096x4x64, .f32⟩
  | 13 => ⟨S8x4096x4x64, .f32⟩
  | 14 => ⟨S8x4096x4x64, .f32⟩
  | 15 => ⟨S8x4096x4x64, .f32⟩
  | 16 => ⟨S8x256x1024, .f32⟩
  | 17 => ⟨S_, .f32⟩
  | 18 => ⟨S8x256, .f32⟩
  | 19 => ⟨S8x256x1, .f32⟩
  | 20 => ⟨S_, .f32⟩
  | 21 => ⟨S8x256x1, .f32⟩
  | 22 => ⟨S8x256x1, .f32⟩
  | 23 => ⟨S_, .f32⟩
  | 24 => ⟨S8x256x1, .f32⟩
  | 25 => ⟨S8x256x1, .f32⟩
  | 26 => ⟨S8x256x1, .f32⟩
  | 27 => ⟨S8x256x1024, .f32⟩
  | 28 => ⟨S8x256x1024, .f32⟩
  | 29 => ⟨S1x1x1024, .f32⟩
  | 30 => ⟨S8x256x1024, .f32⟩
  | 31 => ⟨S8x256x1024, .f32⟩
  | 32 => ⟨S_, .f32⟩
  | 33 => ⟨S1024, .f32⟩
  | 34 => ⟨S1024, .f32⟩
  | 35 => ⟨S1x1x1024, .f32⟩
  | 36 => ⟨S8x256x1024, .f32⟩
  | 37 => ⟨S8x256x1024, .f32⟩
  | 38 => ⟨S1x1x1024, .f32⟩
  | 39 => ⟨S8x256x1024, .f32⟩
  | 40 => ⟨S8x256x1024, .f32⟩
  | 41 => ⟨S8x256x1888, .f32⟩
  | 42 => ⟨S8x256x256, .f32⟩
  | 43 => ⟨S8x256x128, .f32⟩
  | 44 => ⟨S8x256x128, .f32⟩
  | 45 => ⟨S8x256x192, .f32⟩
  | 46 => ⟨S8x256x128, .f32⟩
  | 47 => ⟨S8x256x32, .f32⟩
  | 48 => ⟨S8x256x256, .f32⟩
  | 49 => ⟨S8x256x256, .f32⟩
  | 50 => ⟨S8x256x256, .f32⟩
  | 51 => ⟨S8x256x256, .f32⟩
  | 52 => ⟨S8x256x192, .f32⟩
  | 53 => ⟨S_, .f32⟩
  | 54 => ⟨S8x256, .f32⟩
  | 55 => ⟨S8x256x1, .f32⟩
  | 56 => ⟨S_, .f32⟩
  | 57 => ⟨S8x256x1, .f32⟩
  | 58 => ⟨S8x256x1, .f32⟩
  | 59 => ⟨S_, .f32⟩
  | 60 => ⟨S8x256x1, .f32⟩
  | 61 => ⟨S8x256x1, .f32⟩
  | 62 => ⟨S8x256x1, .f32⟩
  | 63 => ⟨S8x256x192, .f32⟩
  | 64 => ⟨S8x256x192, .f32⟩
  | 65 => ⟨S1x1x192, .f32⟩
  | 66 => ⟨S8x256x192, .f32⟩
  | 67 => ⟨S8x256x192, .f32⟩
  | 68 => ⟨S8x256x384, .f32⟩
  | 69 => ⟨S8x256x4x96, .f32⟩
  | 70 => ⟨S8x256x4x64, .f32⟩
  | 71 => ⟨S8x256x4x32, .f32⟩
  | 72 => ⟨S8x256x4x96, .f32⟩
  | 73 => ⟨S8x256x128, .f32⟩
  | 74 => ⟨S_, .f32⟩
  | 75 => ⟨S8x256, .f32⟩
  | 76 => ⟨S8x256x1, .f32⟩
  | 77 => ⟨S_, .f32⟩
  | 78 => ⟨S8x256x1, .f32⟩
  | 79 => ⟨S8x256x1, .f32⟩
  | 80 => ⟨S_, .f32⟩
  | 81 => ⟨S8x256x1, .f32⟩
  | 82 => ⟨S8x256x1, .f32⟩
  | 83 => ⟨S8x256x1, .f32⟩
  | 84 => ⟨S8x256x128, .f32⟩
  | 85 => ⟨S8x256x128, .f32⟩
  | 86 => ⟨S1x1x128, .f32⟩
  | 87 => ⟨S8x256x128, .f32⟩
  | 88 => ⟨S8x256x128, .f32⟩
  | 89 => ⟨S8x256x512, .f32⟩
  | 90 => ⟨S8x256x4x128, .f32⟩
  | 91 => ⟨S8x256x1x32, .f32⟩
  | 92 => ⟨S8x256x4x64, .f32⟩
  | 93 => ⟨S8x256x4x32, .f32⟩
  | 94 => ⟨S8x256x4x96, .f32⟩
  | 95 => ⟨S8x256x4x64, .f32⟩
  | 96 => ⟨S_, .f32⟩
  | 97 => ⟨S8x256x4x64, .f32⟩
  | 98 => ⟨S8x256x4x64, .f32⟩
  | 99 => ⟨S8x256x2x64, .f32⟩
  | 100 => ⟨S8x256x2x64, .f32⟩
  | 101 => ⟨S8x256x4x64, .f32⟩
  | 102 => ⟨S8x256x4x64, .f32⟩
  | 103 => ⟨S_, .f32⟩
  | 104 => ⟨S8x256x4x64, .f32⟩
  | 105 => ⟨S8x256x4x64, .f32⟩
  | 106 => ⟨S8x256x4x64, .f32⟩
  | 107 => ⟨S8x256x4x64, .f32⟩
  | 108 => ⟨S8x4352x4x64, .f32⟩
  | 109 => ⟨S_, .i32⟩
  | 110 => ⟨S_, .f32⟩
  | 111 => ⟨S8x4352x4x128, .f32⟩
  | 112 => ⟨S8x4352x512, .f32⟩
  | 113 => ⟨S8x4352x512, .bf16⟩
  | 114 => ⟨S8x4352x2x64, .f32⟩
  | 115 => ⟨S_, .i32⟩
  | 116 => ⟨S_, .f32⟩
  | 117 => ⟨S8x4352x2x128, .f32⟩
  | 118 => ⟨S8x4352x256, .f32⟩
  | 119 => ⟨S8x4352x256, .bf16⟩
  | 120 => ⟨S8x4352x2x64, .f32⟩
  | 121 => ⟨S_, .i32⟩
  | 122 => ⟨S_, .f32⟩
  | 123 => ⟨S8x4352x2x128, .f32⟩
  | 124 => ⟨S8x4352x256, .f32⟩
  | 125 => ⟨S8x4352x256, .bf16⟩
  | 126 => ⟨S8x4352x4x96, .f32⟩
  | 127 => ⟨S_, .i32⟩
  | _ => ⟨S8x4096x1024, .f32⟩

abbrev hbmTy0_4 (i : Nat) : BufTy := match i % 128 with
  | 0 => ⟨S_, .f32⟩
  | 1 => ⟨S8x4352x4x128, .f32⟩
  | 2 => ⟨S8x4352x512, .f32⟩
  | 3 => ⟨S8x4352x512, .bf16⟩
  | 4 => ⟨S8x4352x4x96, .f32⟩
  | 5 => ⟨S_, .i32⟩
  | 6 => ⟨S_, .f32⟩
  | 7 => ⟨S8x4352x4x128, .f32⟩
  | 8 => ⟨S8x4352x512, .f32⟩
  | 9 => ⟨S8x4352x512, .bf16⟩
  | 10 => ⟨S8x4352x4x64, .f32⟩
  | 11 => ⟨S_, .f32⟩
  | 12 => ⟨S8x4352x4x1, .f32⟩
  | 13 => ⟨S8x4352x4x65, .f32⟩
  | 14 => ⟨S_, .i32⟩
  | 15 => ⟨S_, .f32⟩
  | 16 => ⟨S8x4352x4x128, .f32⟩
  | 17 => ⟨S8x4352x512, .f32⟩
  | 18 => ⟨S8x4352x512, .bf16⟩
  | 19 => ⟨S8x4352x256, .f32⟩
  | 20 => ⟨S4352x8x256, .f32⟩
  | 21 => ⟨S4352x2048, .f32⟩
  | 22 => ⟨S8x4352x4x64, .f32⟩
  | 23 => ⟨S_, .i32⟩
  | 24 => ⟨S_, .f32⟩
  | 25 => ⟨S8x4352x4x128, .f32⟩
  | 26 => ⟨S8x4352x512, .f32⟩
  | 27 => ⟨S8x4352x512, .bf16⟩
  | 28 => ⟨S8x4352x4x64, .f32⟩
  | 29 => ⟨S_, .i32⟩
  | 30 => ⟨S_, .f32⟩
  | 31 => ⟨S8x4352x4x128, .f32⟩
  | 32 => ⟨S8x4352x512, .f32⟩
  | 33 => ⟨S8x4352x512, .bf16⟩
  | 34 => ⟨S8x4352x4x64, .f32⟩
  | 35 => ⟨S_, .i32⟩
  | 36 => ⟨S_, .f32⟩
  | 37 => ⟨S8x4352x4x128, .f32⟩
  | 38 => ⟨S8x4352x512, .f32⟩
  | 39 => ⟨S8x4352x512, .bf16⟩
  | _ => ⟨S8x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_8 : Ref sig .tc := ⟨.hbm, 111, rfl⟩
abbrev main_v90 : Ref sig .tc := ⟨.hbm, 112, rfl⟩
abbrev main_v91 : Ref sig .tc := ⟨.hbm, 113, rfl⟩
abbrev main_cst_9 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_10 : Ref sig .tc := ⟨.hbm, 147, rfl⟩
abbrev main_v124 : Ref sig .tc := ⟨.hbm, 148, rfl⟩
abbrev main_v125 : Ref sig .tc := ⟨.hbm, 149, rfl⟩
abbrev main_cst_11 : Ref sig .tc := ⟨.hbm, 150, rfl⟩
abbrev main_v126 : Ref sig .tc := ⟨.hbm, 151, rfl⟩
abbrev main_v127 : Ref sig .tc := ⟨.hbm, 152, rfl⟩
abbrev main_cst_12 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_13 : Ref sig .tc := ⟨.hbm, 168, rfl⟩
abbrev main_v142 : Ref sig .tc := ⟨.hbm, 169, rfl⟩
abbrev main_v143 : Ref sig .tc := ⟨.hbm, 170, rfl⟩
abbrev main_cst_14 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_cst_15 : Ref sig .tc := ⟨.hbm, 204, rfl⟩
abbrev main_v176 : Ref sig .tc := ⟨.hbm, 205, rfl⟩
abbrev main_v177 : Ref sig .tc := ⟨.hbm, 206, rfl⟩
abbrev main_cst_16 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_cst_17 : Ref sig .tc := ⟨.hbm, 245, rfl⟩
abbrev main_v215 : Ref sig .tc := ⟨.hbm, 246, rfl⟩
abbrev main_v216 : Ref sig .tc := ⟨.hbm, 247, rfl⟩
abbrev main_cst_18 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_cst_19 : Ref sig .tc := ⟨.hbm, 281, rfl⟩
abbrev main_v249 : Ref sig .tc := ⟨.hbm, 282, rfl⟩
abbrev main_v250 : Ref sig .tc := ⟨.hbm, 283, rfl⟩
abbrev main_cst_20 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_cst_21 : Ref sig .tc := ⟨.hbm, 315, rfl⟩
abbrev main_v281 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_cst_22 : Ref sig .tc := ⟨.hbm, 322, rfl⟩
abbrev main_v287 : Ref sig .tc := ⟨.hbm, 323, rfl⟩
abbrev main_v288 : Ref sig .tc := ⟨.hbm, 324, rfl⟩
abbrev main_cst_23 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_v314 : Ref sig .tc := ⟨.hbm, 351, rfl⟩
abbrev main_v315 : Ref sig .tc := ⟨.hbm, 352, rfl⟩
abbrev main_v316 : Ref sig .tc := ⟨.hbm, 353, rfl⟩
abbrev main_v317 : Ref sig .tc := ⟨.hbm, 354, rfl⟩
abbrev main_v318 : Ref sig .tc := ⟨.hbm, 355, rfl⟩
abbrev main_v319 : Ref sig .tc := ⟨.hbm, 356, rfl⟩
abbrev main_v320 : Ref sig .tc := ⟨.hbm, 357, rfl⟩
abbrev main_cst_24 : Ref sig .tc := ⟨.hbm, 358, rfl⟩
abbrev main_v321 : Ref sig .tc := ⟨.hbm, 359, rfl⟩
abbrev main_v322 : Ref sig .tc := ⟨.hbm, 360, rfl⟩
abbrev main_cst_25 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_v333 : Ref sig .tc := ⟨.hbm, 372, rfl⟩
abbrev main_v334 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_v339 : Ref sig .tc := ⟨.hbm, 378, rfl⟩
abbrev main_v340 : Ref sig .tc := ⟨.hbm, 379, rfl⟩
abbrev main_v341 : Ref sig .tc := ⟨.hbm, 380, rfl⟩
abbrev main_v342 : Ref sig .tc := ⟨.hbm, 381, rfl⟩
abbrev main_v343 : Ref sig .tc := ⟨.hbm, 382, rfl⟩
abbrev main_v344 : Ref sig .tc := ⟨.hbm, 383, rfl⟩
abbrev main_v345 : Ref sig .tc := ⟨.hbm, 384, rfl⟩
abbrev main_v346 : Ref sig .tc := ⟨.hbm, 385, rfl⟩
abbrev main_v347 : Ref sig .tc := ⟨.hbm, 386, rfl⟩
abbrev main_v348 : Ref sig .tc := ⟨.hbm, 387, rfl⟩
abbrev main_v349 : Ref sig .tc := ⟨.hbm, 388, rfl⟩
abbrev main_v350 : Ref sig .tc := ⟨.hbm, 389, rfl⟩
abbrev main_v351 : Ref sig .tc := ⟨.hbm, 390, rfl⟩
abbrev main_v352 : Ref sig .tc := ⟨.hbm, 391, rfl⟩
abbrev main_v353 : Ref sig .tc := ⟨.hbm, 392, rfl⟩
abbrev main_v354 : Ref sig .tc := ⟨.hbm, 393, rfl⟩
abbrev main_v355 : Ref sig .tc := ⟨.hbm, 394, rfl⟩
abbrev main_cst_26 : Ref sig .tc := ⟨.hbm, 395, rfl⟩
abbrev main_v356 : Ref sig .tc := ⟨.hbm, 396, rfl⟩
abbrev main_v357 : Ref sig .tc := ⟨.hbm, 397, rfl⟩
abbrev main_v358 : Ref sig .tc := ⟨.hbm, 398, rfl⟩
abbrev main_v359 : Ref sig .tc := ⟨.hbm, 399, rfl⟩
abbrev main_v360 : Ref sig .tc := ⟨.hbm, 400, rfl⟩
abbrev main_cst_27 : Ref sig .tc := ⟨.hbm, 401, rfl⟩
abbrev main_v361 : Ref sig .tc := ⟨.hbm, 402, rfl⟩
abbrev main_v362 : Ref sig .tc := ⟨.hbm, 403, rfl⟩
abbrev main_cst_28 : Ref sig .tc := ⟨.hbm, 404, rfl⟩
abbrev main_v363 : Ref sig .tc := ⟨.hbm, 405, rfl⟩
abbrev main_v364 : Ref sig .tc := ⟨.hbm, 406, rfl⟩
abbrev main_cst_29 : Ref sig .tc := ⟨.hbm, 407, rfl⟩
abbrev main_v365 : Ref sig .tc := ⟨.hbm, 408, rfl⟩
abbrev main_v366 : Ref sig .tc := ⟨.hbm, 409, rfl⟩
abbrev main_v367 : Ref sig .tc := ⟨.hbm, 410, rfl⟩
abbrev main_v368 : Ref sig .tc := ⟨.hbm, 411, rfl⟩
abbrev main_v369 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_cst_30 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_v378 : Ref sig .tc := ⟨.hbm, 422, rfl⟩
abbrev main_v379 : Ref sig .tc := ⟨.hbm, 423, rfl⟩
abbrev main_v380 : Ref sig .tc := ⟨.hbm, 424, rfl⟩
abbrev main_v381 : Ref sig .tc := ⟨.hbm, 425, rfl⟩
abbrev main_v382 : Ref sig .tc := ⟨.hbm, 426, rfl⟩
abbrev main_v383 : Ref sig .tc := ⟨.hbm, 427, rfl⟩
abbrev main_v384 : Ref sig .tc := ⟨.hbm, 428, rfl⟩
abbrev main_v385 : Ref sig .tc := ⟨.hbm, 429, rfl⟩
abbrev main_v386 : Ref sig .tc := ⟨.hbm, 430, rfl⟩
abbrev main_v387 : Ref sig .tc := ⟨.hbm, 431, rfl⟩
abbrev main_v388 : Ref sig .tc := ⟨.hbm, 432, rfl⟩
abbrev main_v389 : Ref sig .tc := ⟨.hbm, 433, rfl⟩
abbrev main_v390 : Ref sig .tc := ⟨.hbm, 434, rfl⟩
abbrev main_v391 : Ref sig .tc := ⟨.hbm, 435, rfl⟩
abbrev main_v392 : Ref sig .tc := ⟨.hbm, 436, rfl⟩
abbrev main_cst_31 : Ref sig .tc := ⟨.hbm, 437, rfl⟩
abbrev main_v393 : Ref sig .tc := ⟨.hbm, 438, rfl⟩
abbrev main_v394 : Ref sig .tc := ⟨.hbm, 439, rfl⟩
abbrev main_cst_32 : Ref sig .tc := ⟨.hbm, 440, rfl⟩
abbrev main_v395 : Ref sig .tc := ⟨.hbm, 441, rfl⟩
abbrev main_v396 : Ref sig .tc := ⟨.hbm, 442, rfl⟩
abbrev main_cst_33 : Ref sig .tc := ⟨.hbm, 443, rfl⟩
abbrev main_v397 : Ref sig .tc := ⟨.hbm, 444, rfl⟩
abbrev main_v398 : Ref sig .tc := ⟨.hbm, 445, rfl⟩
abbrev main_v399 : Ref sig .tc := ⟨.hbm, 446, rfl⟩
abbrev main_v400 : Ref sig .tc := ⟨.hbm, 447, rfl⟩
abbrev main_v401 : Ref sig .tc := ⟨.hbm, 448, rfl⟩
abbrev main_v402 : Ref sig .tc := ⟨.hbm, 449, rfl⟩
abbrev main_v403 : Ref sig .tc := ⟨.hbm, 450, rfl⟩
abbrev main_v404 : Ref sig .tc := ⟨.hbm, 451, rfl⟩
abbrev main_v405 : Ref sig .tc := ⟨.hbm, 452, rfl⟩
abbrev main_v406 : Ref sig .tc := ⟨.hbm, 453, rfl⟩
abbrev main_v407 : Ref sig .tc := ⟨.hbm, 454, rfl⟩
abbrev main_v408 : Ref sig .tc := ⟨.hbm, 455, rfl⟩
abbrev main_v409 : Ref sig .tc := ⟨.hbm, 456, rfl⟩
abbrev main_v410 : Ref sig .tc := ⟨.hbm, 457, rfl⟩
abbrev main_cst_34 : Ref sig .tc := ⟨.hbm, 458, rfl⟩
abbrev main_v411 : Ref sig .tc := ⟨.hbm, 459, rfl⟩
abbrev main_v412 : Ref sig .tc := ⟨.hbm, 460, rfl⟩
abbrev main_cst_35 : Ref sig .tc := ⟨.hbm, 461, rfl⟩
abbrev main_v413 : Ref sig .tc := ⟨.hbm, 462, rfl⟩
abbrev main_v414 : Ref sig .tc := ⟨.hbm, 463, rfl⟩
abbrev main_cst_36 : Ref sig .tc := ⟨.hbm, 464, rfl⟩
abbrev main_v415 : Ref sig .tc := ⟨.hbm, 465, rfl⟩
abbrev main_v416 : Ref sig .tc := ⟨.hbm, 466, rfl⟩
abbrev main_v417 : Ref sig .tc := ⟨.hbm, 467, rfl⟩
abbrev main_v418 : Ref sig .tc := ⟨.hbm, 468, rfl⟩
abbrev main_v419 : Ref sig .tc := ⟨.hbm, 469, rfl⟩
abbrev main_v420 : Ref sig .tc := ⟨.hbm, 470, rfl⟩
abbrev main_v421 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_v425 : Ref sig .tc := ⟨.hbm, 475, rfl⟩
abbrev main_v426 : Ref sig .tc := ⟨.hbm, 476, rfl⟩
abbrev main_v427 : Ref sig .tc := ⟨.hbm, 477, rfl⟩
abbrev main_v428 : Ref sig .tc := ⟨.hbm, 478, rfl⟩
abbrev main_v429 : Ref sig .tc := ⟨.hbm, 479, rfl⟩
abbrev main_cst_37 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_cst_38 : Ref sig .tc := ⟨.hbm, 487, rfl⟩
abbrev main_v436 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_c : Ref sig .tc := ⟨.hbm, 493, rfl⟩
abbrev main_call0_v0 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩
abbrev main_v444 : Ref sig .tc := ⟨.hbm, 498, rfl⟩
abbrev main_c_39 : Ref sig .tc := ⟨.hbm, 499, rfl⟩
abbrev main_call1_v0 : Ref sig .tc := ⟨.hbm, 500, rfl⟩
abbrev main_v445 : Ref sig .tc := ⟨.hbm, 501, rfl⟩
abbrev main_v446 : Ref sig .tc := ⟨.hbm, 502, rfl⟩
abbrev main_v447 : Ref sig .tc := ⟨.hbm, 503, rfl⟩
abbrev main_v448 : Ref sig .tc := ⟨.hbm, 504, rfl⟩
abbrev main_c_40 : Ref sig .tc := ⟨.hbm, 505, rfl⟩
abbrev main_call2_v0 : Ref sig .tc := ⟨.hbm, 506, rfl⟩
abbrev main_v449 : Ref sig .tc := ⟨.hbm, 507, rfl⟩
abbrev main_v450 : Ref sig .tc := ⟨.hbm, 508, rfl⟩
abbrev main_v451 : Ref sig .tc := ⟨.hbm, 509, rfl⟩
abbrev main_v452 : Ref sig .tc := ⟨.hbm, 510, rfl⟩
abbrev main_c_41 : Ref sig .tc := ⟨.hbm, 511, rfl⟩
abbrev main_call3_v0 : Ref sig .tc := ⟨.hbm, 512, rfl⟩
abbrev main_v453 : Ref sig .tc := ⟨.hbm, 513, rfl⟩
abbrev main_v454 : Ref sig .tc := ⟨.hbm, 514, rfl⟩
abbrev main_v455 : Ref sig .tc := ⟨.hbm, 515, rfl⟩
abbrev main_v456 : Ref sig .tc := ⟨.hbm, 516, rfl⟩
abbrev main_c_42 : Ref sig .tc := ⟨.hbm, 517, rfl⟩
abbrev main_call4_v0 : Ref sig .tc := ⟨.hbm, 518, rfl⟩
abbrev main_v457 : Ref sig .tc := ⟨.hbm, 519, rfl⟩
abbrev main_v458 : Ref sig .tc := ⟨.hbm, 520, rfl⟩
abbrev main_v459 : Ref sig .tc := ⟨.hbm, 521, rfl⟩
abbrev main_v460 : Ref sig .tc := ⟨.hbm, 522, rfl⟩
abbrev main_cst_43 : Ref sig .tc := ⟨.hbm, 523, rfl⟩
abbrev main_v461 : Ref sig .tc := ⟨.hbm, 524, rfl⟩
abbrev main_v462 : Ref sig .tc := ⟨.hbm, 525, rfl⟩
abbrev main_c_44 : Ref sig .tc := ⟨.hbm, 526, rfl⟩
abbrev main_call5_v0 : Ref sig .tc := ⟨.hbm, 527, rfl⟩
abbrev main_v463 : Ref sig .tc := ⟨.hbm, 528, rfl⟩
abbrev main_v464 : Ref sig .tc := ⟨.hbm, 529, rfl⟩
abbrev main_v465 : Ref sig .tc := ⟨.hbm, 530, rfl⟩
abbrev main_v466 : Ref sig .tc := ⟨.hbm, 531, rfl⟩
abbrev main_v467 : Ref sig .tc := ⟨.hbm, 532, rfl⟩
abbrev main_v468 : Ref sig .tc := ⟨.hbm, 533, rfl⟩
abbrev main_v469 : Ref sig .tc := ⟨.hbm, 534, rfl⟩
abbrev main_c_45 : Ref sig .tc := ⟨.hbm, 535, rfl⟩
abbrev main_call6_v0 : Ref sig .tc := ⟨.hbm, 536, rfl⟩
abbrev main_v470 : Ref sig .tc := ⟨.hbm, 537, rfl⟩
abbrev main_v471 : Ref sig .tc := ⟨.hbm, 538, rfl⟩
abbrev main_v472 : Ref sig .tc := ⟨.hbm, 539, rfl⟩
abbrev main_v473 : Ref sig .tc := ⟨.hbm, 540, rfl⟩
abbrev main_c_46 : Ref sig .tc := ⟨.hbm, 541, rfl⟩
abbrev main_call7_v0 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_c_47 : Ref sig .tc := ⟨.hbm, 547, rfl⟩
abbrev main_call8_v0 : Ref sig .tc := ⟨.hbm, 548, rfl⟩
abbrev main_v478 : Ref sig .tc := ⟨.hbm, 549, rfl⟩
abbrev main_v479 : Ref sig .tc := ⟨.hbm, 550, rfl⟩
abbrev main_v480 : Ref sig .tc := ⟨.hbm, 551, rfl⟩

abbrev nD : Nat := 1
abbrev τ : Topo := Topo.v7x

variable {F : FTy → Type} [FloatOps F]
-- ==== Proof.Mla.Softmax.lean ====
/- Extended-real lemmas of one softmax row: a weighted mean with real scores, normalised after the sum or before it. -/
module

public import Idealize.ShloMosaic.PureOps.Ideal
public import Idealize.ShloMosaic.PureOps.Ideal.Laws

@[expose] public section

noncomputable section

namespace Cert.Mla

open Idealize.ShloMosaic

/-- A value that is a real number. -/
def IsReal (x : EReal) : Prop := ∃ r : ℝ, x = (r : EReal)

/-- A product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The extended real of a finite sum of real numbers is the sum of the extended reals. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A finite sum of real numbers is real. -/
theorem IsReal.sum {ι : Type} (t : Finset ι) {f : ι → EReal} (h : ∀ i, IsReal (f i)) : IsReal (∑ i ∈ t, f i) := by
  choose g hg using h
  refine ⟨∑ i ∈ t, g i, ?_⟩
  rw [coe_sum]
  exact Finset.sum_congr rfl fun i _ => hg i

/-- Multiplication by a real number that is not negative goes through a finite sum of extended reals. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The largest of finitely many real scores, one at least, is one of them. -/
theorem fold_max_real {ι : Type} [Fintype ι] [Nonempty ι] (s : ι → EReal) (hs : ∀ i, IsReal (s i)) :
    IsReal (Finset.univ.fold max ⊥ s) := by
  obtain ⟨i, -, hi⟩ := Finset.exists_max_image Finset.univ s Finset.univ_nonempty
  have h : Finset.univ.fold max ⊥ s = s i := by
    apply le_antisymm
    · rw [Finset.fold_max_le]
      exact ⟨bot_le, fun x hx => hi x hx⟩
    · rw [Finset.le_fold_max]
      exact .inr ⟨i, Finset.mem_univ i, le_rfl⟩
  rw [h]
  exact hs i

/-- The unnormalised weight of one key: the exponential of its score less the largest score. -/
def weight {ι : Type} [Fintype ι] (s : ι → EReal) (i : ι) : EReal := Ideal.exp (s i - Finset.univ.fold max ⊥ s)

/-- With real scores every weight is a positive real number. -/
theorem weight_real {ι : Type} [Fintype ι] [Nonempty ι] (s : ι → EReal) (hs : ∀ i, IsReal (s i)) (i : ι) :
    ∃ r : ℝ, 0 < r ∧ weight s i = (r : EReal) := by
  obtain ⟨m, hm⟩ := fold_max_real s hs
  obtain ⟨a, ha⟩ := hs i
  refine ⟨Real.exp (a - m), Real.exp_pos _, ?_⟩
  rw [weight, hm, ha, ← EReal.coe_sub, Ideal.exp_coe]

/-- With real scores the weighted sum times the reciprocal of the total weight is the sum weighted by the quotients. -/
theorem normalise {ι : Type} [Fintype ι] [Nonempty ι] (s : ι → EReal) (hs : ∀ i, IsReal (s i)) (v : ι → EReal) :
    (∑ i, weight s i * v i) * Ideal.div 1 (∑ i, weight s i)
      = ∑ i, Ideal.div (weight s i) (∑ j, weight s j) * v i := by
  choose w hpos hw using weight_real s hs
  have hZ : (∑ i, weight s i) = ((∑ i, w i : ℝ) : EReal) := by
    rw [coe_sum]
    exact Finset.sum_congr rfl fun i _ => hw i
  have hZpos : 0 < ∑ i, w i := Finset.sum_pos (fun i _ => hpos i) Finset.univ_nonempty
  rw [hZ, Ideal.div_coe hZpos.ne', one_mul, sum_mul_real _ _ (by positivity)]
  refine Finset.sum_congr rfl fun i _ => ?_
  rw [Ideal.div_coe hZpos.ne', mul_right_comm]

/-- The largest score is the same in any order of the keys. -/
theorem fold_max_equiv {ι κ : Type} [Fintype ι] [Fintype κ] (e : ι ≃ κ) (s : κ → EReal) :
    Finset.univ.fold max ⊥ (fun i => s (e i)) = Finset.univ.fold max ⊥ s := by
  apply le_antisymm
  · rw [Finset.fold_max_le]
    exact ⟨bot_le, fun i _ => Finset.le_fold_max _ |>.mpr (.inr ⟨e i, Finset.mem_univ _, le_rfl⟩)⟩
  · rw [Finset.fold_max_le]
    exact ⟨bot_le, fun k _ => Finset.le_fold_max _ |>.mpr (.inr ⟨e.symm k, Finset.mem_univ _, by simp⟩)⟩

end Cert.Mla

end
-- ==== Proof.Mla.Head.lean ====
/- What one grid point of the attention kernel computes: each head's stored value, over the loaded rows. -/
module

public import proofs.«01_k».proof.Proof.Gen.KernelIdeal.Value
public import proofs.«01_k».proof.Proof.Mla.Softmax
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Mla

/-- The scaled product of a query and a key, each a row of 128 lanes. -/
def score (q k : Fin 128 → EReal) : EReal := (∑ d, q d * k d) * Ideal.ofBits .f32 0x3DD105EC#32

/-- One head's result for one query in lane `l`: the weighted sum of the values over the keys, times the reciprocal of
    the weighted sum of lane 64; zero past the value lanes. -/
def headOut {n : ℕ} (q : Fin 128 → EReal) (k v : Fin n → Fin 128 → EReal) (l : Fin 128) : EReal :=
  if (l : ℕ) < 64 then
    (∑ j, weight (fun j => score q (k j)) j * v j l) * Ideal.div 1 (∑ j, weight (fun j => score q (k j)) j * v j 64)
  else 0

/-- The word of negative infinity is the least extended real. -/
theorem ofBits_neg_inf : Ideal.ofBits .f32 0xFF800000#32 = ⊥ := by
  simp [Ideal.ofBits, Ideal.ieee]

end Cert.Mla

namespace Cert.KernelIdeal.Mla

open Cert.KernelIdeal Cert.KernelIdeal.Gen Cert.Mla

/-- Head 0's stored value over 4352 keys. -/
theorem late0 (q : FVec Ideal S1x256x128 .bf16) (k v : FVec Ideal S1x4352x128 .bf16) (r : Fin 256) (l : Fin 128) :
    k0_pay5 (F := Ideal) (k0_pay4 (F := Ideal) (iota Kind.tc S1x128 32 [1] iota_S1x128_d1_w32) q k v) (ix3 0 r l)
      = headOut (fun d => q (ix3 0 r d)) (fun j d => k (ix3 0 j d)) (fun j d => v (ix3 0 j d)) l := by
  unfold headOut weight score
  rw [← ofBits_neg_inf]
  pointwise [k0_pay5, k0_pay4]
  word_cmp

/-- Head 1's stored value over 4352 keys. -/
theorem late1 (q : FVec Ideal S1x256x128 .bf16) (k v : FVec Ideal S1x4352x128 .bf16) (r : Fin 256) (l : Fin 128) :
    k0_pay7 (F := Ideal) (iota Kind.tc S1x128 32 [1] iota_S1x128_d1_w32) (k0_pay3 (F := Ideal) q k) v (ix3 0 r l)
      = headOut (fun d => q (ix3 0 r d)) (fun j d => k (ix3 0 j d)) (fun j d => v (ix3 0 j d)) l := by
  unfold headOut weight score
  rw [← ofBits_neg_inf]
  pointwise [k0_pay7, k0_pay3]
  word_cmp

/-- Head 2's stored value over 4352 keys. -/
theorem late2 (q : FVec Ideal S1x256x128 .bf16) (k v : FVec Ideal S1x4352x128 .bf16) (r : Fin 256) (l : Fin 128) :
    k0_pay9 (F := Ideal) (iota Kind.tc S1x128 32 [1] iota_S1x128_d1_w32) (k0_pay6 (F := Ideal) q k) v (ix3 0 r l)
      = headOut (fun d => q (ix3 0 r d)) (fun j d => k (ix3 0 j d)) (fun j d => v (ix3 0 j d)) l := by
  unfold headOut weight score
  rw [← ofBits_neg_inf]
  pointwise [k0_pay9, k0_pay6]
  word_cmp

/-- Head 3's stored value over 4352 keys. -/
theorem late3 (q : FVec Ideal S1x256x128 .bf16) (k v : FVec Ideal S1x4352x128 .bf16) (r : Fin 256) (l : Fin 128) :
    k0_pay1 (F := Ideal) (k0_pay10 (F := Ideal) (k0_pay8 (F := Ideal) q) k v) (k0_pay11 (F := Ideal) (k0_pay8 (F := Ideal) q) k v) (ix3 0 r l)
      = headOut (fun d => q (ix3 0 r d)) (fun j d => k (ix3 0 j d)) (fun j d => v (ix3 0 j d)) l := by
  unfold headOut weight score
  rw [← ofBits_neg_inf]
  pointwise [k0_pay1, k0_pay10, k0_pay11, k0_pay8]
  word_cmp

/-- Head 0's stored value over 256 keys. -/
theorem early0 (q : FVec Ideal S1x256x128 .bf16) (k v : FVec Ideal S1x256x128 .bf16) (r : Fin 256) (l : Fin 128) :
    k0_pay14 (F := Ideal) (k0_pay13 (F := Ideal) (iota Kind.tc S1x128 32 [1] iota_S1x128_d1_w32) q k v) (ix3 0 r l)
      = headOut (fun d => q (ix3 0 r d)) (fun j d => k (ix3 0 j d)) (fun j d => v (ix3 0 j d)) l := by
  unfold headOut weight score
  rw [← ofBits_neg_inf]
  pointwise [k0_pay14, k0_pay13]
  word_cmp

/-- Head 1's stored value over 256 keys. -/
theorem early1 (q : FVec Ideal S1x256x128 .bf16) (k v : FVec Ideal S1x256x128 .bf16) (r : Fin 256) (l : Fin 128) :
    k0_pay16 (F := Ideal) (iota Kind.tc S1x128 32 [1] iota_S1x128_d1_w32) (k0_pay12 (F := Ideal) q k) v (ix3 0 r l)
      = headOut (fun d => q (ix3 0 r d)) (fun j d => k (ix3 0 j d)) (fun j d => v (ix3 0 j d)) l := by
  unfold headOut weight score
  rw [← ofBits_neg_inf]
  pointwise [k0_pay16, k0_pay12]
  word_cmp

/-- Head 2's stored value over 256 keys. -/
theorem early2 (q : FVec Ideal S1x256x128 .bf16) (k v : FVec Ideal S1x256x128 .bf16) (r : Fin 256) (l : Fin 128) :
    k0_pay18 (F := Ideal) (iota Kind.tc S1x128 32 [1] iota_S1x128_d1_w32) (k0_pay15 (F := Ideal) q k) v (ix3 0 r l)
      = headOut (fun d => q (ix3 0 r d)) (fun j d => k (ix3 0 j d)) (fun j d => v (ix3 0 j d)) l := by
  unfold headOut weight score
  rw [← ofBits_neg_inf]
  pointwise [k0_pay18, k0_pay15]
  word_cmp

/-- Head 3's stored value over 256 keys. -/
theorem early3 (q : FVec Ideal S1x256x128 .bf16) (k v : FVec Ideal S1x256x128 .bf16) (r : Fin 256) (l : Fin 128) :
    k0_pay2 (F := Ideal) (k0_pay19 (F := Ideal) (k0_pay17 (F := Ideal) q) k v) (k0_pay20 (F := Ideal) (k0_pay17 (F := Ideal) q) k v) (ix3 0 r l)
      = headOut (fun d => q (ix3 0 r d)) (fun j d => k (ix3 0 j d)) (fun j d => v (ix3 0 j d)) l := by
  unfold headOut weight score
  rw [← ofBits_neg_inf]
  pointwise [k0_pay2, k0_pay19, k0_pay20, k0_pay17]
  word_cmp

end Cert.KernelIdeal.Mla

end
-- ==== Proof.Mla.Heads.lean ====
/- A head's result as the plain softmax sum, for rows padded with zeros and a value lane of ones. -/
module

public import proofs.«01_k».proof.Proof.Mla.Head

@[expose] public section

set_option maxRecDepth 16384

noncomputable section

open Idealize.ShloMosaic

namespace Cert.Mla

/-- A row of 96 numbers padded with zeros to 128 lanes. -/
def wide (f : Fin 96 → EReal) (d : Fin 128) : EReal := if h : (d : ℕ) < 96 then f ⟨d, h⟩ else 0

/-- A row of 64 values, a one in lane 64 and zeros after it. -/
def tagged (f : Fin 64 → EReal) (d : Fin 128) : EReal :=
  (if h : (d : ℕ) < 64 then f ⟨d, h⟩ else 0) + if (d : ℕ) = 64 then 1 else 0

/-- The product of two padded rows is the product of the rows. -/
theorem score_wide (f g : Fin 96 → EReal) :
    score (wide f) (wide g) = (∑ d, f d * g d) * Ideal.ofBits .f32 0x3DD105EC#32 := by
  unfold score
  congr 1
  rw [show (∑ d : Fin 128, wide f d * wide g d) = ∑ d : Fin (96 + 32), wide f d * wide g d from rfl, Fin.sum_univ_add]
  have h1 : ∀ d : Fin 32, wide f (Fin.natAdd 96 d) * wide g (Fin.natAdd 96 d) = 0 := by
    intro d
    simp [wide]
  have h0 : ∀ d : Fin 96, wide f (Fin.castAdd 32 d) * wide g (Fin.castAdd 32 d) = f d * g d := by
    intro d
    simp [wide]
  rw [Finset.sum_congr rfl fun d _ => h0 d, Finset.sum_congr rfl fun d _ => h1 d, Finset.sum_const_zero, add_zero]

/-- The scale is a real number. -/
theorem scale_real : IsReal (Ideal.ofBits .f32 0x3DD105EC#32) := by
  unfold Ideal.ofBits Ideal.ieee
  norm_num
  exact ⟨_, rfl⟩

/-- A head's result over padded rows is the sum of the values weighted by the softmax of the scores. -/
theorem headOut_wide {n : ℕ} [NeZero n] (q : Fin 96 → EReal) (k : Fin n → Fin 96 → EReal) (v : Fin n → Fin 64 → EReal)
    (hq : ∀ d, IsReal (q d)) (hk : ∀ j d, IsReal (k j d)) (s : Fin n → EReal)
    (hs : ∀ j, (∑ d, q d * k j d) * Ideal.ofBits .f32 0x3DD105EC#32 = s j) (l : Fin 128) :
    headOut (wide q) (fun j => wide (k j)) (fun j => tagged (v j)) l
      = if h : (l : ℕ) < 64 then ∑ j, v j ⟨l, h⟩ * Ideal.div (weight s j) (∑ j, weight s j) else 0 := by
  have hsc : (fun j => score (wide q) (wide (k j))) = s := funext fun j => (score_wide q (k j)).trans (hs j)
  have hr : ∀ j, IsReal (s j) := by
    intro j
    rw [← hs j]
    exact (IsReal.sum _ fun d => (hq d).mul (hk j d)).mul scale_real
  unfold headOut
  rw [hsc]
  by_cases h : (l : ℕ) < 64
  · rw [if_pos h, dif_pos h]
    have h1 : ∀ j, tagged (v j) 64 = 1 := by intro j; simp [tagged]
    have h2 : ∀ j, tagged (v j) l = v j ⟨l, h⟩ := by
      intro j
      have : (l : ℕ) ≠ 64 := by omega
      simp [tagged, h, this]
    simp only [h1, h2, mul_one]
    haveI : Nonempty (Fin n) := ⟨0⟩
    rw [normalise s hr]
    exact Finset.sum_congr rfl fun j _ => mul_comm _ _
  · rw [if_neg h, dif_neg h]

/-- The exchange of context rows and latent rows. -/
def swap : Fin 4352 ≃ Fin 4352 where
  toFun j := if h : (j : ℕ) < 256 then ⟨(j : ℕ) + 4096, by omega⟩ else ⟨(j : ℕ) - 256, by omega⟩
  invFun j := if h : (j : ℕ) < 4096 then ⟨(j : ℕ) + 256, by omega⟩ else ⟨(j : ℕ) - 4096, by omega⟩
  left_inv := by
    intro j
    have := j.isLt
    by_cases h : (j : ℕ) < 256
    · simp only [dif_pos h]
      rw [dif_neg (by simp)]
      simp
    · simp only [dif_neg h]
      rw [dif_pos (show (j : ℕ) - 256 < 4096 by omega)]
      apply Fin.ext
      show (j : ℕ) - 256 + 256 = j
      omega
  right_inv := by
    intro j
    have := j.isLt
    by_cases h : (j : ℕ) < 4096
    · simp only [dif_pos h]
      rw [dif_neg (by simp)]
      simp
    · simp only [dif_neg h]
      rw [dif_pos (show (j : ℕ) - 4096 < 256 by omega)]
      apply Fin.ext
      show (j : ℕ) - 4096 + 4096 = j
      omega

/-- A weight is the exchanged weight of the exchanged scores. -/
theorem weight_swap (s : Fin 4352 → EReal) (j : Fin 4352) : weight (fun j => s (swap j)) j = weight s (swap j) := by
  unfold weight
  rw [fold_max_equiv swap s]

/-- A softmax sum over context rows and then latent rows is the sum over latent rows and then context rows. -/
theorem softmax_swap (s : Fin 4352 → EReal) (v : Fin 4352 → EReal) :
    (∑ j, v j * Ideal.div (weight (fun j => s (swap j)) j) (∑ j, weight (fun j => s (swap j)) j))
      = (∑ j : Fin 4096, v ⟨256 + j, by omega⟩ * Ideal.div (weight s ⟨j, by omega⟩) (∑ j, weight s j))
        + ∑ j : Fin 256, v ⟨j, by omega⟩ * Ideal.div (weight s ⟨4096 + j, by omega⟩) (∑ j, weight s j) := by
  have hw : (∑ j, weight (fun j => s (swap j)) j) = ∑ j, weight s j := by
    rw [Finset.sum_congr rfl fun j _ => weight_swap s j]
    exact Equiv.sum_comp swap fun j => weight s j
  rw [hw]
  generalize (∑ j, weight s j) = D
  simp only [weight_swap]
  rw [show (∑ j : Fin 4352, v j * Ideal.div (weight s (swap j)) D)
    = ∑ j : Fin (256 + 4096), v j * Ideal.div (weight s (swap j)) D from rfl, Fin.sum_univ_add, add_comm]
  refine congrArg₂ (· + ·) (Finset.sum_congr rfl fun j _ => ?_) (Finset.sum_congr rfl fun j _ => ?_)
  · have h : swap (Fin.natAdd 256 j) = ⟨j, by omega⟩ := by
      apply Fin.ext
      simp [swap]
    rw [h]
    rfl
  · have h : swap (Fin.castAdd 4096 j) = ⟨4096 + j, by omega⟩ := by
      apply Fin.ext
      have : (j : ℕ) < 256 := j.isLt
      simp [swap, this]
      omega
    rw [h]
    rfl

end Cert.Mla

end
-- ==== Proof.Mla.Block.lean ====
/- What one grid point leaves in the output block, over the blocks it is given. -/
module

public import proofs.«01_k».proof.Proof.Mla.Head

@[expose] public section

set_option maxRecDepth 16384

noncomputable section

open Idealize.ShloMosaic Idealize.ShloMosaic.TcCoe Idealize.SL.Sem
open Idealize.ShloMosaic.Pipeline (Dat)

namespace Cert.KernelIdeal.Mla

open Cert.KernelIdeal Cert.KernelIdeal.Gen Cert.Mla

variable (m : (ℓ : Loc nD τ sig) → Buf (Elt Ideal) ℓ)

/-- Lane `d` of the 128-lane slot that holds lane `a`. -/
def slot (a : Fin 512) (d : Fin 128) : Fin 512 := ⟨a.val / 128 * 128 + d.val, by omega⟩

/-- A lane's place in its slot. -/
def place (a : Fin 512) : Fin 128 := ⟨a.val % 128, by omega⟩

/-- The block of queries a grid point is given. -/
def qBlk (c : Dev nD) (t : Fin cfg0.N) : FVec Ideal S1x256x512 .bf16 := iblk m c 0 t

/-- The block of keys a grid point is given. -/
def kBlk (c : Dev nD) (t : Fin cfg0.N) : FVec Ideal S1x4352x512 .bf16 := iblk m c 1 t

/-- The block of values a grid point is given. -/
def vBlk (c : Dev nD) (t : Fin cfg0.N) : FVec Ideal S1x4352x512 .bf16 := iblk m c 2 t

/-- The place of a context row among all rows. -/
def early (j : Fin 256) : Fin 4352 := ⟨j.val, by omega⟩

/-- A point of the latent rows leaves each head's result over all keys. -/
theorem outs_late (c : Dev nD) (t : Fin cfg0.N) (h0 : 1 ≤ t.val % 17) (h1 : ¬t.val % 17 = 0) (r : Fin 256) (a : Fin 512) :
    outsAt0 m c t.val t.isLt (ix3 0 r a)
      = headOut (fun d => qBlk m c t (ix3 0 r (slot a d))) (fun (j : Fin 4352) d => kBlk m c t (ix3 0 j (slot a d)))
          (fun (j : Fin 4352) d => vBlk m c t (ix3 0 j (slot a d))) (place a) := by
  rw [outsAt0_B m c t h0 h1]
  frame_out
  rw [show iblk m c 0 t = qBlk m c t from rfl, show iblk m c 1 t = kBlk m c t from rfl,
    show iblk m c 2 t = vBlk m c t from rfl]
  generalize qBlk m c t = q
  generalize kBlk m c t = k
  generalize vBlk m c t = v
  canon_tiles x h
  all_goals idx_vars x
  all_goals obtain rfl : x0 = 0 := Subsingleton.elim _ _
  all_goals obtain rfl : r = x1 := Fin.ext h1
  all_goals have hp : place a = x2 := Fin.ext (by simp only [place]; omega)
  case piece0 =>
    have hs : ∀ d : Fin 128, slot a d = ⟨384 + d.val, by omega⟩ := fun d => Fin.ext (by simp only [slot]; omega)
    rw [late3]
    simp only [hs, hp]
    pointwise
  case piece1 =>
    have hs : ∀ d : Fin 128, slot a d = ⟨256 + d.val, by omega⟩ := fun d => Fin.ext (by simp only [slot]; omega)
    rw [late2]
    simp only [hs, hp]
    pointwise
  case piece2 =>
    have hs : ∀ d : Fin 128, slot a d = ⟨128 + d.val, by omega⟩ := fun d => Fin.ext (by simp only [slot]; omega)
    rw [late1]
    simp only [hs, hp]
    pointwise
  case piece3 =>
    have hs : ∀ d : Fin 128, slot a d = ⟨0 + d.val, by omega⟩ := fun d => Fin.ext (by simp only [slot]; omega)
    rw [late0]
    simp only [hs, hp]
    pointwise

/-- A point of the context rows leaves each head's result over the context's keys. -/
theorem outs_early (c : Dev nD) (t : Fin cfg0.N) (h0 : ¬1 ≤ t.val % 17) (h1 : t.val % 17 = 0) (r : Fin 256) (a : Fin 512) :
    outsAt0 m c t.val t.isLt (ix3 0 r a)
      = headOut (fun d => qBlk m c t (ix3 0 r (slot a d))) (fun (j : Fin 256) d => kBlk m c t (ix3 0 (early j) (slot a d)))
          (fun (j : Fin 256) d => vBlk m c t (ix3 0 (early j) (slot a d))) (place a) := by
  rw [outsAt0_A m c t h0 h1]
  frame_out
  rw [show iblk m c 0 t = qBlk m c t from rfl, show iblk m c 1 t = kBlk m c t from rfl,
    show iblk m c 2 t = vBlk m c t from rfl]
  generalize qBlk m c t = q
  generalize kBlk m c t = k
  generalize vBlk m c t = v
  canon_tiles x h
  all_goals idx_vars x
  all_goals obtain rfl : x0 = 0 := Subsingleton.elim _ _
  all_goals obtain rfl : r = x1 := Fin.ext h1
  all_goals have hp : place a = x2 := Fin.ext (by simp only [place]; omega)
  case piece0 =>
    have hs : ∀ d : Fin 128, slot a d = ⟨384 + d.val, by omega⟩ := fun d => Fin.ext (by simp only [slot]; omega)
    rw [early3]
    simp only [hs, hp]
    pointwise [early]
  case piece1 =>
    have hs : ∀ d : Fin 128, slot a d = ⟨256 + d.val, by omega⟩ := fun d => Fin.ext (by simp only [slot]; omega)
    rw [early2]
    simp only [hs, hp]
    pointwise [early]
  case piece2 =>
    have hs : ∀ d : Fin 128, slot a d = ⟨128 + d.val, by omega⟩ := fun d => Fin.ext (by simp only [slot]; omega)
    rw [early1]
    simp only [hs, hp]
    pointwise [early]
  case piece3 =>
    have hs : ∀ d : Fin 128, slot a d = ⟨0 + d.val, by omega⟩ := fun d => Fin.ext (by simp only [slot]; omega)
    rw [early0]
    simp only [hs, hp]
    pointwise [early]

end Cert.KernelIdeal.Mla

end
-- ==== Proof.Mla.Rows.lean ====
module

public import proofs.«01_k».proof.Proof.Mla.Block
public import Idealize.ShloMosaic.Lib.Claim

@[expose] public section

set_option maxRecDepth 16384

/-! The arrays the host prepares for the attention kernel, read at an entry. -/

noncomputable section

open Idealize.ShloMosaic Idealize.ShloMosaic.TcCoe Idealize.SL.Sem
open Idealize.ShloMosaic.Pipeline (Dat)

namespace Cert.KernelIdeal.Mla

open Cert.KernelIdeal Cert.KernelIdeal.Gen Cert.Mla

/-- Two lists of host operations in a row. -/
theorem after_two (l k : List (HloOp τ sig (Elt Ideal))) (σ : Valuation τ sig (Elt Ideal)) :
    StableHlo.after (l ++ k) σ = StableHlo.after k (StableHlo.after l σ) := by
  induction l generalizing σ with
  | nil => rfl
  | cons op l ih => exact ih _

section Stages

variable (σ : Valuation τ sig (Elt Ideal))

/-- The contents after the first one stretch of host operations. -/
def upto1 : Valuation τ sig (Elt Ideal) := StableHlo.after hostOps0 σ

/-- The contents after the first two stretches of host operations. -/
def upto2 : Valuation τ sig (Elt Ideal) := StableHlo.after hostOps0_1 (upto1 σ)

/-- The contents after the first three stretches of host operations. -/
def upto3 : Valuation τ sig (Elt Ideal) := StableHlo.after hostOps0_2 (upto2 σ)

/-- The contents after the first four stretches of host operations. -/
def upto4 : Valuation τ sig (Elt Ideal) := StableHlo.after hostOps0_3 (upto3 σ)

/-- The contents after the first five stretches of host operations. -/
def upto5 : Valuation τ sig (Elt Ideal) := StableHlo.after hostOps0_4 (upto4 σ)

/-- The contents after the first six stretches of host operations. -/
def upto6 : Valuation τ sig (Elt Ideal) := StableHlo.after hostOps0_5 (upto5 σ)

/-- The contents after the first seven stretches of host operations. -/
def upto7 : Valuation τ sig (Elt Ideal) := StableHlo.after hostOps0_6 (upto6 σ)

/-- The contents after the first eight stretches of host operations. -/
def upto8 : Valuation τ sig (Elt Ideal) := StableHlo.after hostOps0_7 (upto7 σ)

/-- The contents after the first nine stretches of host operations. -/
def upto9 : Valuation τ sig (Elt Ideal) := StableHlo.after hostOps0_8 (upto8 σ)

/-- A concatenation of context and latent rows. -/
abbrev rows96 (x : FVec Ideal S8x256x4x96 .f32) (y : FVec Ideal S8x4096x4x96 .f32) : FVec Ideal S8x4352x4x96 .f32 :=
  concatenate S8x4352x4x96 1 [⟨S8x256x4x96, x⟩, ⟨S8x4096x4x96, y⟩] concatenates_S8x256x4x96_S8x4096x4x96_S8x4352x4x96_d1

/-- Heads of 96 numbers padded to slots of 128. -/
abbrev pad96 (x : FVec Ideal S8x4352x4x96 .f32) (z : FVec Ideal S_ .f32) : FVec Ideal S8x4352x4x128 .f32 :=
  pad S8x4352x4x128 ![0, 0, 0, 0] ![0, 0, 0, 32] ![0, 0, 0, 0] x z pads_S8x4352x4x96_S8x4352x4x128_000_000_000_0320 h_S_

/-- A concatenation of context and latent values. -/
abbrev rows64 (x : FVec Ideal S8x256x4x64 .f32) (y : FVec Ideal S8x4096x4x64 .f32) : FVec Ideal S8x4352x4x64 .f32 :=
  concatenate S8x4352x4x64 1 [⟨S8x256x4x64, x⟩, ⟨S8x4096x4x64, y⟩] concatenates_S8x256x4x64_S8x4096x4x64_S8x4352x4x64_d1

/-- Heads of 64 numbers padded to slots of 128. -/
abbrev pad64 (x : FVec Ideal S8x4352x4x64 .f32) (z : FVec Ideal S_ .f32) : FVec Ideal S8x4352x4x128 .f32 :=
  pad S8x4352x4x128 ![0, 0, 0, 0] ![0, 0, 0, 64] ![0, 0, 0, 0] x z pads_S8x4352x4x64_S8x4352x4x128_000_000_000_0640 h_S_

/-- The four slots of a row side by side. -/
abbrev flat (x : FVec Ideal S8x4352x4x128 .f32) : FVec Ideal S8x4352x512 .f32 :=
  shapeCast S8x4352x512 x shapeCasts_S8x4352x4x128_S8x4352x512

/-- The padding number. -/
abbrev padNum : FVec Ideal S_ .f32 := sitofp .f32 (constantI S_ 32 0#32)

/-- The host's remainder of `x` by `n`, with the sign of `n`. -/
abbrev remOf (x : IVec S1x1x512 32) (n : IVec S_ 32) : IVec S1x1x512 32 :=
  let d : IVec S1x1x512 32 := broadcastInDim S1x1x512 ![] bcast_S_S1x1x512 (select (cmpi .eq n (constantI S_ 32 0#32)) (constantI S_ 32 1#32) n)
  let r : IVec S1x1x512 32 := Host.remsi x d
  let z : IVec S1x1x512 32 := broadcastInDim S1x1x512 ![] bcast_S_S1x1x512 (constantI S_ 32 0#32)
  let neg : IVec S1x1x512 1 := broadcastInDim S1x1x512 ![] bcast_S_S1x1x512
    (cmpi .slt (select (cmpi .eq n (constantI S_ 32 0#32)) (constantI S_ 32 1#32) n) (constantI S_ 32 0#32))
  select (andi (cmpi .ne (cmpi .slt r z) neg) (cmpi .ne r z)) (addi r d) r

/-- One where the lane is the 64th of its slot, zero elsewhere. -/
abbrev oneLane : FVec Ideal S1x1x512 .f32 :=
  uitofp .f32 (cmpi .eq (remOf (iotaInDim S1x1x512 32 2) (constantI S_ 32 128#32))
    (broadcastInDim S1x1x512 ![] bcast_S_S1x1x512 (constantI S_ 32 64#32)))

theorem upto1_v0 : upto1 σ (main_v0 : DevRef τ sig) = iotaInDim S1x1x512 32 2 := by
  rw [upto1]; after_results

theorem upto1_c : upto1 σ (main_c : DevRef τ sig) = constantI S_ 32 128#32 := by
  rw [upto1]; after_results

theorem upto2_v1 : upto2 σ (main_v1 : DevRef τ sig) = remOf (iotaInDim S1x1x512 32 2) (constantI S_ 32 128#32) := by
  rw [upto2]
  have h0 := upto1_v0 σ
  have h1 := upto1_c σ
  generalize upto1 σ = σ at h0 h1 ⊢
  after_results
  simp only [StableHlo.TRef.ofBuf_toBuf]
  rw [← h0, ← h1]
  rfl

theorem upto3_v4 : upto3 σ (main_v4 : DevRef τ sig) = oneLane := by
  rw [upto3]
  have h0 := upto2_v1 σ
  generalize upto2 σ = σ at h0 ⊢
  after_results
  rw [h0]

theorem upto9_v8 : upto9 σ (main_v8 : DevRef τ sig)
    = truncf .bf16 (flat (pad96 (rows96 (σ (main_arg3 : DevRef τ sig)) (σ (main_arg0 : DevRef τ sig))) padNum)) bitsLt_bf16_f32 := by
  have a0 : upto2 σ (main_arg0 : DevRef τ sig) = σ (main_arg0 : DevRef τ sig) := by
    rw [upto2, upto1]; after_results
  have a3 : upto2 σ (main_arg3 : DevRef τ sig) = σ (main_arg3 : DevRef τ sig) := by
    rw [upto2, upto1]; after_results
  have h3 : upto3 σ (main_v5 : DevRef τ sig) = rows96 (σ (main_arg3 : DevRef τ sig)) (σ (main_arg0 : DevRef τ sig)) := by
    rw [upto3, ← a0, ← a3]; generalize upto2 σ = σ; after_results
  have h3c : upto3 σ (main_c_1 : DevRef τ sig) = constantI S_ 32 0#32 := by
    rw [upto3]; generalize upto2 σ = σ; after_results
  have h4 : upto4 σ (main_v6 : DevRef τ sig) = pad96 (rows96 (σ (main_arg3 : DevRef τ sig)) (σ (main_arg0 : DevRef τ sig))) padNum := by
    rw [upto4]
    rw [← h3]
    unfold padNum
    rw [← h3c]
    generalize upto3 σ = σ
    after_results
    rfl
  have h5 : upto5 σ (main_v8 : DevRef τ sig) = truncf .bf16 (flat (pad96 (rows96 (σ (main_arg3 : DevRef τ sig)) (σ (main_arg0 : DevRef τ sig))) padNum)) bitsLt_bf16_f32 := by
    rw [upto5, ← h4]; generalize upto4 σ = σ; after_results; rfl
  rw [← h5]
  rw [upto9, upto8, upto7, upto6]
  generalize upto5 σ = σ
  after_results

theorem upto9_v12 : upto9 σ (main_v12 : DevRef τ sig)
    = truncf .bf16 (flat (pad96 (rows96 (σ (main_arg4 : DevRef τ sig)) (σ (main_arg1 : DevRef τ sig))) padNum)) bitsLt_bf16_f32 := by
  have a0 : upto4 σ (main_arg1 : DevRef τ sig) = σ (main_arg1 : DevRef τ sig) := by
    rw [upto4, upto3, upto2, upto1]; after_results
  have a3 : upto4 σ (main_arg4 : DevRef τ sig) = σ (main_arg4 : DevRef τ sig) := by
    rw [upto4, upto3, upto2, upto1]; after_results
  have h3 : upto5 σ (main_v9 : DevRef τ sig) = rows96 (σ (main_arg4 : DevRef τ sig)) (σ (main_arg1 : DevRef τ sig)) := by
    rw [upto5, ← a0, ← a3]; generalize upto4 σ = σ; after_results
  have h3c : upto5 σ (main_c_2 : DevRef τ sig) = constantI S_ 32 0#32 := by
    rw [upto5]; generalize upto4 σ = σ; after_results
  have h4 : upto6 σ (main_v10 : DevRef τ sig) = pad96 (rows96 (σ (main_arg4 : DevRef τ sig)) (σ (main_arg1 : DevRef τ sig))) padNum := by
    rw [upto6]
    rw [← h3]
    unfold padNum
    rw [← h3c]
    generalize upto5 σ = σ
    after_results
    rfl
  have h5 : upto7 σ (main_v12 : DevRef τ sig) = truncf .bf16 (flat (pad96 (rows96 (σ (main_arg4 : DevRef τ sig)) (σ (main_arg1 : DevRef τ sig))) padNum)) bitsLt_bf16_f32 := by
    rw [upto7, ← h4]; generalize upto6 σ = σ; after_results; rfl
  rw [← h5]
  rw [upto9, upto8]
  generalize upto7 σ = σ
  after_results

theorem upto9_v18 : upto9 σ (main_v18 : DevRef τ sig)
    = truncf .bf16 (addf (flat (pad64 (rows64 (σ (main_arg5 : DevRef τ sig)) (σ (main_arg2 : DevRef τ sig))) padNum))
        (broadcastInDim S8x4352x512 ![0, 1, 2] bcast_S1x1x512_S8x4352x512_0_1_2 oneLane)) bitsLt_bf16_f32 := by
  have a0 : upto6 σ (main_arg2 : DevRef τ sig) = σ (main_arg2 : DevRef τ sig) := by
    rw [upto6, upto5, upto4, upto3, upto2, upto1]; after_results
  have a3 : upto6 σ (main_arg5 : DevRef τ sig) = σ (main_arg5 : DevRef τ sig) := by
    rw [upto6, upto5, upto4, upto3, upto2, upto1]; after_results
  have h3 : upto7 σ (main_v13 : DevRef τ sig) = rows64 (σ (main_arg5 : DevRef τ sig)) (σ (main_arg2 : DevRef τ sig)) := by
    rw [upto7, ← a0, ← a3]; generalize upto6 σ = σ; after_results
  have h3c : upto7 σ (main_c_3 : DevRef τ sig) = constantI S_ 32 0#32 := by
    rw [upto7]; generalize upto6 σ = σ; after_results
  have h4 : upto8 σ (main_v14 : DevRef τ sig) = pad64 (rows64 (σ (main_arg5 : DevRef τ sig)) (σ (main_arg2 : DevRef τ sig))) padNum := by
    rw [upto8]
    rw [← h3]
    unfold padNum
    rw [← h3c]
    generalize upto7 σ = σ
    after_results
    rfl
  have h8 : upto8 σ (main_v4 : DevRef τ sig) = oneLane := by
    rw [← upto3_v4 σ, show upto8 σ = StableHlo.after hostOps0_7 (StableHlo.after hostOps0_6 (StableHlo.after hostOps0_5
      (StableHlo.after hostOps0_4 (StableHlo.after hostOps0_3 (upto3 σ))))) from rfl]
    generalize upto3 σ = σ
    after_results
  rw [upto9, ← h4, ← h8]
  generalize upto8 σ = σ
  after_results
  rfl

end Stages

/-- The entry of context rows followed by latent rows. -/
def joined {k : ℕ} {φ ψ : FTy} (x : FVec Ideal ⟨4, ![8, 256, 4, k]⟩ φ) (y : FVec Ideal ⟨4, ![8, 4096, 4, k]⟩ ψ) (b : Fin 8) (s : Fin 4352) (h : Fin 4)
    (d : Fin k) : EReal :=
  if hs : (s : ℕ) < 256 then x (ix4 b ⟨s, hs⟩ h d) else y (ix4 b ⟨s - 256, by omega⟩ h d)

/-- The head a lane belongs to. -/
def headOf (a : Fin 512) : Fin 4 := ⟨a / 128, by omega⟩

/-- Lane 64 of a slot is where the remainder by 128 is 64. -/
theorem oneLane_at (a : Fin 512) : (oneLane (ix3 0 0 a) : EReal) = if (a : ℕ) % 128 = 64 then 1 else 0 := by
  have h : remOf (iotaInDim S1x1x512 32 2) (constantI S_ 32 128#32) (ix3 0 0 a) = BitVec.ofNat 32 (a % 128) := by
    unfold remOf
    pointwise
    revert a
    decide +kernel
  unfold oneLane
  pointwise
  rw [h]
  have hw : (BitVec.ofNat 32 ((a : ℕ) % 128) = 64#32) ↔ (a : ℕ) % 128 = 64 := by
    rw [← BitVec.toNat_inj]; simp only [BitVec.toNat_ofNat]; omega
  by_cases e : (a : ℕ) % 128 = 64
  · rw [if_pos e, hw.mpr e]
    show (((1#1).toNat : ℝ) : EReal) = 1
    simp
  · rw [if_neg e]
    have : IntOp.cmpi .eq (BitVec.ofNat 32 ((a : ℕ) % 128)) 64#32 = 0#1 := by
      have hb : (BitVec.ofNat 32 ((a : ℕ) % 128) == 64#32) = false := by simpa using mt hw.mp e
      simp only [IntOp.cmpi, hb]; rfl
    rw [this]
    show (((0#1).toNat : ℝ) : EReal) = 0
    simp

/-- The padding number is zero. -/
theorem padNum_at : (FloatOps.sitofp FTy.f32 0#32 : Ideal .f32) = (0 : EReal) := by
  show (((0#32).toInt : ℝ) : EReal) = 0
  simp

/-- Entry of packed queries or keys. -/
theorem pack96_at (x : FVec Ideal S8x256x4x96 .f32) (y : FVec Ideal S8x4096x4x96 .f32) (b : Fin 8) (s : Fin 4352) (a : Fin 512) :
    (truncf .bf16 (flat (pad96 (rows96 x y) padNum)) bitsLt_bf16_f32 : FVec Ideal S8x4352x512 .bf16) (ix3 b s a)
      = if h : (a : ℕ) % 128 < 96 then joined x y b s (headOf a) ⟨a % 128, h⟩ else 0 := by
  pointwise
  have h4 : (a : ℕ) / 128 < 4 := by omega
  exact dite_congr (propext ⟨fun h => h.2, fun h => ⟨h4, h⟩⟩) (fun h => rfl) (fun h => padNum_at)

/-- Entry of packed values. -/
theorem pack64_at (x : FVec Ideal S8x256x4x64 .f32) (y : FVec Ideal S8x4096x4x64 .f32) (b : Fin 8) (s : Fin 4352) (a : Fin 512) :
    (truncf .bf16 (addf (flat (pad64 (rows64 x y) padNum))
      (broadcastInDim S8x4352x512 ![0, 1, 2] bcast_S1x1x512_S8x4352x512_0_1_2 oneLane)) bitsLt_bf16_f32 : FVec Ideal S8x4352x512 .bf16) (ix3 b s a)
      = (if h : (a : ℕ) % 128 < 64 then joined x y b s (headOf a) ⟨a % 128, h⟩ else 0) + if (a : ℕ) % 128 = 64 then 1 else 0 := by
  have hl := oneLane_at a
  generalize oneLane = w at hl
  pointwise
  have h4 : (a : ℕ) / 128 < 4 := by omega
  exact congrArg₂ (· + ·) (dite_congr (propext ⟨fun h => h.2, fun h => ⟨h4, h⟩⟩) (fun h => rfl) (fun h => padNum_at)) hl

variable (m : (ℓ : Loc nD τ sig) → Buf (Elt Ideal) ℓ)

/-- What the host line leaves is what its nine stretches leave in turn. -/
theorem V_upto (c : Dev nD) (b : Ref sig .tc) : V m c b = upto9 (fun b => m (c, b)) b := by
  unfold V
  rw [upto9, upto8, upto7, upto6, upto5, upto4, upto3, upto2, upto1]
  simp only [List.flatten_cons, List.flatten_nil, after_two, StableHlo.after_nil]

/-- Entry of the array of queries. -/
theorem q_at (c : Dev nD) (b : Fin 8) (s : Fin 4352) (a : Fin 512) :
    (show FVec Ideal S8x4352x512 .bf16 from V m c main_v8) (ix3 b s a)
      = if h : (a : ℕ) % 128 < 96 then joined (k := 96) (φ := .f32) (ψ := .f32) (m ((c : Thread nD τ).loc main_arg3)) (m ((c : Thread nD τ).loc main_arg0)) b s (headOf a) ⟨a % 128, h⟩
        else 0 := by
  rw [V_upto, upto9_v8]
  exact pack96_at _ _ b s a

/-- Entry of the array of keys. -/
theorem k_at (c : Dev nD) (b : Fin 8) (s : Fin 4352) (a : Fin 512) :
    (show FVec Ideal S8x4352x512 .bf16 from V m c main_v12) (ix3 b s a)
      = if h : (a : ℕ) % 128 < 96 then joined (k := 96) (φ := .f32) (ψ := .f32) (m ((c : Thread nD τ).loc main_arg4)) (m ((c : Thread nD τ).loc main_arg1)) b s (headOf a) ⟨a % 128, h⟩
        else 0 := by
  rw [V_upto, upto9_v12]
  exact pack96_at _ _ b s a

/-- Entry of the array of values. -/
theorem v_at (c : Dev nD) (b : Fin 8) (s : Fin 4352) (a : Fin 512) :
    (show FVec Ideal S8x4352x512 .bf16 from V m c main_v18) (ix3 b s a)
      = (if h : (a : ℕ) % 128 < 64 then joined (k := 64) (φ := .f32) (ψ := .f32) (m ((c : Thread nD τ).loc main_arg5)) (m ((c : Thread nD τ).loc main_arg2)) b s (headOf a) ⟨a % 128, h⟩
        else 0) + if (a : ℕ) % 128 = 64 then 1 else 0 := by
  rw [V_upto, upto9_v18]
  exact pack64_at _ _ b s a

end Cert.KernelIdeal.Mla
end
-- ==== Proof.Mla.Array.lean ====
/- What the attention kernel's result array holds after the run, over the arrays the host prepared. -/
module

public import proofs.«01_k».proof.Proof.Mla.Block

@[expose] public section

set_option maxRecDepth 16384

noncomputable section

open Idealize.ShloMosaic Idealize.ShloMosaic.TcCoe Idealize.SL.Sem
open Idealize.ShloMosaic.Pipeline (Dat)

namespace Cert.KernelIdeal.Mla

open Cert.KernelIdeal Cert.KernelIdeal.Gen Cert.Mla

variable (m : (ℓ : Loc nD τ sig) → Buf (Elt Ideal) ℓ)

/-- The packed queries. -/
def qArr (c : Dev nD) : FVec Ideal S8x4352x512 .bf16 := V m c main_v8

/-- The packed keys. -/
def kArr (c : Dev nD) : FVec Ideal S8x4352x512 .bf16 := V m c main_v12

/-- The packed values. -/
def vArr (c : Dev nD) : FVec Ideal S8x4352x512 .bf16 := V m c main_v18

/-- The result at row `s` and lane `a`: a context row (`s < 256`) attends to the context's rows, a latent row to all. -/
def attended (Q K W : FVec Ideal S8x4352x512 .bf16) (b : Fin 8) (s : Fin 4352) (a : Fin 512) : EReal :=
  if (s : ℕ) < 256 then
    headOut (fun d => Q (ix3 b s (slot a d))) (fun (j : Fin 256) d => K (ix3 b (early j) (slot a d)))
      (fun (j : Fin 256) d => W (ix3 b (early j) (slot a d))) (place a)
  else
    headOut (fun d => Q (ix3 b s (slot a d))) (fun (j : Fin 4352) d => K (ix3 b j (slot a d)))
      (fun (j : Fin 4352) d => W (ix3 b j (slot a d))) (place a)

/-- The blocks of a grid point, and the batch it belongs to. -/
theorem idx : ∀ t : Fin cfg0.N, win0_0.index t = ![t.val / 17, t.val % 17, 0] ∧ win0_1.index t = ![t.val / 17, 0, 0]
    ∧ win0_2.index t = ![t.val / 17, 0, 0] ∧ win0_3.index t = ![t.val / 17, t.val % 17, 0] ∧ t.val / 17 < 8 :=
  (by decide +kernel : ∀ t : Fin grid0.N, _)

/-- Where a point's block of queries lies. -/
theorem emb0 (t : Fin cfg0.N) (b : Fin 8) (s : Fin 4352) (r : Fin 256) (hb : (b : ℕ) = t.val / 17)
    (hs : (s : ℕ) = t.val % 17 * 256 + r) (x : Fin 512) : ((cfg0.win 0).blk t).view.emb (ix3 0 r x) = ix3 b s x := by
  blk_ext [idx t]

/-- Where a point's block of results lies. -/
theorem emb3 (t : Fin cfg0.N) (b : Fin 8) (s : Fin 4352) (r : Fin 256) (hb : (b : ℕ) = t.val / 17)
    (hs : (s : ℕ) = t.val % 17 * 256 + r) (x : Fin 512) : ((cfg0.win 3).blk t).view.emb (ix3 0 r x) = ix3 b s x := by
  blk_ext [idx t]

/-- Where a point's block of keys lies. -/
theorem emb1 (t : Fin cfg0.N) (b : Fin 8) (hb : (b : ℕ) = t.val / 17) (s : Fin 4352) (x : Fin 512) :
    ((cfg0.win 1).blk t).view.emb (ix3 0 s x) = ix3 b s x := by
  blk_ext [idx t]

/-- Where a point's block of values lies. -/
theorem emb2 (t : Fin cfg0.N) (b : Fin 8) (hb : (b : ℕ) = t.val / 17) (s : Fin 4352) (x : Fin 512) :
    ((cfg0.win 2).blk t).view.emb (ix3 0 s x) = ix3 b s x := by
  blk_ext [idx t]

/-- A point's block of queries at an entry. -/
theorem qBlk_at (c : Dev nD) (t : Fin cfg0.N) (b : Fin 8) (s : Fin 4352) (r : Fin 256) (hb : (b : ℕ) = t.val / 17)
    (hs : (s : ℕ) = t.val % 17 * 256 + r) (x : Fin 512) : qBlk m c t (ix3 0 r x) = qArr m c (ix3 b s x) := by
  unfold qBlk qArr iblk
  have hz : (V m c main_v8 : FVec Ideal S8x4352x512 .bf16) = V m c (Pipeline.arrRef spec0 0) := rfl
  rw [hz]
  clear hz
  generalize V m c (Pipeline.arrRef spec0 0) = z
  have e := emb0 t b s r hb hs x
  rw [View.read, cast_eq, e]

/-- A point's block of keys at an entry. -/
theorem kBlk_at (c : Dev nD) (t : Fin cfg0.N) (b : Fin 8) (hb : (b : ℕ) = t.val / 17) (s : Fin 4352) (x : Fin 512) :
    kBlk m c t (ix3 0 s x) = kArr m c (ix3 b s x) := by
  unfold kBlk kArr iblk
  have hz : (V m c main_v12 : FVec Ideal S8x4352x512 .bf16) = V m c (Pipeline.arrRef spec0 1) := rfl
  rw [hz]
  clear hz
  generalize V m c (Pipeline.arrRef spec0 1) = z
  have e := emb1 t b hb s x
  rw [View.read, cast_eq, e]

/-- A point's block of values at an entry. -/
theorem vBlk_at (c : Dev nD) (t : Fin cfg0.N) (b : Fin 8) (hb : (b : ℕ) = t.val / 17) (s : Fin 4352) (x : Fin 512) :
    vBlk m c t (ix3 0 s x) = vArr m c (ix3 b s x) := by
  unfold vBlk vArr iblk
  have hz : (V m c main_v18 : FVec Ideal S8x4352x512 .bf16) = V m c (Pipeline.arrRef spec0 2) := rfl
  rw [hz]
  clear hz
  generalize V m c (Pipeline.arrRef spec0 2) = z
  have e := emb2 t b hb s x
  rw [View.read, cast_eq, e]

/-- The result array over the packed arrays. -/
def attendedArr (Q K W : FVec Ideal S8x4352x512 .bf16) : FVec Ideal S8x4352x512 .f32 :=
  fun i => attended Q K W (i 0) (i 1) (i 2)

/-- What a point leaves at an entry of its block. -/
theorem outs_at (c : Dev nD) (t : Fin cfg0.N) (b : Fin 8) (s : Fin 4352) (r : Fin 256) (hb : (b : ℕ) = t.val / 17)
    (hs : (s : ℕ) = t.val % 17 * 256 + r) (a : Fin 512) :
    outsAt0 m c t.val t.isLt (ix3 0 r a) = attended (qArr m c) (kArr m c) (vArr m c) b s a := by
  unfold attended
  by_cases h : t.val % 17 = 0
  · rw [outs_early m c t (by omega) h, if_pos (by omega)]
    simp only [qBlk_at m c t b s r hb hs, kBlk_at m c t b hb, vBlk_at m c t b hb]
  · rw [outs_late m c t (by omega) h, if_neg (by omega)]
    simp only [qBlk_at m c t b s r hb hs, kBlk_at m c t b hb, vBlk_at m c t b hb]

/-- The result array after the run. -/
theorem final (c : Dev nD) :
    (dats m 0 c).arrAt 3 cfg0.N = attendedArr (qArr m c) (kArr m c) (vArr m c) := by
  refine (dats m 0 c).arrAt_eq_of_covers 3 _ (by decide +kernel) fun t hf y => ?_
  have key : ∀ y : S1x256x512.Idx, outsAt0 m c t.val t.isLt y
      = attendedArr (qArr m c) (kArr m c) (vArr m c) (((cfg0.win 3).blk t).view.emb y) := by
    intro y
    idx_vars y
    obtain rfl : y0 = 0 := Subsingleton.elim _ _
    have ht : t.val < 136 := t.isLt
    have e := emb3 t ⟨t.val / 17, by omega⟩ ⟨t.val % 17 * 256 + y1, by omega⟩ y1 rfl rfl y2
    rw [outs_at m c t ⟨t.val / 17, by omega⟩ ⟨t.val % 17 * 256 + y1, by omega⟩ y1 rfl rfl y2]
    exact (congrArg (attendedArr (qArr m c) (kArr m c) (vArr m c)) e).symm
  rw [after0_3]
  generalize attendedArr (qArr m c) (kArr m c) (vArr m c) = G at key ⊢
  generalize outsAt0 m c t.val t.isLt = O at key ⊢
  exact key y

end Cert.KernelIdeal.Mla

end
-- ==== Proof.Mla.Reference.lean ====
/- What the reference attention computes, read at an entry. -/
module

public import proofs.«01_k».proof.Proof.Gen.ReferenceIdeal.Read
public import proofs.«01_k».proof.Proof.Mla.Head

@[expose] public section

set_option maxRecDepth 16384

noncomputable section

open Idealize.ShloMosaic Idealize.ShloMosaic.TcCoe Idealize.SL.Sem

namespace Cert.ReferenceIdeal.Mla

open Cert.ReferenceIdeal Cert.ReferenceIdeal.Gen Cert.ReferenceIdeal.Read Cert.Mla

variable (q k : FVec Ideal S8x4096x4x96 .f32) (v : FVec Ideal S8x4096x4x64 .f32)
  (qc kc : FVec Ideal S8x256x4x96 .f32) (vc : FVec Ideal S8x256x4x64 .f32)

/-- The scale of the scores. -/
abbrev scale : EReal := Ideal.ofBits .f32 0x3DD105EC#32

/-- A latent query's scores: against the latent keys, then against the context's keys. -/
def lateScore (b : Fin 8) (h : Fin 4) (i : Fin 4096) (j : Fin 4352) : EReal :=
  if hj : (j : ℕ) < 4096 then (∑ d : Fin 96, q (ix4 b i h d) * k (ix4 b ⟨j, hj⟩ h d)) * scale
  else (∑ d : Fin 96, q (ix4 b i h d) * kc (ix4 b ⟨j - 4096, by omega⟩ h d)) * scale

/-- A context query's scores against the context's keys. -/
def earlyScore (b : Fin 8) (h : Fin 4) (i : Fin 256) (j : Fin 256) : EReal :=
  (∑ d : Fin 96, qc (ix4 b i h d) * kc (ix4 b j h d)) * scale

/-- The latent queries' scaled scores, latent keys first and then context keys. -/
theorem v6_at (b : Fin 8) (h : Fin 4) (i : Fin 4096) (j : Fin 4352) :
    val_main_v6 (F := Ideal) q k kc (ix4 b h i j) = lateScore q k kc b h i j := by
  unfold lateScore
  pointwise [val_main_v6, val_main_v5, val_main_v2, val_main_v0, val_main_v3, val_main_v1, val_main_v4, val_main_cst, val_main_cst_0]

/-- The largest score of a latent query. -/
theorem v7_at (b : Fin 8) (h : Fin 4) (i : Fin 4096) :
    val_main_v7 (F := Ideal) q k kc (ix3 b h i) = Finset.univ.fold max ⊥ (lateScore q k kc b h i) := by
  have h6 := v6_at q k kc
  unfold val_main_v7 val_main_cst_1
  generalize val_main_v6 (F := Ideal) q k kc = y at h6
  pointwise
  rw [ofBits_neg_inf]
  simp only [h6]

/-- The largest score, once more compared with minus infinity. -/
theorem v9_at (b : Fin 8) (h : Fin 4) (i : Fin 4096) :
    val_main_v9 (F := Ideal) q k kc (ix3 b h i) = Finset.univ.fold max ⊥ (lateScore q k kc b h i) := by
  have h7 := v7_at q k kc b h i
  rw [val_main_v9_apply, h7, val_main_v8_apply, val_main_cst_2_apply]
  show max (Ideal.ofBits .f32 0xFF800000#32) (Finset.univ.fold max ⊥ (lateScore q k kc b h i)) = _
  rw [ofBits_neg_inf]
  exact max_eq_right bot_le

/-- The largest score, repeated along the keys. -/
theorem v11_at (b : Fin 8) (h : Fin 4) (i : Fin 4096) (j : Fin 4352) :
    val_main_v11 (F := Ideal) q k kc (ix4 b h i j) = Finset.univ.fold max ⊥ (lateScore q k kc b h i) := by
  have h9 := v9_at q k kc
  unfold val_main_v11 val_main_v10
  generalize val_main_v9 (F := Ideal) q k kc = z at h9
  pointwise
  rw [h9]

/-- The exponentials of a latent query's scores. -/
theorem v13_at (b : Fin 8) (h : Fin 4) (i : Fin 4096) (j : Fin 4352) :
    val_main_v13 (F := Ideal) q k kc (ix4 b h i j) = weight (lateScore q k kc b h i) j := by
  rw [val_main_v13_apply, val_main_v12_apply, v6_at, v11_at]
  rfl

/-- The softmax of a latent query's scores. -/
theorem v17_at (b : Fin 8) (h : Fin 4) (i : Fin 4096) (j : Fin 4352) :
    val_main_v17 (F := Ideal) q k kc (ix4 b h i j)
      = Ideal.div (weight (lateScore q k kc b h i) j) (∑ j, weight (lateScore q k kc b h i) j) := by
  have h13 := v13_at q k kc
  unfold val_main_v17 val_main_v16 val_main_v15 val_main_v14 val_main_cst_3
  generalize val_main_v13 (F := Ideal) q k kc = y at h13
  pointwise
  simp only [h13]

/-- A latent query's result: latent values and context values, weighted by the softmax. -/
theorem v24_at (b : Fin 8) (h : Fin 4) (i : Fin 4096) (d : Fin 64) :
    val_main_v24 (F := Ideal) q k v kc vc (ix4 b i h d)
      = (∑ j : Fin 4096, v (ix4 b j h d) * Ideal.div (weight (lateScore q k kc b h i) ⟨j, by omega⟩) (∑ j, weight (lateScore q k kc b h i) j))
        + ∑ j : Fin 256, vc (ix4 b j h d) * Ideal.div (weight (lateScore q k kc b h i) ⟨4096 + j, by omega⟩) (∑ j, weight (lateScore q k kc b h i) j) := by
  have h17 := v17_at q k kc
  unfold val_main_v24 val_main_v23 val_main_v22 val_main_v21 val_main_v20 val_main_v19 val_main_v18
  generalize val_main_v17 (F := Ideal) q k kc = y at h17
  pointwise
  simp only [h17]

/-- The context queries' scaled scores. -/
theorem v27_at (b : Fin 8) (h : Fin 4) (i : Fin 256) (j : Fin 256) :
    val_main_v27 (F := Ideal) qc kc (ix4 b h i j) = earlyScore qc kc b h i j := by
  unfold earlyScore
  pointwise [val_main_v27, val_main_v26, val_main_v25, val_main_cst_4]

/-- The largest score of a context query. -/
theorem v28_at (b : Fin 8) (h : Fin 4) (i : Fin 256) :
    val_main_v28 (F := Ideal) qc kc (ix3 b h i) = Finset.univ.fold max ⊥ (earlyScore qc kc b h i) := by
  have h6 := v27_at qc kc
  unfold val_main_v28 val_main_cst_5
  generalize val_main_v27 (F := Ideal) qc kc = y at h6
  pointwise
  rw [ofBits_neg_inf]
  simp only [h6]

/-- The largest score of a context query, once more compared with minus infinity. -/
theorem v30_at (b : Fin 8) (h : Fin 4) (i : Fin 256) :
    val_main_v30 (F := Ideal) qc kc (ix3 b h i) = Finset.univ.fold max ⊥ (earlyScore qc kc b h i) := by
  have h7 := v28_at qc kc b h i
  rw [val_main_v30_apply, h7, val_main_v29_apply, val_main_cst_6_apply]
  show max (Ideal.ofBits .f32 0xFF800000#32) (Finset.univ.fold max ⊥ (earlyScore qc kc b h i)) = _
  rw [ofBits_neg_inf]
  exact max_eq_right bot_le

/-- The largest score of a context query, repeated along the keys. -/
theorem v32_at (b : Fin 8) (h : Fin 4) (i : Fin 256) (j : Fin 256) :
    val_main_v32 (F := Ideal) qc kc (ix4 b h i j) = Finset.univ.fold max ⊥ (earlyScore qc kc b h i) := by
  have h9 := v30_at qc kc
  unfold val_main_v32 val_main_v31
  generalize val_main_v30 (F := Ideal) qc kc = z at h9
  pointwise
  rw [h9]

/-- The exponentials of a context query's scores. -/
theorem v34_at (b : Fin 8) (h : Fin 4) (i : Fin 256) (j : Fin 256) :
    val_main_v34 (F := Ideal) qc kc (ix4 b h i j) = weight (earlyScore qc kc b h i) j := by
  rw [val_main_v34_apply, val_main_v33_apply, v27_at, v32_at]
  rfl

/-- The softmax of a context query's scores. -/
theorem v38_at (b : Fin 8) (h : Fin 4) (i : Fin 256) (j : Fin 256) :
    val_main_v38 (F := Ideal) qc kc (ix4 b h i j)
      = Ideal.div (weight (earlyScore qc kc b h i) j) (∑ j, weight (earlyScore qc kc b h i) j) := by
  have h13 := v34_at qc kc
  unfold val_main_v38 val_main_v37 val_main_v36 val_main_v35 val_main_cst_7
  generalize val_main_v34 (F := Ideal) qc kc = y at h13
  pointwise
  simp only [h13]

/-- A context query's result. -/
theorem v40_at (b : Fin 8) (h : Fin 4) (i : Fin 256) (d : Fin 64) :
    val_main_v40 (F := Ideal) qc kc vc (ix4 b i h d)
      = ∑ j : Fin 256, vc (ix4 b j h d) * Ideal.div (weight (earlyScore qc kc b h i) j) (∑ j, weight (earlyScore qc kc b h i) j) := by
  have h17 := v38_at qc kc
  unfold val_main_v40 val_main_v39
  generalize val_main_v38 (F := Ideal) qc kc = y at h17
  pointwise
  simp only [h17]

/-- The reference's array: context rows and then latent rows, each head's 64 values in a slot of 128 lanes. -/
theorem v43_at (b : Fin 8) (s : Fin 4352) (a : Fin 512) :
    val_main_v43 (F := Ideal) q k v qc kc vc (ix3 b s a) =
      if ha : (a : ℕ) % 128 < 64 then
        if hs : (s : ℕ) < 256 then val_main_v40 (F := Ideal) qc kc vc (ix4 b ⟨s, hs⟩ ⟨a / 128, by omega⟩ ⟨a % 128, ha⟩)
        else val_main_v24 (F := Ideal) q k v kc vc (ix4 b ⟨s - 256, by omega⟩ ⟨a / 128, by omega⟩ ⟨a % 128, ha⟩)
      else (0 : EReal) := by
  unfold val_main_v43 val_main_v42 val_main_v41 val_main_call0_v0 val_main_c
  generalize val_main_v40 (F := Ideal) qc kc vc = y
  generalize val_main_v24 (F := Ideal) q k v kc vc = z
  pointwise
  have h4 : (a : ℕ) / 128 < 4 := by omega
  refine dite_congr (propext ⟨fun h => h.2, fun h => ⟨h4, h⟩⟩) (fun h => rfl) (fun h => ?_)
  show (((0#32).toInt : ℝ) : EReal) = 0
  simp

end Cert.ReferenceIdeal.Mla

end
-- ==== Proof.Mla.Equation.lean ====
/- The attention kernel's result is the reference's, for finite queries and keys. -/
module

public import proofs.«01_k».proof.Proof.Mla.Heads
public import proofs.«01_k».proof.Proof.Mla.Rows
public import proofs.«01_k».proof.Proof.Mla.Array
public import proofs.«01_k».proof.Proof.Mla.Reference

@[expose] public section

set_option maxRecDepth 16384

noncomputable section

open Idealize.ShloMosaic Idealize.ShloMosaic.TcCoe Idealize.SL.Sem

namespace Cert.Mla

open Cert.KernelIdeal.Mla Cert.ReferenceIdeal.Mla Cert.ReferenceIdeal.Read

variable (q k : FVec Ideal Cert.ReferenceIdeal.S8x4096x4x96 .f32) (v : FVec Ideal Cert.ReferenceIdeal.S8x4096x4x64 .f32)
  (qc kc : FVec Ideal Cert.ReferenceIdeal.S8x256x4x96 .f32) (vc : FVec Ideal Cert.ReferenceIdeal.S8x256x4x64 .f32)

/-- A slot's lane and its head. -/
theorem slot_mod (a : Fin 512) (d : Fin 128) : (slot a d : ℕ) % 128 = d := by
  show ((a : ℕ) / 128 * 128 + d) % 128 = d
  omega

theorem slot_head (a : Fin 512) (d : Fin 128) : headOf (slot a d) = headOf a := by
  apply Fin.ext
  show ((a : ℕ) / 128 * 128 + d) / 128 = (a : ℕ) / 128
  omega

/-- A packed row's slot is the head's row, padded. -/
theorem wide_slot (X : FVec Ideal Cert.KernelIdeal.S8x4352x512 .bf16) (xc : FVec Ideal Cert.ReferenceIdeal.S8x256x4x96 .f32)
    (x : FVec Ideal Cert.ReferenceIdeal.S8x4096x4x96 .f32)
    (hX : ∀ b s a, X (ix3 b s a) = if h : (a : ℕ) % 128 < 96 then joined (k := 96) (φ := .f32) (ψ := .f32) xc x b s (headOf a) ⟨a % 128, h⟩ else 0)
    (b : Fin 8) (s : Fin 4352) (a : Fin 512) :
    (fun d => X (ix3 b s (slot a d))) = wide (joined (k := 96) (φ := .f32) (ψ := .f32) xc x b s (headOf a)) := by
  funext d
  rw [hX, slot_head]
  unfold wide
  simp only [slot_mod]

/-- A packed value row's slot is the head's row with a one after it. -/
theorem tagged_slot (X : FVec Ideal Cert.KernelIdeal.S8x4352x512 .bf16) (xc : FVec Ideal Cert.ReferenceIdeal.S8x256x4x64 .f32)
    (x : FVec Ideal Cert.ReferenceIdeal.S8x4096x4x64 .f32)
    (hX : ∀ b s a, X (ix3 b s a) = (if h : (a : ℕ) % 128 < 64 then joined (k := 64) (φ := .f32) (ψ := .f32) xc x b s (headOf a) ⟨a % 128, h⟩ else 0)
      + if (a : ℕ) % 128 = 64 then 1 else 0)
    (b : Fin 8) (s : Fin 4352) (a : Fin 512) :
    (fun d => X (ix3 b s (slot a d))) = tagged (joined (k := 64) (φ := .f32) (ψ := .f32) xc x b s (headOf a)) := by
  funext d
  rw [hX, slot_head]
  unfold tagged
  simp only [slot_mod]

/-- Rows of real arrays are real. -/
theorem joined_real (xc : FVec Ideal Cert.ReferenceIdeal.S8x256x4x96 .f32) (x : FVec Ideal Cert.ReferenceIdeal.S8x4096x4x96 .f32)
    (hc : ∀ i, IsReal (xc i)) (h : ∀ i, IsReal (x i)) (b : Fin 8) (s : Fin 4352) (n : Fin 4) (d : Fin 96) :
    IsReal (joined (k := 96) (φ := .f32) (ψ := .f32) xc x b s n d) := by
  unfold joined
  split_ifs
  · exact hc _
  · exact h _

/-- A context row of the joined array is the context's. -/
theorem joined_early {n : ℕ} (xc : FVec Ideal ⟨4, ![8, 256, 4, n]⟩ .f32) (x : FVec Ideal ⟨4, ![8, 4096, 4, n]⟩ .f32)
    (b : Fin 8) (s : Fin 4352) (hs : (s : ℕ) < 256) (h : Fin 4) (d : Fin n) :
    joined (k := n) (φ := .f32) (ψ := .f32) xc x b s h d = xc (ix4 b ⟨s, hs⟩ h d) := by
  unfold joined
  rw [dif_pos hs]

/-- A later row of the joined array is the latent array's. -/
theorem joined_late {n : ℕ} (xc : FVec Ideal ⟨4, ![8, 256, 4, n]⟩ .f32) (x : FVec Ideal ⟨4, ![8, 4096, 4, n]⟩ .f32)
    (b : Fin 8) (s : Fin 4352) (hs : ¬ (s : ℕ) < 256) (h : Fin 4) (d : Fin n) :
    joined (k := n) (φ := .f32) (ψ := .f32) xc x b s h d = x (ix4 b ⟨s - 256, by omega⟩ h d) := by
  unfold joined
  rw [dif_neg hs]

/-- A context row's scores. -/
theorem early_scores (b : Fin 8) (s : Fin 4352) (hs : (s : ℕ) < 256) (h : Fin 4) (j : Fin 256) :
    (∑ d, joined (k := 96) (φ := .f32) (ψ := .f32) qc q b s h d * joined (k := 96) (φ := .f32) (ψ := .f32) kc k b (early j) h d) * Ideal.ofBits .f32 0x3DD105EC#32
      = earlyScore qc kc b h ⟨s, hs⟩ j := by
  unfold earlyScore
  congr 1
  refine Finset.sum_congr rfl fun d _ => ?_
  rw [joined_early _ _ _ _ hs, joined_early _ _ _ (early j) j.isLt]
  rfl

/-- A latent row's scores, in the order context rows first. -/
theorem late_scores (b : Fin 8) (s : Fin 4352) (hs : ¬ (s : ℕ) < 256) (h : Fin 4) (j : Fin 4352) :
    (∑ d, joined (k := 96) (φ := .f32) (ψ := .f32) qc q b s h d * joined (k := 96) (φ := .f32) (ψ := .f32) kc k b j h d) * Ideal.ofBits .f32 0x3DD105EC#32
      = lateScore q k kc b h ⟨s - 256, by omega⟩ (swap j) := by
  unfold lateScore
  by_cases hj : (j : ℕ) < 256
  · have e : swap j = ⟨j + 4096, by omega⟩ := by
      apply Fin.ext
      simp [swap, hj]
    rw [e, dif_neg (by simp)]
    congr 1
    refine Finset.sum_congr rfl fun d _ => ?_
    rw [joined_late _ _ _ _ hs, joined_early _ _ _ _ hj]
    simp
  · have e : swap j = ⟨j - 256, by omega⟩ := by
      apply Fin.ext
      simp [swap, hj]
    rw [e, dif_pos (show (j : ℕ) - 256 < 4096 by omega)]
    congr 1
    refine Finset.sum_congr rfl fun d _ => ?_
    rw [joined_late _ _ _ _ hs, joined_late _ _ _ _ hj]

/-- The kernel's array over the packed queries, keys and values is the reference's. -/
theorem attended_eq (Q K W : FVec Ideal Cert.KernelIdeal.S8x4352x512 .bf16)
    (hQ : ∀ b s a, Q (ix3 b s a) = if h : (a : ℕ) % 128 < 96 then joined (k := 96) (φ := .f32) (ψ := .f32) qc q b s (headOf a) ⟨a % 128, h⟩ else 0)
    (hK : ∀ b s a, K (ix3 b s a) = if h : (a : ℕ) % 128 < 96 then joined (k := 96) (φ := .f32) (ψ := .f32) kc k b s (headOf a) ⟨a % 128, h⟩ else 0)
    (hW : ∀ b s a, W (ix3 b s a) = (if h : (a : ℕ) % 128 < 64 then joined (k := 64) (φ := .f32) (ψ := .f32) vc v b s (headOf a) ⟨a % 128, h⟩ else 0)
      + if (a : ℕ) % 128 = 64 then 1 else 0)
    (rq : ∀ i, IsReal (q i)) (rk : ∀ i, IsReal (k i)) (rqc : ∀ i, IsReal (qc i)) (rkc : ∀ i, IsReal (kc i)) :
    ∀ b s a, attended Q K W b s a = val_main_v43 (F := Ideal) q k v qc kc vc (ix3 b s a) := by
  intro b s a
  rw [v43_at]
  unfold attended
  by_cases hs : (s : ℕ) < 256
  · rw [if_pos hs]
    have hk' : (fun (j : Fin 256) d => K (ix3 b (early j) (slot a d))) = fun j => wide (joined (k := 96) (φ := .f32) (ψ := .f32) kc k b (early j) (headOf a)) :=
      funext fun j => wide_slot K kc k hK b (early j) a
    have hw' : (fun (j : Fin 256) d => W (ix3 b (early j) (slot a d))) = fun j => tagged (joined (k := 64) (φ := .f32) (ψ := .f32) vc v b (early j) (headOf a)) :=
      funext fun j => tagged_slot W vc v hW b (early j) a
    rw [wide_slot Q qc q hQ, hk', hw']
    rw [headOut_wide _ _ _ (joined_real qc q rqc rq b s (headOf a)) (fun j => joined_real kc k rkc rk b (early j) (headOf a))
      _ (early_scores q k qc kc b s hs (headOf a))]
    refine dite_congr rfl (fun ha => ?_) (fun _ => rfl)
    rw [dif_pos hs, v40_at]
    refine Finset.sum_congr rfl fun j _ => ?_
    rw [joined_early _ _ _ (early j) j.isLt]
    rfl
  · rw [if_neg hs]
    have hk' : (fun (j : Fin 4352) d => K (ix3 b j (slot a d))) = fun j => wide (joined (k := 96) (φ := .f32) (ψ := .f32) kc k b j (headOf a)) :=
      funext fun j => wide_slot K kc k hK b j a
    have hw' : (fun (j : Fin 4352) d => W (ix3 b j (slot a d))) = fun j => tagged (joined (k := 64) (φ := .f32) (ψ := .f32) vc v b j (headOf a)) :=
      funext fun j => tagged_slot W vc v hW b j a
    rw [wide_slot Q qc q hQ, hk', hw']
    rw [headOut_wide _ _ _ (joined_real qc q rqc rq b s (headOf a)) (fun j => joined_real kc k rkc rk b j (headOf a))
      _ (late_scores q k qc kc b s hs (headOf a))]
    refine dite_congr rfl (fun ha => ?_) (fun _ => rfl)
    rw [dif_neg hs, v24_at]
    have h := softmax_swap (lateScore q k kc b (headOf a) ⟨s - 256, by omega⟩)
      (fun j => joined (k := 64) (φ := .f32) (ψ := .f32) vc v b j (headOf a) ⟨(place a : ℕ), ha⟩)
    refine h.trans (congrArg₂ (· + ·) (Finset.sum_congr rfl fun j _ => ?_) (Finset.sum_congr rfl fun j _ => ?_))
    · have e := joined_late vc v b ⟨256 + (j : ℕ), by omega⟩ (by simp) (headOf a) ⟨(place a : ℕ), ha⟩
      have e' : (⟨256 + (j : ℕ) - 256, by omega⟩ : Fin 4096) = j := by
        apply Fin.ext
        simp
      simp only [e, e']
      rfl
    · have e := joined_early vc v b ⟨(j : ℕ), by omega⟩ j.isLt (headOf a) ⟨(place a : ℕ), ha⟩
      simp only [e]
      rfl

/-- A number whose magnitude is below infinity is real. -/
theorem real_of_lt (x : EReal) (h : max x (-x) < ⊤) : IsReal x := by
  induction x with
  | bot => simp at h
  | top => simp at h
  | coe r => exact ⟨r, rfl⟩

/-- The bits of infinity. -/
theorem ofBits_inf : Ideal.ofBits .f32 0x7F800000#32 = ⊤ := by
  simp [Ideal.ofBits, Ideal.ieee]

/-- The precondition's comparison, read at an entry. -/
theorem real_of_bit {s : Shape} (x : FVec Ideal s .f32) (y : FVec Ideal s .f32) (hy : ∀ i, y i = ⊤)
    (h : cmpf .olt (Host.absf x) y = fun _ => 1#1) (i : s.Idx) : IsReal (x i) := by
  have h' := congrFun h i
  apply real_of_lt
  have e : cmpf .olt (Host.absf x) y i = BitVec.ofBool (decide (max (x i) (-x i) < y i)) := rfl
  rw [e, hy] at h'
  by_contra hn
  rw [decide_eq_false hn] at h'
  exact absurd h' (by decide)

end Cert.Mla

end
-- ==== Proof.Mla.Result.lean ====
/- The attention kernel's result array over the arguments, under the precondition. -/
module

public import proofs.«01_k».proof.Defs
public import proofs.«01_k».proof.Proof.Mla.Equation

@[expose] public section

set_option maxRecDepth 16384

noncomputable section

open Idealize.ShloMosaic Idealize.ShloMosaic.TcCoe Idealize.SL.Sem

/-- The broadcasts of the precondition. -/
theorem Cert.Mla.preFacts : Cert.Pre_finite_queries_keys.Facts where
  bcast_S_S8x4096x4x96 := by decide
  bcast_S_S8x256x4x96 := by decide

namespace Cert.KernelIdeal.Mla

open Cert.KernelIdeal Cert.KernelIdeal.Gen Cert.Mla

variable (m : (ℓ : Loc nD τ sig) → Buf (Elt Ideal) ℓ)

/-- Under the precondition the kernel's result array is the reference's value of the arguments. -/
theorem result (hpre : @Cert.Pre_KernelIdeal_finite_queries_keys Cert.Mla.preFacts m) (c : Dev nD) :
    (dats m 0 c).arrAt 3 cfg0.N
      = Cert.ReferenceIdeal.Read.val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  obtain ⟨h0, h1, h3, h4⟩ := hpre c
  have r0 := real_of_bit _ _ (fun _ => ofBits_inf) h0
  have r1 := real_of_bit _ _ (fun _ => ofBits_inf) h1
  have r3 := real_of_bit _ _ (fun _ => ofBits_inf) h3
  have r4 := real_of_bit _ _ (fun _ => ofBits_inf) h4
  have key := attended_eq _ _ _ _ _ _ (qArr m c) (kArr m c) (vArr m c) (q_at m c) (k_at m c) (v_at m c) r0 r1 r3 r4
  rw [final m c]
  funext i
  have e : i = ix3 (i 0) (i 1) (i 2) := by
    funext z
    fin_cases z <;> rfl
  rw [e]
  exact key (i 0) (i 1) (i 2)

end Cert.KernelIdeal.Mla

end
-- ==== Proof.Proj.Row.lean ====
/- One number of the input projection: a row normalised, scaled and shifted, and its product with one column. -/
module

public import Idealize.ShloMosaic.PureOps.Ideal
public import Idealize.ShloMosaic.PureOps.Ideal.Laws
public import Idealize.ShloMosaic.Lib.IdealHost

@[expose] public section

noncomputable section

namespace Cert.Proj

open Idealize.ShloMosaic

/-- A row `x` over the root of its mean square, times `g`, times one more than `sc`, plus `sh`, multiplied with column `w`. -/
def rowZ (x g sc sh w : Fin 1024 → EReal) : EReal :=
  ∑ d, (x d * Ideal.rsqrt ((∑ k, x k * x k) * Ideal.ofBits .f32 0x3A800000#32 + Ideal.ofBits .f32 0x358637BD#32) * g d * (1 + sc d) + sh d) * w d

/-- A column of zeros gives zero. -/
theorem rowZ_zero (x g sc sh : Fin 1024 → EReal) : rowZ x g sc sh (fun _ => 0) = 0 := by
  unfold rowZ
  simp

theorem ofBits_1024 : Ideal.ofBits .f32 0x44800000#32 = ((1024 : ℝ) : EReal) := by
  simp [Ideal.ofBits, Ideal.ieee, -EReal.coe_mul, Nat.shiftRight_eq_div_pow, BitVec.extractLsb']
  norm_num [Nat.shiftRight_eq_div_pow]

theorem ofBits_inv1024 : Ideal.ofBits .f32 0x3A800000#32 = ((1 / 1024 : ℝ) : EReal) := by
  simp [Ideal.ofBits, Ideal.ieee, -EReal.coe_mul, Nat.shiftRight_eq_div_pow, BitVec.extractLsb']
  norm_num [Nat.shiftRight_eq_div_pow]

/-- Division by 1024 is multiplication with its inverse. -/
theorem div_1024 (s : EReal) : Ideal.div s (Ideal.ofBits .f32 0x44800000#32) = s * Ideal.ofBits .f32 0x3A800000#32 := by
  rw [ofBits_1024, Ideal.div_coe (by norm_num), ofBits_inv1024]

end Cert.Proj

end
-- ==== Proof.Proj.Block.lean ====
/- The products of the projection kernel's block, read at a row and a column. -/
module

public import proofs.«01_k».proof.Proof.Gen.Kernel2Ideal.Frame
public import proofs.«01_k».proof.Proof.Proj.Row
public import Idealize.ShloMosaic.Lib.Pointwise

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

/-- A block's product at row `r` and column `n`. -/
theorem pay50_at (x : FVec Ideal S256x1024 .f32) (md : FVec Ideal S1x1x6x1024 .f32) (g : FVec Ideal S1x1024 .f32)
    (w : FVec Ideal S1024x3328 .bf16) (ta tb : FVec Ideal S3x256x128 .f32) (qg : FVec Ideal S1x256 .f32) (uq : FVec Ideal S256x512 .bf16)
    (kg : FVec Ideal S1x128 .f32) (uk : FVec Ideal S128x1024 .bf16) (r : Fin 256) (n : Fin 3328) :
    k0_pay50 (F := Ideal) x md g w ta tb qg uq kg uk (ix2 r n)
      = rowZ (fun d => x (ix2 r d)) (fun d => g (ix2 0 d)) (fun d => md (ix4 0 0 1 d)) (fun d => md (ix4 0 0 0 d)) (fun d => w (ix2 d n)) := by
  unfold rowZ
  pointwise [k0_pay50, k0_pay2]

theorem pay16_at (z : FVec Ideal S256x3328 .f32) (r a : Fin 256) : k0_pay16 z (ix3 0 r a) = z (ix2 r ⟨768 + a, by omega⟩) := by
  pointwise [k0_pay16]

theorem pay46_at (z : FVec Ideal S256x3328 .f32) (r a : Fin 256) : k0_pay46 z (ix2 r a) = z (ix2 r ⟨1536 + a, by omega⟩) := by
  pointwise [k0_pay46]

theorem pay47_at (z : FVec Ideal S256x3328 .f32) (r : Fin 256) (a : Fin 512) :
    k0_pay47 z (ix3 0 r a) = z (ix2 r ⟨1792 + a, by omega⟩) * Ideal.ofBits .f32 0x3E000000#32 := by
  pointwise [k0_pay47]

theorem pay48_at (z : FVec Ideal S256x3328 .f32) (r : Fin 256) (a : Fin 512) : k0_pay48 z (ix3 0 r a) = z (ix2 r ⟨2304 + a, by omega⟩) := by
  pointwise [k0_pay48]

theorem pay49_at (z : FVec Ideal S256x3328 .f32) (r : Fin 256) (a : Fin 512) :
    k0_pay1 (k0_pay49 z) (ix3 0 r a) = z (ix2 r ⟨2816 + a, by omega⟩) := by
  pointwise [k0_pay1, k0_pay49]

end Cert.Kernel2Ideal.Proj

end
-- ==== Proof.Proj.Host.lean ====
/- The arrays the host prepares for the projection kernel. -/
module

public import proofs.«01_k».proof.Proof.Proj.Block
public import proofs.«01_k».proof.Proof.Gen.Kernel2Ideal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

/-- The latent rows, then the context rows. -/
def rowsCat (x : FVec Ideal S32768x1024 .f32) (y : FVec Ideal S2048x1024 .f32) : FVec Ideal S34816x1024 .f32 :=
  concatenate S34816x1024 0 [⟨S32768x1024, x⟩, ⟨S2048x1024, y⟩] concatenates_S32768x1024_S2048x1024_S34816x1024_d0

/-- The context's modulation, then the latent's. -/
def modCat (x y : FVec Ideal S8x1x6x1024 .f32) : FVec Ideal S8x2x6x1024 .f32 :=
  concatenate S8x2x6x1024 1 [⟨S8x1x6x1024, x⟩, ⟨S8x1x6x1024, y⟩] concatenates_S8x1x6x1024_S8x1x6x1024_S8x2x6x1024_d1

/-- The ten stretches of columns. -/
def colsCat (p0 : FVec Ideal S1024x512 .f32) (p1 p2 p3 : FVec Ideal S1024x256 .f32) (p4 p5 : FVec Ideal S1024x128 .f32)
    (p6 : FVec Ideal S1024x256 .f32) (p7 p8 p9 : FVec Ideal S1024x512 .f32) : FVec Ideal S1024x3328 .f32 :=
  concatenate S1024x3328 1 [⟨S1024x512, p0⟩, ⟨S1024x256, p1⟩, ⟨S1024x256, p2⟩, ⟨S1024x256, p3⟩, ⟨S1024x128, p4⟩, ⟨S1024x128, p5⟩,
    ⟨S1024x256, p6⟩, ⟨S1024x512, p7⟩, ⟨S1024x512, p8⟩, ⟨S1024x512, p9⟩]
    concatenates_S1024x512_S1024x256_S1024x256_S1024x256_S1024x128_S1024x128_S1024x256_S1024x512_S1024x512_S1024x512_S1024x3328_d1

/-- The rotary column block: zeros, the 32 columns, zeros. -/
def ropeCat (p0 : FVec Ideal S1024x64 .f32) (p1 p2 : FVec Ideal S1024x32 .f32) : FVec Ideal S1024x128 .f32 :=
  concatenate S1024x128 1 [⟨S1024x64, p0⟩, ⟨S1024x32, p1⟩, ⟨S1024x32, p2⟩] concatenates_S1024x64_S1024x32_S1024x32_S1024x128_d1

/-- The padding number. -/
def padNum : FVec Ideal S_ .f32 := sitofp .f32 (constantI S_ 32 0#32)

/-- Four groups of 64 columns in slots of 128. -/
def slots4 (x : FVec Ideal S1024x256 .f32) : FVec Ideal S1024x512 .f32 :=
  shapeCast S1024x512 (pad S1024x4x128 ![0, 0, 0] ![0, 0, 64] ![0, 0, 0] (shapeCast S1024x4x64 x shapeCasts_S1024x256_S1024x4x64) padNum
    pads_S1024x4x64_S1024x4x128_000_000_0640 h_S_) shapeCasts_S1024x4x128_S1024x512

/-- Two groups of 64 columns in slots of 128. -/
def slots2 (x : FVec Ideal S1024x128 .f32) : FVec Ideal S1024x256 .f32 :=
  shapeCast S1024x256 (pad S1024x2x128 ![0, 0, 0] ![0, 0, 64] ![0, 0, 0] (shapeCast S1024x2x64 x shapeCasts_S1024x128_S1024x2x64) padNum
    pads_S1024x2x64_S1024x2x128_000_000_0640 h_S_) shapeCasts_S1024x2x128_S1024x256

variable (m : (ℓ : Loc nD τ sig) → Buf (Elt Ideal) ℓ)

/-- The rows of the projection kernel. -/
def xArr (c : Dev nD) : FVec Ideal S34816x1024 .f32 := V m c main_v100

/-- The modulation of the projection kernel. -/
def mArr (c : Dev nD) : FVec Ideal S8x2x6x1024 .f32 := V m c main_v5

/-- The norm's gains. -/
def gArr (c : Dev nD) : FVec Ideal S1x1024 .f32 := V m c main_v156

/-- The columns of the projection kernel. -/
def wArr (c : Dev nD) : FVec Ideal S1024x3328 .bf16 := V m c main_v134

theorem V_x (c : Dev nD) : xArr m c
    = rowsCat (shapeCast S32768x1024 (m ((c : Thread nD τ).loc main_arg0) : FVec Ideal S8x4096x1024 .f32) shapeCasts_S8x4096x1024_S32768x1024)
        (shapeCast S2048x1024 (m ((c : Thread nD τ).loc main_arg1) : FVec Ideal S8x256x1024 .f32) shapeCasts_S8x256x1024_S2048x1024) := by
  unfold xArr V
  simp only [List.flatten_cons, List.flatten_nil, List.append_nil]
  after_reads_simp
  show rowsCat _ _ = _
  after_reads_simp
  rfl

theorem V_g (c : Dev nD) : gArr m c
    = shapeCast S1x1024 (m ((c : Thread nD τ).loc main_arg4) : FVec Ideal S1024 .f32) shapeCasts_S1024_S1x1024 := by
  unfold gArr V
  simp only [List.flatten_cons, List.flatten_nil, List.append_nil]
  after_reads_simp
  rfl

theorem V_m (c : Dev nD) : mArr m c
    = modCat (broadcastInDim S8x1x6x1024 ![0, 2, 3] bcast_S8x6x1024_S8x1x6x1024_0_2_3 (broadcastInDim S8x6x1024 ![0, 1, 2] bcast_S1x6x1024_S8x6x1024_0_1_2
        (shapeCast S1x6x1024 (m ((c : Thread nD τ).loc main_arg3) : FVec Ideal S6144 .f32) shapeCasts_S6144_S1x6x1024)))
        (broadcastInDim S8x1x6x1024 ![0, 2, 3] bcast_S8x6x1024_S8x1x6x1024_0_2_3 (shapeCast S8x6x1024 (m ((c : Thread nD τ).loc main_arg2) : FVec Ideal S8x6144 .f32) shapeCasts_S8x6144_S8x6x1024)) := by
  unfold mArr V
  simp only [List.flatten_cons, List.flatten_nil, List.append_nil]
  after_reads_simp
  show modCat _ _ = _
  after_reads_simp
  rfl

/-- The columns, out of the weights. -/
def colsOf (w : FVec Ideal S1024x1888 .f32) : FVec Ideal S1024x3328 .f32 :=
  colsCat (slots4 (extractStridedSlice S1024x256 ![0, 0] w slices_S1024x1888_S1024x256_0_0))
    (slots2 (extractStridedSlice S1024x128 ![0, 256] w slices_S1024x1888_S1024x128_0_256))
    (slots2 (extractStridedSlice S1024x128 ![0, 384] w slices_S1024x1888_S1024x128_0_384))
    (pad S1024x256 ![0, 0] ![0, 64] ![0, 0] (extractStridedSlice S1024x192 ![0, 512] w slices_S1024x1888_S1024x192_0_512) padNum pads_S1024x192_S1024x256_000_0640 h_S_)
    (extractStridedSlice S1024x128 ![0, 704] w slices_S1024x1888_S1024x128_0_704)
    (ropeCat (broadcastInDim S1024x64 ![] bcast_S_S1024x64 (constant S_ .f32 0x00000000#32))
      (extractStridedSlice S1024x32 ![0, 832] w slices_S1024x1888_S1024x32_0_832)
      (broadcastInDim S1024x32 ![] bcast_S_S1024x32 (constant S_ .f32 0x00000000#32)))
    (extractStridedSlice S1024x256 ![0, 864] w slices_S1024x1888_S1024x256_0_864)
    (slots4 (extractStridedSlice S1024x256 ![0, 1120] w slices_S1024x1888_S1024x256_0_1120))
    (slots4 (extractStridedSlice S1024x256 ![0, 1376] w slices_S1024x1888_S1024x256_0_1376))
    (slots4 (extractStridedSlice S1024x256 ![0, 1632] w slices_S1024x1888_S1024x256_0_1632))

theorem V_w (c : Dev nD) : wArr m c = truncf .bf16 (colsOf (m ((c : Thread nD τ).loc main_arg5))) bitsLt_bf16_f32 := by
  unfold wArr V
  simp only [List.flatten_cons, List.flatten_nil, List.append_nil]
  after_reads_simp
  show truncf .bf16 (colsCat _ _ _ _ _ _ _ _ _ _) bitsLt_bf16_f32 = _
  dsimp only [Matrix.cons_val]
  after_reads_simp
  show truncf .bf16 (colsCat _ _ _ _ _ (ropeCat _ _ _) _ _ _ _) bitsLt_bf16_f32 = _
  dsimp only [Matrix.cons_val]
  after_reads_simp
  rfl

end Cert.Kernel2Ideal.Proj
end
-- ==== Proof.Proj.Cols.lean ====
/- The arrays the host prepares for the projection kernel, read at an entry. -/
module

public import proofs.«01_k».proof.Proof.Proj.Host
public import proofs.«01_k».proof.Proof.Gen.Kernel2Ideal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

/-- The padding number is zero. -/
theorem padNum_at : (FloatOps.sitofp FTy.f32 0#32 : Ideal .f32) = (0 : EReal) := by
  show (((0#32 : BitVec 32).toInt : ℝ) : EReal) = 0
  simp

/-- Slots of 128 columns at a column. -/
theorem slots4_at (x : FVec Ideal S1024x256 .f32) (d : Fin 1024) (a : Fin 512) :
    slots4 x (ix2 d a) = if h : (a : ℕ) % 128 < 64 then x (ix2 d ⟨a / 128 * 64 + a % 128, by omega⟩) else 0 := by
  by_cases h : (a : ℕ) % 128 < 64
  · rw [dif_pos h]
    pointwise [slots4, padNum]
    rw [dif_pos (by omega)]
  · rw [dif_neg h]
    pointwise [slots4, padNum]
    rw [dif_neg (by omega), padNum_at]

/-- Slots of 128 columns at a column. -/
theorem slots2_at (x : FVec Ideal S1024x128 .f32) (d : Fin 1024) (a : Fin 256) :
    slots2 x (ix2 d a) = if h : (a : ℕ) % 128 < 64 then x (ix2 d ⟨a / 128 * 64 + a % 128, by omega⟩) else 0 := by
  by_cases h : (a : ℕ) % 128 < 64
  · rw [dif_pos h]
    pointwise [slots2, padNum]
    rw [dif_pos (by omega)]
  · rw [dif_neg h]
    pointwise [slots2, padNum]
    rw [dif_neg (by omega), padNum_at]

section Columns

variable (p0 : FVec Ideal S1024x512 .f32) (p1 p2 p3 : FVec Ideal S1024x256 .f32) (p4 p5 : FVec Ideal S1024x128 .f32)
  (p6 : FVec Ideal S1024x256 .f32) (p7 p8 p9 : FVec Ideal S1024x512 .f32)

theorem colsCat_0 (d : Fin 1024) (a : Fin 512) : colsCat p0 p1 p2 p3 p4 p5 p6 p7 p8 p9 (ix2 d ⟨0 + a.val, by omega⟩) = p0 (ix2 d a) := by
  pointwise [colsCat]

theorem colsCat_1 (d : Fin 1024) (a : Fin 256) : colsCat p0 p1 p2 p3 p4 p5 p6 p7 p8 p9 (ix2 d ⟨512 + a.val, by omega⟩) = p1 (ix2 d a) := by
  pointwise [colsCat]

theorem colsCat_2 (d : Fin 1024) (a : Fin 256) : colsCat p0 p1 p2 p3 p4 p5 p6 p7 p8 p9 (ix2 d ⟨768 + a.val, by omega⟩) = p2 (ix2 d a) := by
  pointwise [colsCat]
  rw [dif_neg (by omega), dif_neg (by omega), dif_pos (by omega)]
  exact congrArg (fun n => p2 (ix2 d n)) (Fin.ext (by dsimp only; omega))

theorem colsCat_3 (d : Fin 1024) (a : Fin 256) : colsCat p0 p1 p2 p3 p4 p5 p6 p7 p8 p9 (ix2 d ⟨1024 + a.val, by omega⟩) = p3 (ix2 d a) := by
  pointwise [colsCat]
  rw [dif_neg (by omega), dif_neg (by omega), dif_neg (by omega), dif_pos (by omega)]
  exact congrArg (fun n => p3 (ix2 d n)) (Fin.ext (by dsimp only; omega))

theorem colsCat_4 (d : Fin 1024) (a : Fin 128) : colsCat p0 p1 p2 p3 p4 p5 p6 p7 p8 p9 (ix2 d ⟨1280 + a.val, by omega⟩) = p4 (ix2 d a) := by
  pointwise [colsCat]
  rw [dif_neg (by omega), dif_neg (by omega), dif_neg (by omega), dif_neg (by omega), dif_pos (by omega)]
  exact congrArg (fun n => p4 (ix2 d n)) (Fin.ext (by dsimp only; omega))

theorem colsCat_5 (d : Fin 1024) (a : Fin 128) : colsCat p0 p1 p2 p3 p4 p5 p6 p7 p8 p9 (ix2 d ⟨1408 + a.val, by omega⟩) = p5 (ix2 d a) := by
  pointwise [colsCat]
  rw [dif_neg (by omega), dif_neg (by omega), dif_neg (by omega), dif_neg (by omega), dif_neg (by omega), dif_pos (by omega)]
  exact congrArg (fun n => p5 (ix2 d n)) (Fin.ext (by dsimp only; omega))

theorem colsCat_6 (d : Fin 1024) (a : Fin 256) : colsCat p0 p1 p2 p3 p4 p5 p6 p7 p8 p9 (ix2 d ⟨1536 + a.val, by omega⟩) = p6 (ix2 d a) := by
  pointwise [colsCat]
  rw [dif_neg (by omega), dif_neg (by omega), dif_neg (by omega), dif_neg (by omega), dif_neg (by omega), dif_neg (by omega), dif_pos (by omega)]
  exact congrArg (fun n => p6 (ix2 d n)) (Fin.ext (by dsimp only; omega))

theorem colsCat_7 (d : Fin 1024) (a : Fin 512) : colsCat p0 p1 p2 p3 p4 p5 p6 p7 p8 p9 (ix2 d ⟨1792 + a.val, by omega⟩) = p7 (ix2 d a) := by
  pointwise [colsCat]
  rw [dif_neg (by omega), dif_neg (by omega), dif_neg (by omega), dif_neg (by omega), dif_neg (by omega), dif_neg (by omega), dif_neg (by omega), dif_pos (by omega)]
  exact congrArg (fun n => p7 (ix2 d n)) (Fin.ext (by dsimp only; omega))

theorem colsCat_8 (d : Fin 1024) (a : Fin 512) : colsCat p0 p1 p2 p3 p4 p5 p6 p7 p8 p9 (ix2 d ⟨2304 + a.val, by omega⟩) = p8 (ix2 d a) := by
  pointwise [colsCat]
  rw [dif_neg (by omega), dif_neg (by omega), dif_neg (by omega), dif_neg (by omega), dif_neg (by omega), dif_neg (by omega), dif_neg (by omega), dif_neg (by omega), dif_pos (by omega)]
  exact congrArg (fun n => p8 (ix2 d n)) (Fin.ext (by dsimp only; omega))

theorem colsCat_9 (d : Fin 1024) (a : Fin 512) : colsCat p0 p1 p2 p3 p4 p5 p6 p7 p8 p9 (ix2 d ⟨2816 + a.val, by omega⟩) = p9 (ix2 d a) := by
  pointwise [colsCat]
  rw [dif_neg (by omega), dif_neg (by omega), dif_neg (by omega), dif_neg (by omega), dif_neg (by omega), dif_neg (by omega), dif_neg (by omega), dif_neg (by omega), dif_neg (by omega)]
  exact congrArg (fun n => p9 (ix2 d n)) (Fin.ext (by dsimp only; omega))

end Columns

/-- The row of the stacked rows that holds row `s` of batch `b`: the context's rows come last. -/
def streamRow (b : Fin 8) (s : Fin 4352) : Fin 34816 :=
  if h : (s : ℕ) < 256 then ⟨32768 + b * 256 + s, by omega⟩ else ⟨b * 4096 + (s - 256), by omega⟩

/-- Zero for a context row, one for a latent row. -/
def side (s : Fin 4352) : Fin 2 := if (s : ℕ) < 256 then 0 else 1

theorem rowsCat_early (x : FVec Ideal S8x4096x1024 .f32) (y : FVec Ideal S8x256x1024 .f32) (b : Fin 8) (s : Fin 256) (d : Fin 1024) :
    rowsCat (shapeCast S32768x1024 x shapeCasts_S8x4096x1024_S32768x1024) (shapeCast S2048x1024 y shapeCasts_S8x256x1024_S2048x1024)
      (ix2 ⟨32768 + b * 256 + s, by omega⟩ d) = y (ix3 b s d) := by
  pointwise [rowsCat]
  rw [dif_neg (by omega)]
  exact congrArg₂ (fun p q => y (ix3 p q d)) (Fin.ext (by dsimp only; omega)) (Fin.ext (by dsimp only; omega))

theorem rowsCat_late (x : FVec Ideal S8x4096x1024 .f32) (y : FVec Ideal S8x256x1024 .f32) (b : Fin 8) (s : Fin 4096) (d : Fin 1024) :
    rowsCat (shapeCast S32768x1024 x shapeCasts_S8x4096x1024_S32768x1024) (shapeCast S2048x1024 y shapeCasts_S8x256x1024_S2048x1024)
      (ix2 ⟨b * 4096 + s, by omega⟩ d) = x (ix3 b s d) := by
  pointwise [rowsCat]
  rw [dif_pos (by omega)]

theorem modCat_early (x : FVec Ideal S6144 .f32) (y : FVec Ideal S8x6144 .f32) (b : Fin 8) (k : Fin 6) (d : Fin 1024) :
    modCat (broadcastInDim S8x1x6x1024 ![0, 2, 3] bcast_S8x6x1024_S8x1x6x1024_0_2_3 (broadcastInDim S8x6x1024 ![0, 1, 2] bcast_S1x6x1024_S8x6x1024_0_1_2
        (shapeCast S1x6x1024 x shapeCasts_S6144_S1x6x1024)))
      (broadcastInDim S8x1x6x1024 ![0, 2, 3] bcast_S8x6x1024_S8x1x6x1024_0_2_3 (shapeCast S8x6x1024 y shapeCasts_S8x6144_S8x6x1024)) (ix4 b 0 k d)
      = x (ix1 ⟨k * 1024 + d, by omega⟩) := by
  pointwise [modCat]

theorem modCat_late (x : FVec Ideal S6144 .f32) (y : FVec Ideal S8x6144 .f32) (b : Fin 8) (k : Fin 6) (d : Fin 1024) :
    modCat (broadcastInDim S8x1x6x1024 ![0, 2, 3] bcast_S8x6x1024_S8x1x6x1024_0_2_3 (broadcastInDim S8x6x1024 ![0, 1, 2] bcast_S1x6x1024_S8x6x1024_0_1_2
        (shapeCast S1x6x1024 x shapeCasts_S6144_S1x6x1024)))
      (broadcastInDim S8x1x6x1024 ![0, 2, 3] bcast_S8x6x1024_S8x1x6x1024_0_2_3 (shapeCast S8x6x1024 y shapeCasts_S8x6144_S8x6x1024)) (ix4 b 1 k d)
      = y (ix2 b ⟨k * 1024 + d, by omega⟩) := by
  pointwise [modCat]

theorem gains_at (x : FVec Ideal S1024 .f32) (d : Fin 1024) : shapeCast S1x1024 x shapeCasts_S1024_S1x1024 (ix2 0 d) = x (ix1 d) := by
  pointwise

variable (m : (ℓ : Loc nD τ sig) → Buf (Elt Ideal) ℓ)

theorem m_early (c : Dev nD) (b : Fin 8) (k : Fin 6) (d : Fin 1024) :
    mArr m c (ix4 b 0 k d) = (m ((c : Thread nD τ).loc main_arg3) : FVec Ideal S6144 .f32) (ix1 ⟨k * 1024 + d, by omega⟩) := by
  rw [V_m]
  exact modCat_early _ _ b k d

theorem m_late (c : Dev nD) (b : Fin 8) (k : Fin 6) (d : Fin 1024) :
    mArr m c (ix4 b 1 k d) = (m ((c : Thread nD τ).loc main_arg2) : FVec Ideal S8x6144 .f32) (ix2 b ⟨k * 1024 + d, by omega⟩) := by
  rw [V_m]
  exact modCat_late _ _ b k d

theorem g_at (c : Dev nD) (d : Fin 1024) : gArr m c (ix2 0 d) = (m ((c : Thread nD τ).loc main_arg4) : FVec Ideal S1024 .f32) (ix1 d) := by
  rw [V_g]
  exact gains_at _ d

end Cert.Kernel2Ideal.Proj

end
-- ==== Proof.Proj.Array.lean ====
/- What the projection kernel's result arrays hold after the run, over the arrays the host prepared. -/
module

public import proofs.«01_k».proof.Proof.Proj.Cols
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Proj

/-- The product of row `s` of batch `b` with column `n`. -/
def zK (X : FVec Ideal S34816x1024 .f32) (M : FVec Ideal S8x2x6x1024 .f32) (G : FVec Ideal S1x1024 .f32) (W : FVec Ideal S1024x3328 .bf16)
    (b : Fin 8) (s : Fin 4352) (n : Fin 3328) : EReal :=
  rowZ (fun d => X (ix2 (streamRow b s) d)) (fun d => G (ix2 0 d)) (fun d => M (ix4 b (side s) 1 d)) (fun d => M (ix4 b (side s) 0 d))
    (fun d => W (ix2 d n))

variable (m : (ℓ : Loc nD τ sig) → Buf (Elt Ideal) ℓ)

/-- The block of rows a grid point is given. -/
def xBlk (c : Dev nD) (t : Fin cfg0.N) : FVec Ideal S256x1024 .f32 := iblk m c 0 t

/-- The block of modulation a grid point is given. -/
def mBlk (c : Dev nD) (t : Fin cfg0.N) : FVec Ideal S1x1x6x1024 .f32 := iblk m c 1 t

/-- The gains a grid point is given. -/
def gBlk (c : Dev nD) (t : Fin cfg0.N) : FVec Ideal S1x1024 .f32 := iblk m c 2 t

/-- The columns a grid point is given. -/
def wBlk (c : Dev nD) (t : Fin cfg0.N) : FVec Ideal S1024x3328 .bf16 := iblk m c 3 t

/-- A grid point's block of rows and of modulation: the context's at the first point of a batch. -/
theorem idx_early : ∀ t : Fin cfg0.N, t.val % 17 = 0 → win0_0.index t = ![128 + t.val / 17, 0] ∧ win0_1.index t = ![t.val / 17, 0, 0, 0] :=
  (by decide +kernel : ∀ t : Fin grid0.N, _)

/-- A grid point's block of rows and of modulation: the latent's at the others. -/
theorem idx_late : ∀ t : Fin cfg0.N, ¬t.val % 17 = 0 → win0_0.index t = ![t.val / 17 * 16 + (t.val % 17 - 1), 0]
    ∧ win0_1.index t = ![t.val / 17, 1, 0, 0] :=
  (by decide +kernel : ∀ t : Fin grid0.N, _)

/-- A grid point's other blocks. -/
theorem idx : ∀ t : Fin cfg0.N, win0_2.index t = ![0, 0] ∧ win0_3.index t = ![0, 0] ∧ win0_12.index t = ![t.val / 17, t.val % 17, 0]
    ∧ win0_16.index t = ![t.val % 17, t.val / 17] ∧ win0_17.index t = ![t.val / 17, t.val % 17, 0]
    ∧ win0_18.index t = ![t.val / 17, t.val % 17, 0] ∧ win0_19.index t = ![t.val / 17, t.val % 17, 0] ∧ t.val / 17 < 8 :=
  (by decide +kernel : ∀ t : Fin grid0.N, _)

theorem emb0_early (t : Fin cfg0.N) (h : t.val % 17 = 0) (b : Fin 8) (s : Fin 4352) (r : Fin 256) (hb : (b : ℕ) = t.val / 17)
    (hs : (s : ℕ) = t.val % 17 * 256 + r) (x : Fin 1024) :
    ((cfg0.win 0).blk t).view.emb (ix2 r x) = ix2 ⟨32768 + b * 256 + s, by omega⟩ x := by
  blk_ext [idx_early t h]

theorem emb0_late (t : Fin cfg0.N) (h : ¬t.val % 17 = 0) (b : Fin 8) (s : Fin 4352) (r : Fin 256) (hb : (b : ℕ) = t.val / 17)
    (hs : (s : ℕ) = t.val % 17 * 256 + r) (x : Fin 1024) :
    ((cfg0.win 0).blk t).view.emb (ix2 r x) = ix2 ⟨b * 4096 + (s - 256), by omega⟩ x := by
  blk_ext [idx_late t h]

theorem emb0 (t : Fin cfg0.N) (b : Fin 8) (s : Fin 4352) (r : Fin 256) (hb : (b : ℕ) = t.val / 17)
    (hs : (s : ℕ) = t.val % 17 * 256 + r) (x : Fin 1024) : ((cfg0.win 0).blk t).view.emb (ix2 r x) = ix2 (streamRow b s) x := by
  unfold streamRow
  by_cases h : t.val % 17 = 0
  · rw [dif_pos (by omega)]
    exact emb0_early t h b s r hb hs x
  · rw [dif_neg (by omega)]
    exact emb0_late t h b s r hb hs x

theorem emb1_early (t : Fin cfg0.N) (h : t.val % 17 = 0) (b : Fin 8) (hb : (b : ℕ) = t.val / 17) (k : Fin 6) (x : Fin 1024) :
    ((cfg0.win 1).blk t).view.emb (ix4 0 0 k x) = ix4 b 0 k x := by
  blk_ext [idx_early t h]

theorem emb1_late (t : Fin cfg0.N) (h : ¬t.val % 17 = 0) (b : Fin 8) (hb : (b : ℕ) = t.val / 17) (k : Fin 6) (x : Fin 1024) :
    ((cfg0.win 1).blk t).view.emb (ix4 0 0 k x) = ix4 b 1 k x := by
  blk_ext [idx_late t h]

theorem emb1 (t : Fin cfg0.N) (b : Fin 8) (s : Fin 4352) (r : Fin 256) (hb : (b : ℕ) = t.val / 17)
    (hs : (s : ℕ) = t.val % 17 * 256 + r) (k : Fin 6) (x : Fin 1024) : ((cfg0.win 1).blk t).view.emb (ix4 0 0 k x) = ix4 b (side s) k x := by
  unfold side
  by_cases h : t.val % 17 = 0
  · rw [if_pos (by omega)]
    exact emb1_early t h b hb k x
  · rw [if_neg (by omega)]
    exact emb1_late t h b hb k x

theorem emb2 (t : Fin cfg0.N) (x : Fin 1024) : ((cfg0.win 2).blk t).view.emb (ix2 0 x) = ix2 0 x := by
  blk_ext [idx t]

theorem emb3 (t : Fin cfg0.N) (d : Fin 1024) (x : Fin 3328) : ((cfg0.win 3).blk t).view.emb (ix2 d x) = ix2 d x := by
  blk_ext [idx t]

theorem xBlk_at (c : Dev nD) (t : Fin cfg0.N) (b : Fin 8) (s : Fin 4352) (r : Fin 256) (hb : (b : ℕ) = t.val / 17)
    (hs : (s : ℕ) = t.val % 17 * 256 + r) (x : Fin 1024) : xBlk m c t (ix2 r x) = xArr m c (ix2 (streamRow b s) x) := by
  unfold xBlk xArr iblk
  have hz : (V m c main_v100 : FVec Ideal S34816x1024 .f32) = V m c (Pipeline.arrRef spec0 0) := rfl
  rw [hz]
  clear hz
  generalize V m c (Pipeline.arrRef spec0 0) = z
  have e := emb0 t b s r hb hs x
  rw [View.read, cast_eq, e]

theorem mBlk_at (c : Dev nD) (t : Fin cfg0.N) (b : Fin 8) (s : Fin 4352) (r : Fin 256) (hb : (b : ℕ) = t.val / 17)
    (hs : (s : ℕ) = t.val % 17 * 256 + r) (k : Fin 6) (x : Fin 1024) : mBlk m c t (ix4 0 0 k x) = mArr m c (ix4 b (side s) k x) := by
  unfold mBlk mArr iblk
  have hz : (V m c main_v5 : FVec Ideal S8x2x6x1024 .f32) = V m c (Pipeline.arrRef spec0 1) := rfl
  rw [hz]
  clear hz
  generalize V m c (Pipeline.arrRef spec0 1) = z
  have e := emb1 t b s r hb hs k x
  rw [View.read, cast_eq, e]

theorem gBlk_at (c : Dev nD) (t : Fin cfg0.N) (x : Fin 1024) : gBlk m c t (ix2 0 x) = gArr m c (ix2 0 x) := by
  unfold gBlk gArr iblk
  have hz : (V m c main_v156 : FVec Ideal S1x1024 .f32) = V m c (Pipeline.arrRef spec0 2) := rfl
  rw [hz]
  clear hz
  generalize V m c (Pipeline.arrRef spec0 2) = z
  have e := emb2 t x
  rw [View.read, cast_eq, e]

theorem wBlk_at (c : Dev nD) (t : Fin cfg0.N) (d : Fin 1024) (x : Fin 3328) : wBlk m c t (ix2 d x) = wArr m c (ix2 d x) := by
  unfold wBlk wArr iblk
  have hz : (V m c main_v134 : FVec Ideal S1024x3328 .bf16) = V m c (Pipeline.arrRef spec0 3) := rfl
  rw [hz]
  clear hz
  generalize V m c (Pipeline.arrRef spec0 3) = z
  have e := emb3 t d x
  rw [View.read, cast_eq, e]

/-- A grid point's product at an entry. -/
theorem z_at (c : Dev nD) (t : Fin cfg0.N) (b : Fin 8) (s : Fin 4352) (r : Fin 256) (hb : (b : ℕ) = t.val / 17)
    (hs : (s : ℕ) = t.val % 17 * 256 + r) (n : Fin 3328) :
    k0_pay50 (iblk m c 0 t) (iblk m c 1 t) (iblk m c 2 t) (iblk m c 3 t) (iblk m c 4 t) (iblk m c 5 t) (iblk m c 6 t) (iblk m c 7 t) (iblk m c 8 t) (iblk m c 9 t) (ix2 r n) = zK (xArr m c) (mArr m c) (gArr m c) (wArr m c) b s n := by
  refine (pay50_at (xBlk m c t) (mBlk m c t) (gBlk m c t) (wBlk m c t) _ _ _ _ _ _ r n).trans ?_
  unfold zK
  simp only [xBlk_at m c t b s r hb hs, mBlk_at m c t b s r hb hs, gBlk_at m c t, wBlk_at m c t]

/-- The array `va` over the arrays the host prepared. -/
def vaArr (X : FVec Ideal S34816x1024 .f32) (M : FVec Ideal S8x2x6x1024 .f32) (G : FVec Ideal S1x1024 .f32) (W : FVec Ideal S1024x3328 .bf16) :
    FVec Ideal S8x4352x256 .bf16 :=
  fun i => zK X M G W (i 0) (i 1) ⟨768 + (show Fin 256 from i 2).val, by omega⟩

theorem emb12 (t : Fin cfg0.N) (b : Fin 8) (s : Fin 4352) (r : Fin 256) (hb : (b : ℕ) = t.val / 17)
    (hs : (s : ℕ) = t.val % 17 * 256 + r) (a : Fin 256) :
    ((cfg0.win 12).blk t).view.emb (ix3 0 r a) = ix3 b s a := by
  blk_ext [idx t]

/-- What a point leaves at an entry of its block. -/
theorem outs12_at (c : Dev nD) (t : Fin cfg0.N) (b : Fin 8) (s : Fin 4352) (r : Fin 256) (hb : (b : ℕ) = t.val / 17)
    (hs : (s : ℕ) = t.val % 17 * 256 + r) (a : Fin 256) :
    out0_12 (iblk m c 0 t) (iblk m c 1 t) (iblk m c 2 t) (iblk m c 3 t) (iblk m c 4 t) (iblk m c 5 t) (iblk m c 6 t) (iblk m c 7 t) (iblk m c 8 t) (iblk m c 9 t) (ix3 0 r a)
      = vaArr (xArr m c) (mArr m c) (gArr m c) (wArr m c) (ix3 b s a) := by
  have hz := fun n => z_at m c t b s r hb hs n
  generalize iblk m c 0 t = x0 at hz ⊢
  generalize iblk m c 1 t = x1 at hz ⊢
  generalize iblk m c 2 t = x2 at hz ⊢
  generalize iblk m c 3 t = x3 at hz ⊢
  generalize iblk m c 4 t = x4 at hz ⊢
  generalize iblk m c 5 t = x5 at hz ⊢
  generalize iblk m c 6 t = x6 at hz ⊢
  generalize iblk m c 7 t = x7 at hz ⊢
  generalize iblk m c 8 t = x8 at hz ⊢
  generalize iblk m c 9 t = x9 at hz ⊢
  frame_out
  refine (pay16_at _ r a).trans ?_
  rw [hz]
  rfl

/-- The result array after the run. -/
theorem final12 (c : Dev nD) :
    (dats m 0 c).arrAt 12 cfg0.N = vaArr (xArr m c) (mArr m c) (gArr m c) (wArr m c) := by
  refine (dats m 0 c).arrAt_eq_of_covers 12 _ (by decide +kernel) fun t hf y => ?_
  have key : ∀ y : S1x256x256.Idx, out0_12 (iblk m c 0 t) (iblk m c 1 t) (iblk m c 2 t) (iblk m c 3 t) (iblk m c 4 t) (iblk m c 5 t) (iblk m c 6 t) (iblk m c 7 t) (iblk m c 8 t) (iblk m c 9 t) y
      = vaArr (xArr m c) (mArr m c) (gArr m c) (wArr m c) (((cfg0.win 12).blk t).view.emb y) := by
    intro y
    idx_vars y
    obtain rfl : y0 = 0 := Subsingleton.elim _ _
    have ht : t.val < 136 := t.isLt
    have e := emb12 t ⟨t.val / 17, by omega⟩ ⟨t.val % 17 * 256 + y1, by omega⟩ y1 rfl rfl y2
    rw [outs12_at m c t ⟨t.val / 17, by omega⟩ ⟨t.val % 17 * 256 + y1, by omega⟩ y1 rfl rfl y2]
    exact (congrArg (vaArr (xArr m c) (mArr m c) (gArr m c) (wArr m c)) e).symm
  rw [after0_12]
  generalize vaArr (xArr m c) (mArr m c) (gArr m c) (wArr m c) = G at key ⊢
  generalize out0_12 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- The array `cu` over the arrays the host prepared. -/
def cuArr (X : FVec Ideal S34816x1024 .f32) (M : FVec Ideal S8x2x6x1024 .f32) (G : FVec Ideal S1x1024 .f32) (W : FVec Ideal S1024x3328 .bf16) :
    FVec Ideal S4352x2048 .f32 :=
  fun i => zK X M G W ⟨(show Fin 2048 from i 1).val / 256, by omega⟩ (i 0) ⟨1536 + (show Fin 2048 from i 1).val % 256, by omega⟩

theorem emb16 (t : Fin cfg0.N) (b : Fin 8) (s : Fin 4352) (r : Fin 256) (hb : (b : ℕ) = t.val / 17)
    (hs : (s : ℕ) = t.val % 17 * 256 + r) (a : Fin 256) :
    ((cfg0.win 16).blk t).view.emb (ix2 r a) = ix2 s ⟨b * 256 + a, by omega⟩ := by
  blk_ext [idx t]

/-- What a point leaves at an entry of its block. -/
theorem outs16_at (c : Dev nD) (t : Fin cfg0.N) (b : Fin 8) (s : Fin 4352) (r : Fin 256) (hb : (b : ℕ) = t.val / 17)
    (hs : (s : ℕ) = t.val % 17 * 256 + r) (a : Fin 256) :
    out0_16 (iblk m c 0 t) (iblk m c 1 t) (iblk m c 2 t) (iblk m c 3 t) (iblk m c 4 t) (iblk m c 5 t) (iblk m c 6 t) (iblk m c 7 t) (iblk m c 8 t) (iblk m c 9 t) (ix2 r a)
      = cuArr (xArr m c) (mArr m c) (gArr m c) (wArr m c) (ix2 s ⟨b * 256 + a, by omega⟩) := by
  have hz := fun n => z_at m c t b s r hb hs n
  generalize iblk m c 0 t = x0 at hz ⊢
  generalize iblk m c 1 t = x1 at hz ⊢
  generalize iblk m c 2 t = x2 at hz ⊢
  generalize iblk m c 3 t = x3 at hz ⊢
  generalize iblk m c 4 t = x4 at hz ⊢
  generalize iblk m c 5 t = x5 at hz ⊢
  generalize iblk m c 6 t = x6 at hz ⊢
  generalize iblk m c 7 t = x7 at hz ⊢
  generalize iblk m c 8 t = x8 at hz ⊢
  generalize iblk m c 9 t = x9 at hz ⊢
  frame_out
  refine (pay46_at _ r a).trans ?_
  rw [hz]
  have e1 : (⟨((⟨b * 256 + a, by omega⟩ : Fin 2048)).val / 256, by omega⟩ : Fin 8) = b := Fin.ext (by dsimp only; omega)
  have e2 : (⟨1536 + ((⟨b * 256 + a, by omega⟩ : Fin 2048)).val % 256, by omega⟩ : Fin 3328) = ⟨1536 + a, by omega⟩ := Fin.ext (by dsimp only; omega)
  show _ = zK _ _ _ _ _ s _
  exact congrArg₂ (fun p q => zK (xArr m c) (mArr m c) (gArr m c) (wArr m c) p s q) e1.symm e2.symm

/-- The result array after the run. -/
theorem final16 (c : Dev nD) :
    (dats m 0 c).arrAt 16 cfg0.N = cuArr (xArr m c) (mArr m c) (gArr m c) (wArr m c) := by
  refine (dats m 0 c).arrAt_eq_of_covers 16 _ (by decide +kernel) fun t hf y => ?_
  have key : ∀ y : S256x256.Idx, out0_16 (iblk m c 0 t) (iblk m c 1 t) (iblk m c 2 t) (iblk m c 3 t) (iblk m c 4 t) (iblk m c 5 t) (iblk m c 6 t) (iblk m c 7 t) (iblk m c 8 t) (iblk m c 9 t) y
      = cuArr (xArr m c) (mArr m c) (gArr m c) (wArr m c) (((cfg0.win 16).blk t).view.emb y) := by
    intro y
    idx_vars y
    have ht : t.val < 136 := t.isLt
    have e := emb16 t ⟨t.val / 17, by omega⟩ ⟨t.val % 17 * 256 + y0, by omega⟩ y0 rfl rfl y1
    rw [outs16_at m c t ⟨t.val / 17, by omega⟩ ⟨t.val % 17 * 256 + y0, by omega⟩ y0 rfl rfl y1]
    exact (congrArg (cuArr (xArr m c) (mArr m c) (gArr m c) (wArr m c)) e).symm
  rw [after0_16]
  generalize cuArr (xArr m c) (mArr m c) (gArr m c) (wArr m c) = G at key ⊢
  generalize out0_16 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- The array `qd` over the arrays the host prepared. -/
def qdArr (X : FVec Ideal S34816x1024 .f32) (M : FVec Ideal S8x2x6x1024 .f32) (G : FVec Ideal S1x1024 .f32) (W : FVec Ideal S1024x3328 .bf16) :
    FVec Ideal S8x4352x512 .bf16 :=
  fun i => zK X M G W (i 0) (i 1) ⟨1792 + (show Fin 512 from i 2).val, by omega⟩ * Ideal.ofBits .f32 0x3E000000#32

theorem emb17 (t : Fin cfg0.N) (b : Fin 8) (s : Fin 4352) (r : Fin 256) (hb : (b : ℕ) = t.val / 17)
    (hs : (s : ℕ) = t.val % 17 * 256 + r) (a : Fin 512) :
    ((cfg0.win 17).blk t).view.emb (ix3 0 r a) = ix3 b s a := by
  blk_ext [idx t]

/-- What a point leaves at an entry of its block. -/
theorem outs17_at (c : Dev nD) (t : Fin cfg0.N) (b : Fin 8) (s : Fin 4352) (r : Fin 256) (hb : (b : ℕ) = t.val / 17)
    (hs : (s : ℕ) = t.val % 17 * 256 + r) (a : Fin 512) :
    out0_17 (iblk m c 0 t) (iblk m c 1 t) (iblk m c 2 t) (iblk m c 3 t) (iblk m c 4 t) (iblk m c 5 t) (iblk m c 6 t) (iblk m c 7 t) (iblk m c 8 t) (iblk m c 9 t) (ix3 0 r a)
      = qdArr (xArr m c) (mArr m c) (gArr m c) (wArr m c) (ix3 b s a) := by
  have hz := fun n => z_at m c t b s r hb hs n
  generalize iblk m c 0 t = x0 at hz ⊢
  generalize iblk m c 1 t = x1 at hz ⊢
  generalize iblk m c 2 t = x2 at hz ⊢
  generalize iblk m c 3 t = x3 at hz ⊢
  generalize iblk m c 4 t = x4 at hz ⊢
  generalize iblk m c 5 t = x5 at hz ⊢
  generalize iblk m c 6 t = x6 at hz ⊢
  generalize iblk m c 7 t = x7 at hz ⊢
  generalize iblk m c 8 t = x8 at hz ⊢
  generalize iblk m c 9 t = x9 at hz ⊢
  frame_out
  refine (pay47_at _ r a).trans ?_
  rw [hz]
  rfl

/-- The result array after the run. -/
theorem final17 (c : Dev nD) :
    (dats m 0 c).arrAt 17 cfg0.N = qdArr (xArr m c) (mArr m c) (gArr m c) (wArr m c) := by
  refine (dats m 0 c).arrAt_eq_of_covers 17 _ (by decide +kernel) fun t hf y => ?_
  have key : ∀ y : S1x256x512.Idx, out0_17 (iblk m c 0 t) (iblk m c 1 t) (iblk m c 2 t) (iblk m c 3 t) (iblk m c 4 t) (iblk m c 5 t) (iblk m c 6 t) (iblk m c 7 t) (iblk m c 8 t) (iblk m c 9 t) y
      = qdArr (xArr m c) (mArr m c) (gArr m c) (wArr m c) (((cfg0.win 17).blk t).view.emb y) := by
    intro y
    idx_vars y
    obtain rfl : y0 = 0 := Subsingleton.elim _ _
    have ht : t.val < 136 := t.isLt
    have e := emb17 t ⟨t.val / 17, by omega⟩ ⟨t.val % 17 * 256 + y1, by omega⟩ y1 rfl rfl y2
    rw [outs17_at m c t ⟨t.val / 17, by omega⟩ ⟨t.val % 17 * 256 + y1, by omega⟩ y1 rfl rfl y2]
    exact (congrArg (qdArr (xArr m c) (mArr m c) (gArr m c) (wArr m c)) e).symm
  rw [after0_17]
  generalize qdArr (xArr m c) (mArr m c) (gArr m c) (wArr m c) = G at key ⊢
  generalize out0_17 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- The array `kd` over the arrays the host prepared. -/
def kdArr (X : FVec Ideal S34816x1024 .f32) (M : FVec Ideal S8x2x6x1024 .f32) (G : FVec Ideal S1x1024 .f32) (W : FVec Ideal S1024x3328 .bf16) :
    FVec Ideal S8x4352x512 .bf16 :=
  fun i => zK X M G W (i 0) (i 1) ⟨2304 + (show Fin 512 from i 2).val, by omega⟩

theorem emb18 (t : Fin cfg0.N) (b : Fin 8) (s : Fin 4352) (r : Fin 256) (hb : (b : ℕ) = t.val / 17)
    (hs : (s : ℕ) = t.val % 17 * 256 + r) (a : Fin 512) :
    ((cfg0.win 18).blk t).view.emb (ix3 0 r a) = ix3 b s a := by
  blk_ext [idx t]

/-- What a point leaves at an entry of its block. -/
theorem outs18_at (c : Dev nD) (t : Fin cfg0.N) (b : Fin 8) (s : Fin 4352) (r : Fin 256) (hb : (b : ℕ) = t.val / 17)
    (hs : (s : ℕ) = t.val % 17 * 256 + r) (a : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (ix3 0 r a)
      = kdArr (xArr m c) (mArr m c) (gArr m c) (wArr m c) (ix3 b s a) := by
  have hz := fun n => z_at m c t b s r hb hs n
  generalize iblk m c 0 t = x0 at hz ⊢
  generalize iblk m c 1 t = x1 at hz ⊢
  generalize iblk m c 2 t = x2 at hz ⊢
  generalize iblk m c 3 t = x3 at hz ⊢
  generalize iblk m c 4 t = x4 at hz ⊢
  generalize iblk m c 5 t = x5 at hz ⊢
  generalize iblk m c 6 t = x6 at hz ⊢
  generalize iblk m c 7 t = x7 at hz ⊢
  generalize iblk m c 8 t = x8 at hz ⊢
  generalize iblk m c 9 t = x9 at hz ⊢
  frame_out
  refine (pay48_at _ r a).trans ?_
  rw [hz]
  rfl

/-- The result array after the run. -/
theorem final18 (c : Dev nD) :
    (dats m 0 c).arrAt 18 cfg0.N = kdArr (xArr m c) (mArr m c) (gArr m c) (wArr m c) := by
  refine (dats m 0 c).arrAt_eq_of_covers 18 _ (by decide +kernel) fun t hf y => ?_
  have key : ∀ y : S1x256x512.Idx, out0_18 (iblk m c 0 t) (iblk m c 1 t) (iblk m c 2 t) (iblk m c 3 t) (iblk m c 4 t) (iblk m c 5 t) (iblk m c 6 t) (iblk m c 7 t) (iblk m c 8 t) (iblk m c 9 t) y
      = kdArr (xArr m c) (mArr m c) (gArr m c) (wArr m c) (((cfg0.win 18).blk t).view.emb y) := by
    intro y
    idx_vars y
    obtain rfl : y0 = 0 := Subsingleton.elim _ _
    have ht : t.val < 136 := t.isLt
    have e := emb18 t ⟨t.val / 17, by omega⟩ ⟨t.val % 17 * 256 + y1, by omega⟩ y1 rfl rfl y2
    rw [outs18_at m c t ⟨t.val / 17, by omega⟩ ⟨t.val % 17 * 256 + y1, by omega⟩ y1 rfl rfl y2]
    exact (congrArg (kdArr (xArr m c) (mArr m c) (gArr m c) (wArr m c)) e).symm
  rw [after0_18]
  generalize kdArr (xArr m c) (mArr m c) (gArr m c) (wArr m c) = G at key ⊢
  generalize out0_18 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- The array `vd` over the arrays the host prepared. -/
def vdArr (X : FVec Ideal S34816x1024 .f32) (M : FVec Ideal S8x2x6x1024 .f32) (G : FVec Ideal S1x1024 .f32) (W : FVec Ideal S1024x3328 .bf16) :
    FVec Ideal S8x4352x512 .bf16 :=
  fun i => zK X M G W (i 0) (i 1) ⟨2816 + (show Fin 512 from i 2).val, by omega⟩

theorem emb19 (t : Fin cfg0.N) (b : Fin 8) (s : Fin 4352) (r : Fin 256) (hb : (b : ℕ) = t.val / 17)
    (hs : (s : ℕ) = t.val % 17 * 256 + r) (a : Fin 512) :
    ((cfg0.win 19).blk t).view.emb (ix3 0 r a) = ix3 b s a := by
  blk_ext [idx t]

/-- What a point leaves at an entry of its block. -/
theorem outs19_at (c : Dev nD) (t : Fin cfg0.N) (b : Fin 8) (s : Fin 4352) (r : Fin 256) (hb : (b : ℕ) = t.val / 17)
    (hs : (s : ℕ) = t.val % 17 * 256 + r) (a : Fin 512) :
    out0_19 (iblk m c 0 t) (iblk m c 1 t) (iblk m c 2 t) (iblk m c 3 t) (iblk m c 4 t) (iblk m c 5 t) (iblk m c 6 t) (iblk m c 7 t) (iblk m c 8 t) (iblk m c 9 t) (ix3 0 r a)
      = vdArr (xArr m c) (mArr m c) (gArr m c) (wArr m c) (ix3 b s a) := by
  have hz := fun n => z_at m c t b s r hb hs n
  generalize iblk m c 0 t = x0 at hz ⊢
  generalize iblk m c 1 t = x1 at hz ⊢
  generalize iblk m c 2 t = x2 at hz ⊢
  generalize iblk m c 3 t = x3 at hz ⊢
  generalize iblk m c 4 t = x4 at hz ⊢
  generalize iblk m c 5 t = x5 at hz ⊢
  generalize iblk m c 6 t = x6 at hz ⊢
  generalize iblk m c 7 t = x7 at hz ⊢
  generalize iblk m c 8 t = x8 at hz ⊢
  generalize iblk m c 9 t = x9 at hz ⊢
  frame_out
  refine (pay49_at _ r a).trans ?_
  rw [hz]
  rfl

/-- The result array after the run. -/
theorem final19 (c : Dev nD) :
    (dats m 0 c).arrAt 19 cfg0.N = vdArr (xArr m c) (mArr m c) (gArr m c) (wArr m c) := by
  refine (dats m 0 c).arrAt_eq_of_covers 19 _ (by decide +kernel) fun t hf y => ?_
  have key : ∀ y : S1x256x512.Idx, out0_19 (iblk m c 0 t) (iblk m c 1 t) (iblk m c 2 t) (iblk m c 3 t) (iblk m c 4 t) (iblk m c 5 t) (iblk m c 6 t) (iblk m c 7 t) (iblk m c 8 t) (iblk m c 9 t) y
      = vdArr (xArr m c) (mArr m c) (gArr m c) (wArr m c) (((cfg0.win 19).blk t).view.emb y) := by
    intro y
    idx_vars y
    obtain rfl : y0 = 0 := Subsingleton.elim _ _
    have ht : t.val < 136 := t.isLt
    have e := emb19 t ⟨t.val / 17, by omega⟩ ⟨t.val % 17 * 256 + y1, by omega⟩ y1 rfl rfl y2
    rw [outs19_at m c t ⟨t.val / 17, by omega⟩ ⟨t.val % 17 * 256 + y1, by omega⟩ y1 rfl rfl y2]
    exact (congrArg (vdArr (xArr m c) (mArr m c) (gArr m c) (wArr m c)) e).symm
  rw [after0_19]
  generalize vdArr (xArr m c) (mArr m c) (gArr m c) (wArr m c) = G at key ⊢
  generalize out0_19 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

end Cert.Kernel2Ideal.Proj

end
-- ==== Proof.Proj.Reference.lean ====
/- The reference's input projection, read at an entry. -/
module

public import proofs.«01_k».proof.Proof.Gen.Reference2Ideal.Read
public import proofs.«01_k».proof.Proof.Proj.Row
public import Idealize.ShloMosaic.Lib.Pointwise

@[expose] public section

set_option maxRecDepth 16384

noncomputable section

open Idealize.ShloMosaic Idealize.ShloMosaic.TcCoe Idealize.SL.Sem

namespace Cert.Reference2Ideal.Proj

open Cert.Reference2Ideal Cert.Reference2Ideal.Gen Cert.Reference2Ideal.Read Cert.Proj

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x1888 .f32)

/-- A latent row's product with a column. -/
theorem v25_at (b : Fin 8) (s : Fin 4096) (n : Fin 1888) :
    val_main_v25 (F := Ideal) x0 x2 x4 x5 (ix3 b s n)
      = rowZ (fun d => x0 (ix3 b s d)) (fun d => x4 (ix1 d)) (fun d => x2 (ix2 b ⟨1024 + d.val, by omega⟩))
          (fun d => x2 (ix2 b ⟨d.val, by omega⟩)) (fun d => x5 (ix2 d n)) := by
  unfold rowZ
  pointwise [val_main_v25, val_main_v24, val_main_v23, val_main_v22, val_main_v21, val_main_v20, val_main_v19, val_main_cst_2,
    val_main_v18, val_main_v17, val_main_v16, val_main_v15, val_main_v14, val_main_v13, val_main_v12, val_main_v11, val_main_cst_1,
    val_main_v10, val_main_v9, val_main_cst_0, val_main_v8, val_main_v7, val_main_cst, val_main_v6, val_main_v3, val_main_v2,
    val_main_v1, val_main_v0]
  simp only [div_1024, zero_add]

/-- A context row's product with a column. -/
theorem v381_at (b : Fin 8) (s : Fin 256) (n : Fin 1888) :
    val_main_v381 (F := Ideal) x1 x3 x4 x5 (ix3 b s n)
      = rowZ (fun d => x1 (ix3 b s d)) (fun d => x4 (ix1 d)) (fun d => x3 (ix1 ⟨1024 + d.val, by omega⟩))
          (fun d => x3 (ix1 ⟨d.val, by omega⟩)) (fun d => x5 (ix2 d n)) := by
  unfold rowZ
  pointwise [val_main_v381, val_main_v380, val_main_v379, val_main_v378, val_main_v377, val_main_v376, val_main_v375, val_main_v374, val_main_v373,
    val_main_cst_30, val_main_v372, val_main_v371, val_main_v370, val_main_v369, val_main_v368, val_main_v367, val_main_v366, val_main_v365,
    val_main_cst_29, val_main_v364, val_main_v363, val_main_cst_28, val_main_v362, val_main_v361, val_main_cst_27, val_main_v360,
    val_main_v5, val_main_v4]
  simp only [div_1024, zero_add]

/-- Row `s` of batch `b` at column `n`: the context's rows come first. -/
def zJ (u : FVec Ideal S8x256x1888 .f32) (v : FVec Ideal S8x4096x1888 .f32) (b : Fin 8) (s : Fin 4352) (n : Fin 1888) : EReal :=
  if h : (s : ℕ) < 256 then u (ix3 b ⟨s, h⟩ n) else v (ix3 b ⟨s - 256, by omega⟩ n)

/-- The product of row `s` of batch `b` with column `n`. -/
def zR (b : Fin 8) (s : Fin 4352) (n : Fin 1888) : EReal :=
  if h : (s : ℕ) < 256 then
    rowZ (fun d => x1 (ix3 b ⟨s, h⟩ d)) (fun d => x4 (ix1 d)) (fun d => x3 (ix1 ⟨1024 + d.val, by omega⟩))
      (fun d => x3 (ix1 ⟨d.val, by omega⟩)) (fun d => x5 (ix2 d n))
  else
    rowZ (fun d => x0 (ix3 b ⟨s - 256, by omega⟩ d)) (fun d => x4 (ix1 d)) (fun d => x2 (ix2 b ⟨1024 + d.val, by omega⟩))
      (fun d => x2 (ix2 b ⟨d.val, by omega⟩)) (fun d => x5 (ix2 d n))

theorem zJ_eq (u : FVec Ideal S8x256x1888 .f32) (v : FVec Ideal S8x4096x1888 .f32)
    (hu : ∀ b s n, u (ix3 b s n) = rowZ (fun d => x1 (ix3 b s d)) (fun d => x4 (ix1 d)) (fun d => x3 (ix1 ⟨1024 + d.val, by omega⟩))
      (fun d => x3 (ix1 ⟨d.val, by omega⟩)) (fun d => x5 (ix2 d n)))
    (hv : ∀ b s n, v (ix3 b s n) = rowZ (fun d => x0 (ix3 b s d)) (fun d => x4 (ix1 d)) (fun d => x2 (ix2 b ⟨1024 + d.val, by omega⟩))
      (fun d => x2 (ix2 b ⟨d.val, by omega⟩)) (fun d => x5 (ix2 d n)))
    (b : Fin 8) (s : Fin 4352) (n : Fin 1888) : zJ u v b s n = zR x0 x1 x2 x3 x4 x5 b s n := by
  unfold zJ zR
  simp only [hu, hv]

theorem padNum_at : (FloatOps.sitofp FTy.f32 0#32 : Ideal .f32) = (0 : EReal) := by
  show (((0#32 : BitVec 32).toInt : ℝ) : EReal) = 0
  simp

theorem va_at (b : Fin 8) (s : Fin 4352) (a : Fin 256) :
    val_main_v451 (F := Ideal) x0 x1 x2 x3 x4 x5 (ix3 b s a)
      = if h : (a : ℕ) % 128 < 64 then zR x0 x1 x2 x3 x4 x5 b s ⟨384 + (a / 128 * 64 + a % 128), by omega⟩ else 0 := by
  have hz := zJ_eq x0 x1 x2 x3 x4 x5 _ _ (v381_at x1 x3 x4 x5) (v25_at x0 x2 x4 x5)
  simp only [val_main_v451, val_main_v450, val_main_v449, val_main_v448, val_main_v353, val_main_v28, val_main_v433, val_main_v384, val_main_call2_v0, val_main_c_40]
  generalize val_main_v381 (F := Ideal) x1 x3 x4 x5 = u at hz ⊢
  generalize val_main_v25 (F := Ideal) x0 x2 x4 x5 = v at hz ⊢
  by_cases h : (a : ℕ) % 128 < 64
  · rw [dif_pos h, ← hz]
    unfold zJ
    pointwise
    rw [dif_pos (by omega)]
    done
  · rw [dif_neg h]
    pointwise
    rw [dif_neg (by omega), padNum_at]

theorem qd_at (b : Fin 8) (s : Fin 4352) (a : Fin 512) :
    val_main_v472 (F := Ideal) x0 x1 x2 x3 x4 x5 (ix3 b s a)
      = if h : (a : ℕ) % 128 < 64 then zR x0 x1 x2 x3 x4 x5 b s ⟨1120 + (a / 128 * 64 + a % 128), by omega⟩ * Ideal.ofBits .f32 0x3E000000#32 else 0 := by
  have hz := zJ_eq x0 x1 x2 x3 x4 x5 _ _ (v381_at x1 x3 x4 x5) (v25_at x0 x2 x4 x5)
  simp only [val_main_v472, val_main_v471, val_main_v470, val_main_v469, val_main_v437, val_main_v436, val_main_cst_38, val_main_v435, val_main_v389, val_main_v357, val_main_v356, val_main_cst_26, val_main_v355, val_main_v33, val_main_call6_v0, val_main_c_45]
  generalize val_main_v381 (F := Ideal) x1 x3 x4 x5 = u at hz ⊢
  generalize val_main_v25 (F := Ideal) x0 x2 x4 x5 = v at hz ⊢
  by_cases h : (a : ℕ) % 128 < 64
  · rw [dif_pos h, ← hz]
    unfold zJ
    pointwise
    rw [dif_pos (by omega)]
    split <;> rfl
  · rw [dif_neg h]
    pointwise
    rw [dif_neg (by omega), padNum_at]

theorem kd_at (b : Fin 8) (s : Fin 4352) (a : Fin 512) :
    val_main_v476 (F := Ideal) x0 x1 x2 x3 x4 x5 (ix3 b s a)
      = if h : (a : ℕ) % 128 < 64 then zR x0 x1 x2 x3 x4 x5 b s ⟨1376 + (a / 128 * 64 + a % 128), by omega⟩ else 0 := by
  have hz := zJ_eq x0 x1 x2 x3 x4 x5 _ _ (v381_at x1 x3 x4 x5) (v25_at x0 x2 x4 x5)
  simp only [val_main_v476, val_main_v475, val_main_v474, val_main_v473, val_main_v438, val_main_v390, val_main_v358, val_main_v34, val_main_call7_v0, val_main_c_46]
  generalize val_main_v381 (F := Ideal) x1 x3 x4 x5 = u at hz ⊢
  generalize val_main_v25 (F := Ideal) x0 x2 x4 x5 = v at hz ⊢
  by_cases h : (a : ℕ) % 128 < 64
  · rw [dif_pos h, ← hz]
    unfold zJ
    pointwise
    rw [dif_pos (by omega)]
    done
  · rw [dif_neg h]
    pointwise
    rw [dif_neg (by omega), padNum_at]

theorem vd_at (b : Fin 8) (s : Fin 4352) (a : Fin 512) :
    val_main_v480 (F := Ideal) x0 x1 x2 x3 x4 x5 (ix3 b s a)
      = if h : (a : ℕ) % 128 < 64 then zR x0 x1 x2 x3 x4 x5 b s ⟨1632 + (a / 128 * 64 + a % 128), by omega⟩ else 0 := by
  have hz := zJ_eq x0 x1 x2 x3 x4 x5 _ _ (v381_at x1 x3 x4 x5) (v25_at x0 x2 x4 x5)
  simp only [val_main_v480, val_main_v479, val_main_v478, val_main_v477, val_main_v439, val_main_v391, val_main_v359, val_main_v35, val_main_call8_v0, val_main_c_47]
  generalize val_main_v381 (F := Ideal) x1 x3 x4 x5 = u at hz ⊢
  generalize val_main_v25 (F := Ideal) x0 x2 x4 x5 = v at hz ⊢
  by_cases h : (a : ℕ) % 128 < 64
  · rw [dif_pos h, ← hz]
    unfold zJ
    pointwise
    rw [dif_pos (by omega)]
    done
  · rw [dif_neg h]
    pointwise
    rw [dif_neg (by omega), padNum_at]

theorem cu_at (s : Fin 4352) (n : Fin 2048) :
    val_main_v468 (F := Ideal) x0 x1 x2 x3 x4 x5 (ix2 s n)
      = zR x0 x1 x2 x3 x4 x5 ⟨n / 256, by omega⟩ s ⟨864 + n % 256, by omega⟩ := by
  have hz := zJ_eq x0 x1 x2 x3 x4 x5 _ _ (v381_at x1 x3 x4 x5) (v25_at x0 x2 x4 x5)
  simp only [val_main_v468, val_main_v467, val_main_v466, val_main_v388, val_main_v32]
  generalize val_main_v381 (F := Ideal) x1 x3 x4 x5 = u at hz ⊢
  generalize val_main_v25 (F := Ideal) x0 x2 x4 x5 = v at hz ⊢
  rw [← hz]
  unfold zJ
  pointwise

end Cert.Reference2Ideal.Proj

end
-- ==== Proof.Proj.Result.lean ====
/- The projection kernel's result arrays over the arguments. -/
module

public import proofs.«01_k».proof.Proof.Proj.Array
public import proofs.«01_k».proof.Proof.Proj.Reference

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj Cert.Reference2Ideal.Proj

section Pure

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x1888 .f32)
  (X : FVec Ideal S34816x1024 .f32) (M : FVec Ideal S8x2x6x1024 .f32) (G : FVec Ideal S1x1024 .f32) (W : FVec Ideal S1024x3328 .bf16)

/-- The kernel's product with a column of the weights is the reference's. -/
theorem zK_eq (h1 : ∀ (b : Fin 8) (s : Fin 256) (d : Fin 1024), X (ix2 ⟨32768 + b * 256 + s, by omega⟩ d) = x1 (ix3 b s d))
    (h0 : ∀ (b : Fin 8) (s : Fin 4096) (d : Fin 1024), X (ix2 ⟨b * 4096 + s, by omega⟩ d) = x0 (ix3 b s d))
    (h3 : ∀ (b : Fin 8) (k : Fin 6) (d : Fin 1024), M (ix4 b 0 k d) = x3 (ix1 ⟨k * 1024 + d, by omega⟩))
    (h2 : ∀ (b : Fin 8) (k : Fin 6) (d : Fin 1024), M (ix4 b 1 k d) = x2 (ix2 b ⟨k * 1024 + d, by omega⟩))
    (h4 : ∀ d : Fin 1024, G (ix2 0 d) = x4 (ix1 d)) (n : Fin 3328) (n' : Fin 1888) (h5 : ∀ d : Fin 1024, W (ix2 d n) = x5 (ix2 d n'))
    (b : Fin 8) (s : Fin 4352) : zK X M G W b s n = zR x0 x1 x2 x3 x4 x5 b s n' := by
  unfold zK zR side streamRow
  have i0 : ∀ d : Fin 1024, (⟨((0 : Fin 6) : ℕ) * 1024 + d, by have := d.isLt; simp; omega⟩ : Fin 6144) = ⟨d.val, by omega⟩ := fun d => Fin.ext (by simp)
  have i1 : ∀ d : Fin 1024, (⟨((1 : Fin 6) : ℕ) * 1024 + d, by have := d.isLt; simp; omega⟩ : Fin 6144) = ⟨1024 + d.val, by omega⟩ := fun d => Fin.ext (by simp)
  by_cases h : (s : ℕ) < 256
  · have e0 := fun d => (h3 b 0 d).trans (congrArg (fun q => x3 (ix1 q)) (i0 d))
    have e1 := fun d => (h3 b 1 d).trans (congrArg (fun q => x3 (ix1 q)) (i1 d))
    have ex := fun d => h1 b ⟨s, h⟩ d
    simp only [dif_pos h, if_pos h]
    simp only [h4, h5, e0, e1]
    exact congrArg (fun f => rowZ f _ _ _ _) (funext ex)
  · have e0 := fun d => (h2 b 0 d).trans (congrArg (fun q => x2 (ix2 b q)) (i0 d))
    have e1 := fun d => (h2 b 1 d).trans (congrArg (fun q => x2 (ix2 b q)) (i1 d))
    have ex := fun d => h0 b ⟨s - 256, by omega⟩ d
    simp only [dif_neg h, if_neg h]
    simp only [h4, h5, e0, e1]
    exact congrArg (fun f => rowZ f _ _ _ _) (funext ex)

/-- The kernel's product with a padding column is zero. -/
theorem zK_pad (n : Fin 3328) (h5 : ∀ d : Fin 1024, W (ix2 d n) = 0) (b : Fin 8) (s : Fin 4352) : zK X M G W b s n = 0 := by
  unfold zK
  simp only [h5]
  exact rowZ_zero _ _ _ _

theorem vaCol (d : Fin 1024) (a : Fin 256) :
    (truncf .bf16 (colsOf x5) bitsLt_bf16_f32 : FVec Ideal S1024x3328 .bf16) (ix2 d ⟨768 + a, by omega⟩)
      = if h : (a : ℕ) % 128 < 64 then x5 (ix2 d ⟨384 + (a / 128 * 64 + a % 128), by omega⟩) else 0 := by
  show colsOf x5 (ix2 d ⟨768 + a, by omega⟩) = _
  unfold colsOf
  rw [colsCat_2, slots2_at]
  by_cases h : (a : ℕ) % 128 < 64
  · rw [dif_pos h, dif_pos h]
    pointwise
  · rw [dif_neg h, dif_neg h]

theorem qdCol (d : Fin 1024) (a : Fin 512) :
    (truncf .bf16 (colsOf x5) bitsLt_bf16_f32 : FVec Ideal S1024x3328 .bf16) (ix2 d ⟨1792 + a, by omega⟩)
      = if h : (a : ℕ) % 128 < 64 then x5 (ix2 d ⟨1120 + (a / 128 * 64 + a % 128), by omega⟩) else 0 := by
  show colsOf x5 (ix2 d ⟨1792 + a, by omega⟩) = _
  unfold colsOf
  rw [colsCat_7, slots4_at]
  by_cases h : (a : ℕ) % 128 < 64
  · rw [dif_pos h, dif_pos h]
    pointwise
  · rw [dif_neg h, dif_neg h]

theorem kdCol (d : Fin 1024) (a : Fin 512) :
    (truncf .bf16 (colsOf x5) bitsLt_bf16_f32 : FVec Ideal S1024x3328 .bf16) (ix2 d ⟨2304 + a, by omega⟩)
      = if h : (a : ℕ) % 128 < 64 then x5 (ix2 d ⟨1376 + (a / 128 * 64 + a % 128), by omega⟩) else 0 := by
  show colsOf x5 (ix2 d ⟨2304 + a, by omega⟩) = _
  unfold colsOf
  rw [colsCat_8, slots4_at]
  by_cases h : (a : ℕ) % 128 < 64
  · rw [dif_pos h, dif_pos h]
    pointwise
  · rw [dif_neg h, dif_neg h]

theorem vdCol (d : Fin 1024) (a : Fin 512) :
    (truncf .bf16 (colsOf x5) bitsLt_bf16_f32 : FVec Ideal S1024x3328 .bf16) (ix2 d ⟨2816 + a, by omega⟩)
      = if h : (a : ℕ) % 128 < 64 then x5 (ix2 d ⟨1632 + (a / 128 * 64 + a % 128), by omega⟩) else 0 := by
  show colsOf x5 (ix2 d ⟨2816 + a, by omega⟩) = _
  unfold colsOf
  rw [colsCat_9, slots4_at]
  by_cases h : (a : ℕ) % 128 < 64
  · rw [dif_pos h, dif_pos h]
    pointwise
  · rw [dif_neg h, dif_neg h]

theorem cuCol (d : Fin 1024) (a : Fin 256) :
    (truncf .bf16 (colsOf x5) bitsLt_bf16_f32 : FVec Ideal S1024x3328 .bf16) (ix2 d ⟨1536 + a, by omega⟩) = x5 (ix2 d ⟨864 + a, by omega⟩) := by
  show colsOf x5 (ix2 d ⟨1536 + a, by omega⟩) = _
  unfold colsOf
  rw [colsCat_6]
  pointwise

end Pure

variable (m : (ℓ : Loc nD τ sig) → Buf (Elt Ideal) ℓ)

theorem z_eq (c : Dev nD) (n : Fin 3328) (n' : Fin 1888)
    (h5 : ∀ d : Fin 1024, wArr m c (ix2 d n) = (m ((c : Thread nD τ).loc main_arg5) : FVec Ideal S1024x1888 .f32) (ix2 d n')) (b : Fin 8) (s : Fin 4352) :
    zK (xArr m c) (mArr m c) (gArr m c) (wArr m c) b s n
      = zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s n' :=
  zK_eq _ _ _ _ _ _ _ _ _ _ (fun b s d => by rw [V_x]; exact rowsCat_early _ _ b s d) (fun b s d => by rw [V_x]; exact rowsCat_late _ _ b s d)
    (m_early m c) (m_late m c) (g_at m c) n n' h5 b s

theorem z_zero (c : Dev nD) (n : Fin 3328) (h5 : ∀ d : Fin 1024, wArr m c (ix2 d n) = 0) (b : Fin 8) (s : Fin 4352) :
    zK (xArr m c) (mArr m c) (gArr m c) (wArr m c) b s n = 0 :=
  zK_pad _ _ _ _ n h5 b s

/-- The kernel's `va` is the reference's. -/
theorem va_eq (c : Dev nD) : (dats m 0 c).arrAt 12 cfg0.N
      = Cert.Reference2Ideal.Read.val_main_v451 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final12]
  funext i
  idx_vars i
  refine Eq.trans ?_ (va_at _ _ _ _ _ _ i0 i1 i2).symm
  by_cases h : (i2 : ℕ) % 128 < 64
  · rw [dif_pos h]
    exact congrArg (fun z : EReal => z) (z_eq m c _ _ (fun d => by rw [V_w]; exact (vaCol _ d i2).trans (dif_pos h)) i0 i1)
  · rw [dif_neg h]
    exact z_zero m c _ (fun d => by rw [V_w]; exact (vaCol _ d i2).trans (dif_neg h)) i0 i1

/-- The kernel's `qd` is the reference's. -/
theorem qd_eq (c : Dev nD) : (dats m 0 c).arrAt 17 cfg0.N
      = Cert.Reference2Ideal.Read.val_main_v472 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final17]
  funext i
  idx_vars i
  refine Eq.trans ?_ (qd_at _ _ _ _ _ _ i0 i1 i2).symm
  by_cases h : (i2 : ℕ) % 128 < 64
  · rw [dif_pos h]
    exact congrArg (fun z : EReal => z * Ideal.ofBits .f32 0x3E000000#32) (z_eq m c _ _ (fun d => by rw [V_w]; exact (qdCol _ d i2).trans (dif_pos h)) i0 i1)
  · rw [dif_neg h]
    exact (congrArg (fun z : EReal => z * Ideal.ofBits .f32 0x3E000000#32) (z_zero m c _ (fun d => by rw [V_w]; exact (qdCol _ d i2).trans (dif_neg h)) i0 i1)).trans (zero_mul _)

/-- The kernel's `kd` is the reference's. -/
theorem kd_eq (c : Dev nD) : (dats m 0 c).arrAt 18 cfg0.N
      = Cert.Reference2Ideal.Read.val_main_v476 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final18]
  funext i
  idx_vars i
  refine Eq.trans ?_ (kd_at _ _ _ _ _ _ i0 i1 i2).symm
  by_cases h : (i2 : ℕ) % 128 < 64
  · rw [dif_pos h]
    exact congrArg (fun z : EReal => z) (z_eq m c _ _ (fun d => by rw [V_w]; exact (kdCol _ d i2).trans (dif_pos h)) i0 i1)
  · rw [dif_neg h]
    exact z_zero m c _ (fun d => by rw [V_w]; exact (kdCol _ d i2).trans (dif_neg h)) i0 i1

/-- The kernel's `vd` is the reference's. -/
theorem vd_eq (c : Dev nD) : (dats m 0 c).arrAt 19 cfg0.N
      = Cert.Reference2Ideal.Read.val_main_v480 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final19]
  funext i
  idx_vars i
  refine Eq.trans ?_ (vd_at _ _ _ _ _ _ i0 i1 i2).symm
  by_cases h : (i2 : ℕ) % 128 < 64
  · rw [dif_pos h]
    exact congrArg (fun z : EReal => z) (z_eq m c _ _ (fun d => by rw [V_w]; exact (vdCol _ d i2).trans (dif_pos h)) i0 i1)
  · rw [dif_neg h]
    exact z_zero m c _ (fun d => by rw [V_w]; exact (vdCol _ d i2).trans (dif_neg h)) i0 i1

/-- The kernel's `cu` is the reference's. -/
theorem cu_eq (c : Dev nD) : (dats m 0 c).arrAt 16 cfg0.N
      = Cert.Reference2Ideal.Read.val_main_v468 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final16]
  funext i
  idx_vars i
  refine Eq.trans ?_ (cu_at _ _ _ _ _ _ i0 i1).symm
  exact z_eq m c _ _ (fun d => by rw [V_w]; exact cuCol _ d ⟨i1 % 256, by omega⟩) _ i0

end Cert.Kernel2Ideal.Proj

end
-- ==== Proof.Proj.Rotary.lean ====
/- The rotary turn of one lane of a slot, and one number of a latent up-projection. -/
module

public import proofs.«01_k».proof.Proof.Proj.Row

@[expose] public section

noncomputable section

namespace Cert.Proj

open Idealize.ShloMosaic

/-- Lane `j` of a slot `t`: itself times `p`, the lane `s` before it times `q`, the lane `s` after it times `r`. -/
def turn (s : Fin 128) (t : Fin 128 → EReal) (p q r : EReal) (j : Fin 128) : EReal :=
  t j * p + t ⟨(j + 128 - s) % 128, by omega⟩ * q + t ⟨(j + s) % 128, by omega⟩ * r

/-- Where nothing is turned the lane stays. -/
theorem turn_one (s : Fin 128) (t : Fin 128 → EReal) (j : Fin 128) : turn s t 1 0 0 j = t j := by
  unfold turn
  rw [mul_one, mul_zero, mul_zero, add_zero, add_zero]

/-- One lane of a table: `o` outside the four stretches of `n` lanes from lane `l` on. -/
def laneTab (n l : ℕ) (o : EReal) (f0 f1 f2 f3 : Fin n → EReal) (j : Fin 128) : EReal :=
  if h0 : (j : ℕ) < l then o
  else if h1 : (j : ℕ) < l + n then f0 ⟨j - l, by omega⟩
  else if h2 : (j : ℕ) < l + 2 * n then f1 ⟨j - (l + n), by omega⟩
  else if h3 : (j : ℕ) < l + 3 * n then f2 ⟨j - (l + 2 * n), by omega⟩
  else if h4 : (j : ℕ) < l + 4 * n then f3 ⟨j - (l + 3 * n), by omega⟩
  else o

/-- The rotary turn of `4 * n` numbers: the first half by the angles of the row, the second by those of the column. -/
def rot (n : ℕ) (R C : Fin n → EReal) (t : Fin (4 * n) → EReal) (j : Fin (4 * n)) : EReal :=
  if h1 : (j : ℕ) < n then t j * Ideal.cos (R ⟨j, h1⟩) - t ⟨j + n, by omega⟩ * Ideal.sin (R ⟨j, h1⟩)
  else if h2 : (j : ℕ) < 2 * n then t ⟨j - n, by omega⟩ * Ideal.sin (R ⟨j - n, by omega⟩) + t j * Ideal.cos (R ⟨j - n, by omega⟩)
  else if h3 : (j : ℕ) < 3 * n then
    t j * Ideal.cos (C ⟨j - 2 * n, by omega⟩) - t ⟨j + n, by omega⟩ * Ideal.sin (C ⟨j - 2 * n, by omega⟩)
  else t ⟨j - n, by omega⟩ * Ideal.sin (C ⟨j - 3 * n, by omega⟩) + t j * Ideal.cos (C ⟨j - 3 * n, by omega⟩)

/-- The tables turn the lanes from `l` on. -/
theorem turn_tab (n l : ℕ) (hn : 0 < n) (hl : l + 4 * n ≤ 128) (R C : Fin n → EReal) (T : Fin 128 → EReal) (t : Fin (4 * n) → EReal)
    (hT : ∀ d : Fin (4 * n), T ⟨l + d, by omega⟩ = t d) (j : Fin 128) (h0 : l ≤ (j : ℕ)) (h4 : (j : ℕ) < l + 4 * n) :
    turn ⟨n, by omega⟩ T (laneTab n l 1 (fun k => Ideal.cos (R k)) (fun k => Ideal.cos (R k)) (fun k => Ideal.cos (C k)) (fun k => Ideal.cos (C k)) j)
      (laneTab n l 0 (fun _ => 0) (fun k => Ideal.sin (R k)) (fun _ => 0) (fun k => Ideal.sin (C k)) j)
      (laneTab n l 0 (fun k => -Ideal.sin (R k)) (fun _ => 0) (fun k => -Ideal.sin (C k)) (fun _ => 0) j) j
      = rot n R C t ⟨j - l, by omega⟩ := by
  have hj : T j = t ⟨j - l, by omega⟩ := by
    rw [← hT]; exact congrArg T (Fin.ext (by dsimp only; omega))
  have hb : ∀ h : n ≤ (j : ℕ) - l, T ⟨(j + 128 - n) % 128, by omega⟩ = t ⟨j - l - n, by omega⟩ := by
    intro h
    rw [← hT]; exact congrArg T (Fin.ext (by dsimp only; omega))
  have hf : ∀ h : (j : ℕ) - l + n < 4 * n, T ⟨(j + n) % 128, by omega⟩ = t ⟨j - l + n, h⟩ := by
    intro h
    rw [← hT]; exact congrArg T (Fin.ext (by dsimp only; omega))
  unfold turn laneTab rot
  dsimp only
  by_cases h1 : (j : ℕ) < l + n
  · simp only [dif_neg (show ¬(j : ℕ) < l by omega), dif_pos h1, dif_pos (show (j : ℕ) - l < n by omega)]
    rw [hf (by omega), hj, mul_zero, add_zero, mul_neg, sub_eq_add_neg]
  by_cases h2 : (j : ℕ) < l + 2 * n
  · simp only [dif_neg (show ¬(j : ℕ) < l by omega), dif_neg h1, dif_pos h2, dif_neg (show ¬(j : ℕ) - l < n by omega), dif_pos (show (j : ℕ) - l < 2 * n by omega)]
    rw [hb (by omega), hj, mul_zero, add_zero, add_comm]
    simp only [Nat.sub_sub]
  by_cases h3 : (j : ℕ) < l + 3 * n
  · simp only [dif_neg (show ¬(j : ℕ) < l by omega), dif_neg h1, dif_neg h2, dif_pos h3, dif_neg (show ¬(j : ℕ) - l < n by omega),
      dif_neg (show ¬(j : ℕ) - l < 2 * n by omega), dif_pos (show (j : ℕ) - l < 3 * n by omega)]
    rw [hf (by omega), hj, mul_zero, add_zero, mul_neg, sub_eq_add_neg]
    simp only [Nat.sub_sub]
  · simp only [dif_neg (show ¬(j : ℕ) < l by omega), dif_neg h1, dif_neg h2, dif_neg h3, dif_pos h4, dif_neg (show ¬(j : ℕ) - l < n by omega),
      dif_neg (show ¬(j : ℕ) - l < 2 * n by omega), dif_neg (show ¬(j : ℕ) - l < 3 * n by omega)]
    rw [hb (by omega), hj, mul_zero, add_zero, add_comm]
    simp only [Nat.sub_sub]

/-- The tables leave the other lanes. -/
theorem turn_rest (n l : ℕ) (hn : n < 128) (f0 f1 f2 f3 g0 g1 g2 g3 e0 e1 e2 e3 : Fin n → EReal) (T : Fin 128 → EReal) (j : Fin 128)
    (h : (j : ℕ) < l ∨ l + 4 * n ≤ (j : ℕ)) :
    turn ⟨n, hn⟩ T (laneTab n l 1 f0 f1 f2 f3 j) (laneTab n l 0 g0 g1 g2 g3 j) (laneTab n l 0 e0 e1 e2 e3 j) j = T j := by
  have out : ∀ (o : EReal) (f0 f1 f2 f3 : Fin n → EReal), laneTab n l o f0 f1 f2 f3 j = o := by
    intro o f0 f1 f2 f3
    unfold laneTab
    rcases h with h | h
    · rw [dif_pos h]
    · rw [dif_neg (by omega), dif_neg (by omega), dif_neg (by omega), dif_neg (by omega), dif_neg (by omega)]
  rw [out, out, out]
  exact turn_one _ _ _

/-- A row `z` over the root of its mean square (`c` is one over its length), times `g`, multiplied with column `w`. -/
def upRow {n : ℕ} (c : EReal) (z g w : Fin n → EReal) : EReal :=
  ∑ k, z k * Ideal.rsqrt ((∑ j, z j * z j) * c + Ideal.ofBits .f32 0x358637BD#32) * g k * w k

/-- A column of zeros gives zero. -/
theorem upRow_zero {n : ℕ} (c : EReal) (z g : Fin n → EReal) : upRow c z g (fun _ => 0) = 0 := by
  unfold upRow
  simp

/-- Entries beyond the row that are zero change nothing. -/
theorem upRow_pad (c : EReal) (z g w : Fin 256 → EReal) (z' g' w' : Fin 192 → EReal)
    (hz : ∀ k : Fin 192, z ⟨k, by omega⟩ = z' k) (hg : ∀ k : Fin 192, g ⟨k, by omega⟩ = g' k) (hw : ∀ k : Fin 192, w ⟨k, by omega⟩ = w' k)
    (z0 : ∀ k : Fin 256, 192 ≤ (k : ℕ) → z k = 0) : upRow c z g w = upRow c z' g' w' := by
  have cut : ∀ f : Fin 256 → EReal, (∀ k : Fin 256, 192 ≤ (k : ℕ) → f k = 0) → ∑ k, f k = ∑ k : Fin 192, f ⟨k, by omega⟩ := by
    intro f hf
    have e := Fin.sum_univ_add (a := 192) (b := 64) (fun k : Fin (192 + 64) => f k)
    refine e.trans ?_
    have t0 : ∑ k : Fin 64, f (Fin.natAdd 192 k) = 0 := Finset.sum_eq_zero fun k _ => hf _ (by simp)
    refine (congrArg (fun y => _ + y) t0).trans ?_
    rw [add_zero]
    rfl
  unfold upRow
  rw [cut (fun j => z j * z j) (fun k hk => by rw [z0 k hk, zero_mul]),
    cut _ (fun k hk => by rw [z0 k hk, zero_mul, zero_mul, zero_mul])]
  simp only [hz, hg, hw]

theorem ofBits_192 : Ideal.ofBits .f32 0x43400000#32 = ((192 : ℝ) : EReal) := by
  simp [Ideal.ofBits, Ideal.ieee, -EReal.coe_mul, Nat.shiftRight_eq_div_pow, BitVec.extractLsb']
  norm_num [Nat.shiftRight_eq_div_pow]

theorem ofBits_128 : Ideal.ofBits .f32 0x43000000#32 = ((128 : ℝ) : EReal) := by
  simp [Ideal.ofBits, Ideal.ieee, -EReal.coe_mul, Nat.shiftRight_eq_div_pow, BitVec.extractLsb']
  norm_num [Nat.shiftRight_eq_div_pow]

theorem ofBits_inv128 : Ideal.ofBits .f32 0x3C000000#32 = ((128⁻¹ : ℝ) : EReal) := by
  simp [Ideal.ofBits, Ideal.ieee, -EReal.coe_mul, Nat.shiftRight_eq_div_pow, BitVec.extractLsb']
  norm_num [Nat.shiftRight_eq_div_pow]

/-- Division by 192 is multiplication with its inverse. -/
theorem div_192 (s : EReal) : Ideal.div s (Ideal.ofBits .f32 0x43400000#32) = s * ((192⁻¹ : ℝ) : EReal) := by
  rw [ofBits_192, Ideal.div_coe (by norm_num)]
  norm_num

/-- Division by 128 is multiplication with its inverse. -/
theorem div_128 (s : EReal) : Ideal.div s (Ideal.ofBits .f32 0x43000000#32) = s * ((128⁻¹ : ℝ) : EReal) := by
  rw [ofBits_128, Ideal.div_coe (by norm_num)]
  norm_num

end Cert.Proj

end
-- ==== Proof.Proj.Slots.lean ====
/- The rotary slots and the latent up-projections of the projection kernel's block, read at a row and a lane. -/
module

public import proofs.«01_k».proof.Proof.Gen.Kernel2Ideal.Frame
public import proofs.«01_k».proof.Proof.Proj.Rotary
public import Idealize.ShloMosaic.Lib.Pointwise

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

theorem back112 (j : ℕ) : j + 128 - 112 = j + 16 := by omega

theorem back120 (j : ℕ) : j + 128 - 120 = j + 8 := by omega

theorem qa0_at (x : FVec Ideal S256x1024 .f32) (md : FVec Ideal S1x1x6x1024 .f32) (g : FVec Ideal S1x1024 .f32) (w : FVec Ideal S1024x3328 .bf16) (v0 v1 v2 : FVec Ideal S1x256x128 .f32) (r : Fin 256) (j : Fin 128) :
    k0_pay6 (F := Ideal) (k0_pay3 x md g w) (k0_pay4 x md g w v0) (k0_pay5 x md g w) v1 v2 (ix3 0 r j)
      = turn 16 (fun d => k0_pay2 (F := Ideal) x md g w (ix2 r ⟨0 + d, by omega⟩)) (v0 (ix3 0 r j)) (v1 (ix3 0 r j)) (v2 (ix3 0 r j)) j * Ideal.ofBits .f32 0x3E000000#32 := by
  unfold k0_pay4 k0_pay5 k0_pay3
  generalize k0_pay2 (F := Ideal) x md g w = z
  unfold turn
  pointwise [k0_pay6]
  simp only [back112]

theorem qa1_at (z : FVec Ideal S256x3328 .f32) (v0 v1 v2 : FVec Ideal S1x256x128 .f32) (r : Fin 256) (j : Fin 128) :
    k0_pay7 z v0 v1 v2 (ix3 0 r j)
      = turn 16 (fun d => z (ix2 r ⟨128 + d, by omega⟩)) (v0 (ix3 0 r j)) (v1 (ix3 0 r j)) (v2 (ix3 0 r j)) j * Ideal.ofBits .f32 0x3E000000#32 := by
  unfold turn
  pointwise [k0_pay7]
  simp only [back112]

theorem qa2_at (z : FVec Ideal S256x3328 .f32) (v0 v1 v2 : FVec Ideal S1x256x128 .f32) (r : Fin 256) (j : Fin 128) :
    k0_pay9 (k0_pay8 z) v0 v1 v2 (ix3 0 r j)
      = turn 16 (fun d => z (ix2 r ⟨256 + d, by omega⟩)) (v0 (ix3 0 r j)) (v1 (ix3 0 r j)) (v2 (ix3 0 r j)) j * Ideal.ofBits .f32 0x3E000000#32 := by
  unfold turn
  pointwise [k0_pay9, k0_pay8]
  simp only [back112]

theorem qa3_at (z : FVec Ideal S256x3328 .f32) (v0 v1 v2 : FVec Ideal S1x256x128 .f32) (r : Fin 256) (j : Fin 128) :
    k0_pay11 (k0_pay10 z v0 v1 v2) (ix3 0 r j)
      = turn 16 (fun d => z (ix2 r ⟨384 + d, by omega⟩)) (v0 (ix3 0 r j)) (v1 (ix3 0 r j)) (v2 (ix3 0 r j)) j * Ideal.ofBits .f32 0x3E000000#32 := by
  unfold turn
  pointwise [k0_pay11, k0_pay10]
  simp only [back112]

theorem ka0_at (z : FVec Ideal S256x3328 .f32) (v0 v1 v2 : FVec Ideal S1x256x128 .f32) (r : Fin 256) (j : Fin 128) :
    k0_pay12 z v0 v1 v2 (ix3 0 r j)
      = turn 16 (fun d => z (ix2 r ⟨512 + d, by omega⟩)) (v0 (ix3 0 r j)) (v1 (ix3 0 r j)) (v2 (ix3 0 r j)) j := by
  unfold turn
  pointwise [k0_pay12]
  simp only [back112]

theorem ka1_at (z : FVec Ideal S256x3328 .f32) (v0 v1 v2 : FVec Ideal S1x256x128 .f32) (r : Fin 256) (j : Fin 128) :
    k0_pay15 (k0_pay13 z) (k0_pay14 z v0 v1) v2 (ix3 0 r j)
      = turn 16 (fun d => z (ix2 r ⟨640 + d, by omega⟩)) (v0 (ix3 0 r j)) (v1 (ix3 0 r j)) (v2 (ix3 0 r j)) j := by
  unfold turn
  pointwise [k0_pay15, k0_pay14, k0_pay13]
  simp only [back112]

theorem qb0_at (u : FVec Ideal S256x512 .f32) (v0 v1 v2 : FVec Ideal S1x256x128 .f32) (r : Fin 256) (j : Fin 128) :
    k0_pay27 (k0_pay24 u) (k0_pay25 u v0) (k0_pay26 u) v1 v2 (ix3 0 r j)
      = turn 8 (fun d => u (ix2 r ⟨0 + d, by omega⟩)) (v0 (ix3 0 r j)) (v1 (ix3 0 r j)) (v2 (ix3 0 r j)) j := by
  unfold turn
  pointwise [k0_pay27, k0_pay26, k0_pay25, k0_pay24]
  simp only [back120]

theorem qb1_at (u : FVec Ideal S256x512 .f32) (v0 v1 v2 : FVec Ideal S1x256x128 .f32) (r : Fin 256) (j : Fin 128) :
    k0_pay33 (k0_pay30 u) (k0_pay31 u v0) (k0_pay32 u v1) v2 (ix3 0 r j)
      = turn 8 (fun d => u (ix2 r ⟨128 + d, by omega⟩)) (v0 (ix3 0 r j)) (v1 (ix3 0 r j)) (v2 (ix3 0 r j)) j := by
  unfold turn
  pointwise [k0_pay33, k0_pay32, k0_pay31, k0_pay30]
  simp only [back120]

theorem qb2_at (u : FVec Ideal S256x512 .f32) (v0 v1 v2 : FVec Ideal S1x256x128 .f32) (r : Fin 256) (j : Fin 128) :
    k0_pay39 (k0_pay37 u v0 v1) (k0_pay38 u) v2 (ix3 0 r j)
      = turn 8 (fun d => u (ix2 r ⟨256 + d, by omega⟩)) (v0 (ix3 0 r j)) (v1 (ix3 0 r j)) (v2 (ix3 0 r j)) j := by
  unfold turn
  pointwise [k0_pay39, k0_pay38, k0_pay37, k0_pay36]
  simp only [back120]

theorem qb3_at (u : FVec Ideal S256x512 .f32) (v0 v1 v2 : FVec Ideal S1x256x128 .f32) (r : Fin 256) (j : Fin 128) :
    k0_pay43 (k0_pay42 u v0 v1 v2) (ix3 0 r j)
      = turn 8 (fun d => u (ix2 r ⟨384 + d, by omega⟩)) (v0 (ix3 0 r j)) (v1 (ix3 0 r j)) (v2 (ix3 0 r j)) j := by
  unfold turn
  pointwise [k0_pay43, k0_pay42]
  simp only [back120]

theorem kr_at (z : FVec Ideal S256x3328 .f32) (v0 v1 v2 : FVec Ideal S1x256x128 .f32) (r : Fin 256) (j : Fin 128) :
    k0_pay22 z v0 v1 v2 (ix2 r j)
      = turn 8 (fun d => z (ix2 r ⟨1408 + d, by omega⟩)) (v0 (ix3 0 r j)) (v1 (ix3 0 r j)) (v2 (ix3 0 r j)) j := by
  unfold turn
  pointwise [k0_pay22]
  simp only [back120]

theorem kb0_at (u : FVec Ideal S256x1024 .f32) (v : FVec Ideal S256x128 .f32) (r : Fin 256) (j : Fin 128) :
    k0_pay28 u v (ix3 0 r j) = u (ix2 r ⟨0 + j, by omega⟩) + v (ix2 r j) := by
  pointwise [k0_pay28]

theorem kb1_at (u : FVec Ideal S256x1024 .f32) (v : FVec Ideal S256x128 .f32) (r : Fin 256) (j : Fin 128) :
    k0_pay34 u v (ix3 0 r j) = u (ix2 r ⟨128 + j, by omega⟩) + v (ix2 r j) := by
  pointwise [k0_pay34]

theorem kb2_at (u : FVec Ideal S256x1024 .f32) (v : FVec Ideal S256x128 .f32) (r : Fin 256) (j : Fin 128) :
    k0_pay40 u v (ix3 0 r j) = u (ix2 r ⟨256 + j, by omega⟩) + v (ix2 r j) := by
  pointwise [k0_pay40]

theorem kb3_at (u : FVec Ideal S256x1024 .f32) (v : FVec Ideal S256x128 .f32) (r : Fin 256) (j : Fin 128) :
    k0_pay44 u v (ix3 0 r j) = u (ix2 r ⟨384 + j, by omega⟩) + v (ix2 r j) := by
  pointwise [k0_pay44]

theorem one_word : ∀ j : Fin 128, ((IntOp.cmpi CmpIPredicate.eq (BitVec.ofNat 32 j.val) 64#32).zeroExtend 32).toInt = if j.val = 64 then 1 else 0 := by
  decide +kernel

/-- The one in lane 64. -/
theorem one_at (j : Fin 128) : k0_pay23 (F := Ideal) (ix2 0 j) = if (j : ℕ) = 64 then 1 else 0 := by
  have e : k0_pay23 (F := Ideal) (ix2 0 j)
      = (((((IntOp.cmpi CmpIPredicate.eq (BitVec.ofNat 32 j.val) 64#32).zeroExtend 32).toInt : ℤ) : ℝ) : EReal) := by
    unfold k0_pay23
    pointwise
    rfl
  rw [e, one_word]
  split <;> simp

theorem vb0_at (u : FVec Ideal S256x1024 .f32) (v : FVec Ideal S1x128 .f32) (r : Fin 256) (j : Fin 128) :
    k0_pay29 u v (ix3 0 r j) = u (ix2 r ⟨512 + j, by omega⟩) + v (ix2 0 j) := by
  pointwise [k0_pay29]

theorem vb1_at (u : FVec Ideal S256x1024 .f32) (v : FVec Ideal S1x128 .f32) (r : Fin 256) (j : Fin 128) :
    k0_pay35 u v (ix3 0 r j) = u (ix2 r ⟨640 + j, by omega⟩) + v (ix2 0 j) := by
  pointwise [k0_pay35]

theorem vb2_at (u : FVec Ideal S256x1024 .f32) (v : FVec Ideal S1x128 .f32) (r : Fin 256) (j : Fin 128) :
    k0_pay41 u v (ix3 0 r j) = u (ix2 r ⟨768 + j, by omega⟩) + v (ix2 0 j) := by
  pointwise [k0_pay41]

theorem vb3_at (u : FVec Ideal S256x1024 .f32) (v : FVec Ideal S1x128 .f32) (r : Fin 256) (j : Fin 128) :
    k0_pay45 u v (ix3 0 r j) = u (ix2 r ⟨896 + j, by omega⟩) + v (ix2 0 j) := by
  pointwise [k0_pay45]

theorem uq_at (z : FVec Ideal S256x3328 .f32) (g : FVec Ideal S1x256 .f32) (w : FVec Ideal S256x512 .bf16) (r : Fin 256) (n : Fin 512) :
    k0_pay17 z g w (ix2 r n)
      = upRow ((192⁻¹ : ℝ) : EReal) (fun k => z (ix2 r ⟨1024 + k, by omega⟩)) (fun k => g (ix2 0 k)) (fun k => w (ix2 k n)) := by
  have hk : (Named.named (F := Ideal) κ "inv192" 0x3BAAAAAB#32 : Ideal .f32) = ((192⁻¹ : ℝ) : EReal) :=
    IdealRules.named_const.ideal_named_scalar _ _ _ _ rfl
  unfold upRow k0_pay17
  rw [hk]
  pointwise

theorem ukv_at (z : FVec Ideal S256x3328 .f32) (g : FVec Ideal S1x128 .f32) (w : FVec Ideal S128x1024 .bf16) (r : Fin 256) (n : Fin 1024) :
    k0_pay21 (k0_pay18 z) (k0_pay19 z) (k0_pay20 (F := Ideal)) g w (ix2 r n)
      = upRow ((128⁻¹ : ℝ) : EReal) (fun k => z (ix2 r ⟨1280 + k, by omega⟩)) (fun k => g (ix2 0 k)) (fun k => w (ix2 k n)) := by
  rw [← ofBits_inv128]
  unfold upRow
  pointwise [k0_pay21, k0_pay20, k0_pay19, k0_pay18]

end Cert.Kernel2Ideal.Proj

end
-- ==== Proof.Proj.HostRest.lean ====
/- The tables and the latent weights the host prepares for the projection kernel. -/
module

public import proofs.«01_k».proof.Proof.Proj.Host
public import proofs.«01_k».proof.Proof.Gen.Kernel2Ideal.Frame
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

/-- The lanes of a table of slots rotated over 64 lanes. -/
def lanes16 (a : FVec Ideal S4096x0 .f32) (p0 p1 p2 p3 : FVec Ideal S4096x16 .f32) (z : FVec Ideal S4096x64 .f32) : FVec Ideal S4096x128 .f32 :=
  concatenate S4096x128 1 [⟨S4096x0, a⟩, ⟨S4096x16, p0⟩, ⟨S4096x16, p1⟩, ⟨S4096x16, p2⟩, ⟨S4096x16, p3⟩, ⟨S4096x64, z⟩]
    concatenates_S4096x0_S4096x16_S4096x16_S4096x16_S4096x16_S4096x64_S4096x128_d1

/-- The lanes of a table of slots rotated over 32 lanes. -/
def lanes8 (a : FVec Ideal S4096x64 .f32) (p0 p1 p2 p3 : FVec Ideal S4096x8 .f32) (z : FVec Ideal S4096x32 .f32) : FVec Ideal S4096x128 .f32 :=
  concatenate S4096x128 1 [⟨S4096x64, a⟩, ⟨S4096x8, p0⟩, ⟨S4096x8, p1⟩, ⟨S4096x8, p2⟩, ⟨S4096x8, p3⟩, ⟨S4096x32, z⟩]
    concatenates_S4096x64_S4096x8_S4096x8_S4096x8_S4096x8_S4096x32_S4096x128_d1

/-- Three tables of latent rows. -/
def stackLat (a b c : FVec Ideal S1x4096x128 .f32) : FVec Ideal S3x4096x128 .f32 :=
  concatenate S3x4096x128 0 [⟨S1x4096x128, a⟩, ⟨S1x4096x128, b⟩, ⟨S1x4096x128, c⟩]
    concatenates_S1x4096x128_S1x4096x128_S1x4096x128_S3x4096x128_d0

/-- Three tables of context rows. -/
def stackCtx (a b c : FVec Ideal S1x256x128 .f32) : FVec Ideal S3x256x128 .f32 :=
  concatenate S3x256x128 0 [⟨S1x256x128, a⟩, ⟨S1x256x128, b⟩, ⟨S1x256x128, c⟩]
    concatenates_S1x256x128_S1x256x128_S1x256x128_S3x256x128_d0

/-- The context's rows, then the latent's. -/
def tabCat (a : FVec Ideal S3x256x128 .f32) (b : FVec Ideal S3x4096x128 .f32) : FVec Ideal S3x4352x128 .f32 :=
  concatenate S3x4352x128 1 [⟨S3x256x128, a⟩, ⟨S3x4096x128, b⟩] concatenates_S3x256x128_S3x4096x128_S3x4352x128_d1

/-- Key columns, then value columns. -/
def ukvCat (a b : FVec Ideal S128x512 .f32) : FVec Ideal S128x1024 .f32 :=
  concatenate S128x1024 1 [⟨S128x512, a⟩, ⟨S128x512, b⟩] concatenates_S128x512_S128x512_S128x1024_d1

/-- A table of three over context rows: ones, zeros, zeros. -/
def ctxTab : FVec Ideal S3x256x128 .f32 :=
  stackCtx (broadcastInDim S1x256x128 ![1, 2] bcast_S256x128_S1x256x128_1_2 (broadcastInDim S256x128 ![] bcast_S_S256x128 (constant S_ .f32 0x3F800000#32)))
    (broadcastInDim S1x256x128 ![1, 2] bcast_S256x128_S1x256x128_1_2 (broadcastInDim S256x128 ![] bcast_S_S256x128 (constant S_ .f32 0x00000000#32)))
    (broadcastInDim S1x256x128 ![1, 2] bcast_S256x128_S1x256x128_1_2 (broadcastInDim S256x128 ![] bcast_S_S256x128 (constant S_ .f32 0x00000000#32)))

/-- The angles of positions `p` at sixteen frequencies. -/
def ang16 (p : IVec S4096 32) : FVec Ideal S4096x16 .f32 :=
  mulf (broadcastInDim S4096x16 ![0, 1] bcast_S4096x1_S4096x16_0_1 (broadcastInDim S4096x1 ![0] bcast_S4096_S4096x1_0 (sitofp .f32 p)))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- The angles of positions `p` at eight frequencies. -/
def ang8 (p : IVec S4096 32) : FVec Ideal S4096x8 .f32 :=
  mulf (broadcastInDim S4096x8 ![0, 1] bcast_S4096x1_S4096x8_0_1 (broadcastInDim S4096x1 ![0] bcast_S4096_S4096x1_0 (sitofp .f32 p)))
    (broadcastInDim S4096x8 ![0, 1] bcast_S1x8_S4096x8_0_1 (broadcastInDim S1x8 ![1] bcast_S8_S1x8_1
      (Host.powf (broadcastInDim S8 ![] bcast_S_S8 (constant S_ .f32 0x461C4000#32))
        (Host.divf (Host.negf (sitofp .f32 (iotaInDim S8 32 0))) (broadcastInDim S8 ![] bcast_S_S8 (constant S_ .f32 0x41000000#32))))))

/-- The tables of slots rotated over 64 lanes, out of the angles of rows `R` and columns `C`. -/
def tab16 (R C : FVec Ideal S4096x16 .f32) : FVec Ideal S3x4352x128 .f32 :=
  tabCat ctxTab (stackLat
    (broadcastInDim S1x4096x128 ![1, 2] bcast_S4096x128_S1x4096x128_1_2
      (lanes16 (broadcastInDim S4096x0 ![] bcast_S_S4096x0 (constant S_ .f32 0x3F800000#32)) (Host.cos R) (Host.cos R) (Host.cos C) (Host.cos C)
        (broadcastInDim S4096x64 ![] bcast_S_S4096x64 (constant S_ .f32 0x3F800000#32))))
    (broadcastInDim S1x4096x128 ![1, 2] bcast_S4096x128_S1x4096x128_1_2
      (lanes16 (broadcastInDim S4096x0 ![] bcast_S_S4096x0 (constant S_ .f32 0x00000000#32))
        (broadcastInDim S4096x16 ![] bcast_S_S4096x16 (constant S_ .f32 0x00000000#32)) (Host.sin R)
        (broadcastInDim S4096x16 ![] bcast_S_S4096x16 (constant S_ .f32 0x00000000#32)) (Host.sin C)
        (broadcastInDim S4096x64 ![] bcast_S_S4096x64 (constant S_ .f32 0x00000000#32))))
    (broadcastInDim S1x4096x128 ![1, 2] bcast_S4096x128_S1x4096x128_1_2
      (lanes16 (broadcastInDim S4096x0 ![] bcast_S_S4096x0 (constant S_ .f32 0x00000000#32))
        (Host.negf (Host.sin R)) (broadcastInDim S4096x16 ![] bcast_S_S4096x16 (constant S_ .f32 0x00000000#32))
        (Host.negf (Host.sin C)) (broadcastInDim S4096x16 ![] bcast_S_S4096x16 (constant S_ .f32 0x00000000#32))
        (broadcastInDim S4096x64 ![] bcast_S_S4096x64 (constant S_ .f32 0x00000000#32)))))

/-- The tables of slots rotated over 32 lanes, out of the angles of rows `R` and columns `C`. -/
def tab8 (R C : FVec Ideal S4096x8 .f32) : FVec Ideal S3x4352x128 .f32 :=
  tabCat ctxTab (stackLat
    (broadcastInDim S1x4096x128 ![1, 2] bcast_S4096x128_S1x4096x128_1_2
      (lanes8 (broadcastInDim S4096x64 ![] bcast_S_S4096x64 (constant S_ .f32 0x3F800000#32)) (Host.cos R) (Host.cos R) (Host.cos C) (Host.cos C)
        (broadcastInDim S4096x32 ![] bcast_S_S4096x32 (constant S_ .f32 0x3F800000#32))))
    (broadcastInDim S1x4096x128 ![1, 2] bcast_S4096x128_S1x4096x128_1_2
      (lanes8 (broadcastInDim S4096x64 ![] bcast_S_S4096x64 (constant S_ .f32 0x00000000#32))
        (broadcastInDim S4096x8 ![] bcast_S_S4096x8 (constant S_ .f32 0x00000000#32)) (Host.sin R)
        (broadcastInDim S4096x8 ![] bcast_S_S4096x8 (constant S_ .f32 0x00000000#32)) (Host.sin C)
        (broadcastInDim S4096x32 ![] bcast_S_S4096x32 (constant S_ .f32 0x00000000#32))))
    (broadcastInDim S1x4096x128 ![1, 2] bcast_S4096x128_S1x4096x128_1_2
      (lanes8 (broadcastInDim S4096x64 ![] bcast_S_S4096x64 (constant S_ .f32 0x00000000#32))
        (Host.negf (Host.sin R)) (broadcastInDim S4096x8 ![] bcast_S_S4096x8 (constant S_ .f32 0x00000000#32))
        (Host.negf (Host.sin C)) (broadcastInDim S4096x8 ![] bcast_S_S4096x8 (constant S_ .f32 0x00000000#32))
        (broadcastInDim S4096x32 ![] bcast_S_S4096x32 (constant S_ .f32 0x00000000#32)))))

/-- The query up-projection's weights: a slot of 128 lanes for each head's 96, zero rows below. -/
def uqOf (w : FVec Ideal S192x384 .f32) : FVec Ideal S256x512 .f32 :=
  pad S256x512 ![0, 0] ![64, 0] ![0, 0] (shapeCast S192x512 (pad S192x4x128 ![0, 0, 0] ![0, 0, 32] ![0, 0, 0]
    (shapeCast S192x4x96 w shapeCasts_S192x384_S192x4x96) padNum pads_S192x4x96_S192x4x128_000_000_0320 h_S_) shapeCasts_S192x4x128_S192x512)
    padNum pads_S192x512_S256x512_0640_000 h_S_

/-- Four heads' 64 columns in slots of 128. -/
def slotsKv (x : FVec Ideal S128x4x64 .f32) : FVec Ideal S128x512 .f32 :=
  shapeCast S128x512 (pad S128x4x128 ![0, 0, 0] ![0, 0, 64] ![0, 0, 0]
    (shapeCast S128x4x64 (shapeCast S128x256 x shapeCasts_S128x4x64_S128x256) shapeCasts_S128x256_S128x4x64) padNum
    pads_S128x4x64_S128x4x128_000_000_0640 h_S_) shapeCasts_S128x4x128_S128x512

/-- The key and value up-projection's weights. -/
def ukvOf (w : FVec Ideal S128x512 .f32) : FVec Ideal S128x1024 .f32 :=
  ukvCat (slotsKv (extractStridedSlice S128x4x64 ![0, 0, 0] (shapeCast S128x4x128 w shapeCasts_S128x512_S128x4x128) slices_S128x4x128_S128x4x64_0_0_0))
    (slotsKv (extractStridedSlice S128x4x64 ![0, 0, 64] (shapeCast S128x4x128 w shapeCasts_S128x512_S128x4x128) slices_S128x4x128_S128x4x64_0_0_64))

/-- The query norm's gains, zeros after them. -/
def qgOf (g : FVec Ideal S192 .f32) : FVec Ideal S1x256 .f32 :=
  shapeCast S1x256 (pad S256 ![0] ![64] ![0] g padNum pads_S192_S256_0640 h_S_) shapeCasts_S256_S1x256

variable (m : (ℓ : Loc nD τ sig) → Buf (Elt Ideal) ℓ)

/-- The tables over 64 lanes. -/
def taArr (c : Dev nD) : FVec Ideal S3x4352x128 .f32 := V m c main_v51

/-- The tables over 32 lanes. -/
def tbArr (c : Dev nD) : FVec Ideal S3x4352x128 .f32 := V m c main_v97

/-- The query norm's gains. -/
def qgArr (c : Dev nD) : FVec Ideal S1x256 .f32 := V m c main_v154

/-- The query up-projection's weights. -/
def uqArr (c : Dev nD) : FVec Ideal S256x512 .bf16 := V m c main_v139

/-- The key and value norm's gains. -/
def kgArr (c : Dev nD) : FVec Ideal S1x128 .f32 := V m c main_v155

/-- The key and value up-projection's weights. -/
def ukvArr (c : Dev nD) : FVec Ideal S128x1024 .bf16 := V m c main_v152

theorem V_kg (c : Dev nD) : kgArr m c
    = shapeCast S1x128 (m ((c : Thread nD τ).loc main_arg8) : FVec Ideal S128 .f32) shapeCasts_S128_S1x128 := by
  unfold kgArr V
  simp only [List.flatten_cons, List.flatten_nil, List.append_nil]
  after_reads_simp
  rfl

theorem V_qg (c : Dev nD) : qgArr m c = qgOf (m ((c : Thread nD τ).loc main_arg6)) := by
  unfold qgArr V
  simp only [List.flatten_cons, List.flatten_nil, List.append_nil]
  after_reads_simp
  rfl

theorem V_uq (c : Dev nD) : uqArr m c = truncf .bf16 (uqOf (m ((c : Thread nD τ).loc main_arg7))) bitsLt_bf16_f32 := by
  unfold uqArr V
  simp only [List.flatten_cons, List.flatten_nil, List.append_nil]
  after_reads_simp
  rfl

theorem V_ukv (c : Dev nD) : ukvArr m c = truncf .bf16 (ukvOf (m ((c : Thread nD τ).loc main_arg9))) bitsLt_bf16_f32 := by
  unfold ukvArr V
  simp only [List.flatten_cons, List.flatten_nil, List.append_nil]
  after_reads_simp
  show truncf .bf16 (ukvCat _ _) bitsLt_bf16_f32 = _
  after_reads_simp
  rfl

theorem V_ta (c : Dev nD) : taArr m c = tab16 (ang16 (m ((c : Thread nD τ).loc main_arg10))) (ang16 (m ((c : Thread nD τ).loc main_arg11))) := by
  unfold taArr V
  simp only [List.flatten_cons, List.flatten_nil, List.append_nil]
  after_reads_simp
  show tabCat _ _ = _
  after_reads_simp
  show tabCat (stackCtx _ _ _) (stackLat _ _ _) = _
  dsimp only [Matrix.cons_val]
  after_reads_simp
  show tabCat (stackCtx _ _ _) (stackLat (broadcastInDim _ _ _ (lanes16 _ _ _ _ _ _)) (broadcastInDim _ _ _ (lanes16 _ _ _ _ _ _)) (broadcastInDim _ _ _ (lanes16 _ _ _ _ _ _))) = _
  dsimp only [Matrix.cons_val]
  after_reads_simp
  rfl

theorem V_tb (c : Dev nD) : tbArr m c = tab8 (ang8 (m ((c : Thread nD τ).loc main_arg10))) (ang8 (m ((c : Thread nD τ).loc main_arg11))) := by
  unfold tbArr V
  simp only [List.flatten_cons, List.flatten_nil, List.append_nil]
  after_reads_simp
  show tabCat _ _ = _
  after_reads_simp
  show tabCat (stackCtx _ _ _) (stackLat _ _ _) = _
  dsimp only [Matrix.cons_val]
  after_reads_simp
  show tabCat (stackCtx _ _ _) (stackLat (broadcastInDim _ _ _ (lanes8 _ _ _ _ _ _)) (broadcastInDim _ _ _ (lanes8 _ _ _ _ _ _)) (broadcastInDim _ _ _ (lanes8 _ _ _ _ _ _))) = _
  dsimp only [Matrix.cons_val]
  after_reads_simp
  rfl

end Cert.Kernel2Ideal.Proj

end
-- ==== Proof.Proj.ArrayRest.lean ====
/- What the projection kernel's other result arrays hold after the run, over the arrays the host prepared. -/
module

public import proofs.«01_k».proof.Proof.Proj.Array
public import proofs.«01_k».proof.Proof.Proj.Slots
public import proofs.«01_k».proof.Proof.Proj.HostRest

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Proj

theorem turn_congr (n : Fin 128) {T T' : Fin 128 → EReal} {p p' q q' r r' : EReal} {j : Fin 128} (hT : ∀ d, T d = T' d)
    (hp : p = p') (hq : q = q') (hr : r = r') : turn n T p q r j = turn n T' p' q' r' j := by
  rw [show T = T' from funext hT, hp, hq, hr]

theorem upRow_congr {n : ℕ} (c : EReal) {z z' g g' w w' : Fin n → EReal} (hz : ∀ k, z k = z' k) (hg : ∀ k, g k = g' k)
    (hw : ∀ k, w k = w' k) : upRow c z g w = upRow c z' g' w' := by
  rw [show z = z' from funext hz, show g = g' from funext hg, show w = w' from funext hw]

theorem pay2_at (x : FVec Ideal S256x1024 .f32) (md : FVec Ideal S1x1x6x1024 .f32) (g : FVec Ideal S1x1024 .f32)
    (w : FVec Ideal S1024x3328 .bf16) (r : Fin 256) (n : Fin 3328) :
    k0_pay2 (F := Ideal) x md g w (ix2 r n)
      = rowZ (fun d => x (ix2 r d)) (fun d => g (ix2 0 d)) (fun d => md (ix4 0 0 1 d)) (fun d => md (ix4 0 0 0 d)) (fun d => w (ix2 d n)) := by
  unfold rowZ
  pointwise [k0_pay2]

/-- A lane's place in its slot of 128 lanes. -/
def place {n : ℕ} (a : Fin n) : Fin 128 := ⟨a.val % 128, by omega⟩

variable (m : (ℓ : Loc nD τ sig) → Buf (Elt Ideal) ℓ)

/-- A grid point's other blocks. -/
theorem idxRest : ∀ t : Fin cfg0.N, win0_4.index t = ![0, t.val % 17, 0] ∧ win0_5.index t = ![0, t.val % 17, 0] ∧ win0_6.index t = ![0, 0]
    ∧ win0_7.index t = ![0, 0] ∧ win0_8.index t = ![0, 0] ∧ win0_9.index t = ![0, 0] ∧ win0_10.index t = ![t.val / 17, t.val % 17, 0]
    ∧ win0_11.index t = ![t.val / 17, t.val % 17, 0] ∧ win0_13.index t = ![t.val / 17, t.val % 17, 0]
    ∧ win0_14.index t = ![t.val / 17, t.val % 17, 0] ∧ win0_15.index t = ![t.val / 17, t.val % 17, 0] ∧ t.val / 17 < 8 :=
  (by decide +kernel : ∀ t : Fin grid0.N, _)

theorem emb4 (t : Fin cfg0.N) (s : Fin 4352) (r : Fin 256) (hs : (s : ℕ) = t.val % 17 * 256 + r) (k : Fin 3) (j : Fin 128) :
    ((cfg0.win 4).blk t).view.emb (ix3 k r j) = ix3 k s j := by
  blk_ext [idxRest t]

theorem taBlk_at (c : Dev nD) (t : Fin cfg0.N) (s : Fin 4352) (r : Fin 256) (hs : (s : ℕ) = t.val % 17 * 256 + r) (k : Fin 3) (j : Fin 128) :
    (iblk m c 4 t : FVec Ideal S3x256x128 .f32) (ix3 k r j) = taArr m c (ix3 k s j) := by
  unfold taArr iblk
  have hz : (V m c main_v51 : FVec Ideal S3x4352x128 .f32) = V m c (Pipeline.arrRef spec0 4) := rfl
  rw [hz]
  clear hz
  generalize V m c (Pipeline.arrRef spec0 4) = z
  have e := emb4 t s r hs k j
  rw [View.read, cast_eq, e]

theorem emb5 (t : Fin cfg0.N) (s : Fin 4352) (r : Fin 256) (hs : (s : ℕ) = t.val % 17 * 256 + r) (k : Fin 3) (j : Fin 128) :
    ((cfg0.win 5).blk t).view.emb (ix3 k r j) = ix3 k s j := by
  blk_ext [idxRest t]

theorem tbBlk_at (c : Dev nD) (t : Fin cfg0.N) (s : Fin 4352) (r : Fin 256) (hs : (s : ℕ) = t.val % 17 * 256 + r) (k : Fin 3) (j : Fin 128) :
    (iblk m c 5 t : FVec Ideal S3x256x128 .f32) (ix3 k r j) = tbArr m c (ix3 k s j) := by
  unfold tbArr iblk
  have hz : (V m c main_v97 : FVec Ideal S3x4352x128 .f32) = V m c (Pipeline.arrRef spec0 5) := rfl
  rw [hz]
  clear hz
  generalize V m c (Pipeline.arrRef spec0 5) = z
  have e := emb5 t s r hs k j
  rw [View.read, cast_eq, e]

theorem emb6 (t : Fin cfg0.N) (k : Fin 1) (j : Fin 256) : ((cfg0.win 6).blk t).view.emb (ix2 k j) = ix2 k j := by
  blk_ext [idxRest t]

theorem qgBlk_at (c : Dev nD) (t : Fin cfg0.N) (k : Fin 1) (j : Fin 256) :
    (iblk m c 6 t : FVec Ideal S1x256 .f32) (ix2 k j) = qgArr m c (ix2 k j) := by
  unfold qgArr iblk
  have hz : (V m c main_v154 : FVec Ideal S1x256 .f32) = V m c (Pipeline.arrRef spec0 6) := rfl
  rw [hz]
  clear hz
  generalize V m c (Pipeline.arrRef spec0 6) = z
  have e := emb6 t k j
  rw [View.read, cast_eq, e]

theorem emb7 (t : Fin cfg0.N) (k : Fin 256) (j : Fin 512) : ((cfg0.win 7).blk t).view.emb (ix2 k j) = ix2 k j := by
  blk_ext [idxRest t]

theorem uqBlk_at (c : Dev nD) (t : Fin cfg0.N) (k : Fin 256) (j : Fin 512) :
    (iblk m c 7 t : FVec Ideal S256x512 .bf16) (ix2 k j) = uqArr m c (ix2 k j) := by
  unfold uqArr iblk
  have hz : (V m c main_v139 : FVec Ideal S256x512 .bf16) = V m c (Pipeline.arrRef spec0 7) := rfl
  rw [hz]
  clear hz
  generalize V m c (Pipeline.arrRef spec0 7) = z
  have e := emb7 t k j
  rw [View.read, cast_eq, e]

theorem emb8 (t : Fin cfg0.N) (k : Fin 1) (j : Fin 128) : ((cfg0.win 8).blk t).view.emb (ix2 k j) = ix2 k j := by
  blk_ext [idxRest t]

theorem kgBlk_at (c : Dev nD) (t : Fin cfg0.N) (k : Fin 1) (j : Fin 128) :
    (iblk m c 8 t : FVec Ideal S1x128 .f32) (ix2 k j) = kgArr m c (ix2 k j) := by
  unfold kgArr iblk
  have hz : (V m c main_v155 : FVec Ideal S1x128 .f32) = V m c (Pipeline.arrRef spec0 8) := rfl
  rw [hz]
  clear hz
  generalize V m c (Pipeline.arrRef spec0 8) = z
  have e := emb8 t k j
  rw [View.read, cast_eq, e]

theorem emb9 (t : Fin cfg0.N) (k : Fin 128) (j : Fin 1024) : ((cfg0.win 9).blk t).view.emb (ix2 k j) = ix2 k j := by
  blk_ext [idxRest t]

theorem ukvBlk_at (c : Dev nD) (t : Fin cfg0.N) (k : Fin 128) (j : Fin 1024) :
    (iblk m c 9 t : FVec Ideal S128x1024 .bf16) (ix2 k j) = ukvArr m c (ix2 k j) := by
  unfold ukvArr iblk
  have hz : (V m c main_v152 : FVec Ideal S128x1024 .bf16) = V m c (Pipeline.arrRef spec0 9) := rfl
  rw [hz]
  clear hz
  generalize V m c (Pipeline.arrRef spec0 9) = z
  have e := emb9 t k j
  rw [View.read, cast_eq, e]

/-- An entry of the array `qa` over the arrays the host prepared. -/
def qaAt (X : FVec Ideal S34816x1024 .f32) (M : FVec Ideal S8x2x6x1024 .f32) (G : FVec Ideal S1x1024 .f32) (W : FVec Ideal S1024x3328 .bf16) (T : FVec Ideal S3x4352x128 .f32) (b : Fin 8) (s : Fin 4352) (a : Fin 512) : EReal :=
  turn 16 (fun d => zK X M G W b s ⟨a / 128 * 128 + d, by omega⟩) (T (ix3 0 s (place a))) (T (ix3 1 s (place a))) (T (ix3 2 s (place a))) (place a) * Ideal.ofBits .f32 0x3E000000#32

/-- The array `qa` over the arrays the host prepared. -/
def qaArr (X : FVec Ideal S34816x1024 .f32) (M : FVec Ideal S8x2x6x1024 .f32) (G : FVec Ideal S1x1024 .f32) (W : FVec Ideal S1024x3328 .bf16) (T : FVec Ideal S3x4352x128 .f32) : FVec Ideal S8x4352x512 .bf16 :=
  fun i => qaAt X M G W T (i 0) (i 1) (i 2)

theorem emb10 (t : Fin cfg0.N) (b : Fin 8) (s : Fin 4352) (r : Fin 256) (hb : (b : ℕ) = t.val / 17)
    (hs : (s : ℕ) = t.val % 17 * 256 + r) (a : Fin 512) :
    ((cfg0.win 10).blk t).view.emb (ix3 0 r a) = ix3 b s a := by
  blk_ext [idxRest t]

/-- What a point leaves at an entry of its block. -/
theorem outs10_at (c : Dev nD) (t : Fin cfg0.N) (b : Fin 8) (s : Fin 4352) (r : Fin 256) (hb : (b : ℕ) = t.val / 17)
    (hs : (s : ℕ) = t.val % 17 * 256 + r) (a : Fin 512) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r a)
      = qaAt (xArr m c) (mArr m c) (gArr m c) (wArr m c) (taArr m c) b s a := by
  have hz := fun n => z_at m c t b s r hb hs n
  have hT := taBlk_at m c t s r hs
  generalize iblk m c 0 t = x0 at hz hT ⊢
  generalize iblk m c 1 t = x1 at hz hT ⊢
  generalize iblk m c 2 t = x2 at hz hT ⊢
  generalize iblk m c 3 t = x3 at hz hT ⊢
  generalize iblk m c 4 t = x4 at hz hT ⊢
  generalize iblk m c 5 t = x5 at hz hT ⊢
  generalize iblk m c 6 t = x6 at hz hT ⊢
  generalize iblk m c 7 t = x7 at hz hT ⊢
  generalize iblk m c 8 t = x8 at hz hT ⊢
  generalize iblk m c 9 t = x9 at hz hT ⊢
  frame_out
  canon_tiles x h
  all_goals idx_vars x
  all_goals obtain rfl : x0 = 0 := Subsingleton.elim _ _
  all_goals obtain rfl : r = x1 := Fin.ext h1
  all_goals have hp : place a = x2 := Fin.ext (by simp only [place]; omega)
  all_goals subst hp
  all_goals unfold qaAt
  case piece0 =>
    have hs (d : Fin 128) : (⟨384 + d, by omega⟩ : Fin 3328) = ⟨a / 128 * 128 + d, by omega⟩ := Fin.ext (by simp only [place] at *; omega)
    refine (qa3_at _ _ _ _ r (place a)).trans (congrArg (fun y : EReal => y * Ideal.ofBits .f32 0x3E000000#32) (turn_congr 16 (fun d => ?_) ?_ ?_ ?_))
    · refine (hz _).trans ?_
      rw [hs d]
    · pointwise
      exact hT 0 (place a)
    · pointwise
      exact hT 1 (place a)
    · pointwise
      exact hT 2 (place a)
  case piece1 =>
    have hs (d : Fin 128) : (⟨256 + d, by omega⟩ : Fin 3328) = ⟨a / 128 * 128 + d, by omega⟩ := Fin.ext (by simp only [place] at *; omega)
    refine (qa2_at _ _ _ _ r (place a)).trans (congrArg (fun y : EReal => y * Ideal.ofBits .f32 0x3E000000#32) (turn_congr 16 (fun d => ?_) ?_ ?_ ?_))
    · refine (hz _).trans ?_
      rw [hs d]
    · pointwise
      exact hT 0 (place a)
    · pointwise
      exact hT 1 (place a)
    · pointwise
      exact hT 2 (place a)
  case piece2 =>
    have hs (d : Fin 128) : (⟨128 + d, by omega⟩ : Fin 3328) = ⟨a / 128 * 128 + d, by omega⟩ := Fin.ext (by simp only [place] at *; omega)
    refine (qa1_at _ _ _ _ r (place a)).trans (congrArg (fun y : EReal => y * Ideal.ofBits .f32 0x3E000000#32) (turn_congr 16 (fun d => ?_) ?_ ?_ ?_))
    · refine (hz _).trans ?_
      rw [hs d]
    · pointwise
      exact hT 0 (place a)
    · pointwise
      exact hT 1 (place a)
    · pointwise
      exact hT 2 (place a)
  case piece3 =>
    replace hz := fun n => (pay2_at x0 x1 x2 x3 r n).trans ((pay50_at x0 x1 x2 x3 x4 x5 x6 x7 x8 x9 r n).symm.trans (hz n))
    have hs (d : Fin 128) : (⟨0 + d, by omega⟩ : Fin 3328) = ⟨a / 128 * 128 + d, by omega⟩ := Fin.ext (by simp only [place] at *; omega)
    refine (qa0_at _ _ _ _ _ _ _ r (place a)).trans (congrArg (fun y : EReal => y * Ideal.ofBits .f32 0x3E000000#32) (turn_congr 16 (fun d => ?_) ?_ ?_ ?_))
    · refine (hz _).trans ?_
      rw [hs d]
    · pointwise
      exact hT 0 (place a)
    · pointwise
      exact hT 1 (place a)
    · pointwise
      exact hT 2 (place a)

/-- The result array after the run. -/
theorem final10 (c : Dev nD) :
    (dats m 0 c).arrAt 10 cfg0.N = qaArr (xArr m c) (mArr m c) (gArr m c) (wArr m c) (taArr m c) := by
  refine (dats m 0 c).arrAt_eq_of_covers 10 _ (by decide +kernel) fun t hf y => ?_
  have key : ∀ y : S1x256x512.Idx, out0_10 (iblk m c 0 t) (iblk m c 1 t) (iblk m c 2 t) (iblk m c 3 t) (iblk m c 4 t) (iblk m c 5 t) (iblk m c 6 t) (iblk m c 7 t) (iblk m c 8 t) (iblk m c 9 t) y
      = qaArr (xArr m c) (mArr m c) (gArr m c) (wArr m c) (taArr m c) (((cfg0.win 10).blk t).view.emb y) := by
    intro y
    idx_vars y
    obtain rfl : y0 = 0 := Subsingleton.elim _ _
    have ht : t.val < 136 := t.isLt
    have e := emb10 t ⟨t.val / 17, by omega⟩ ⟨t.val % 17 * 256 + y1, by omega⟩ y1 rfl rfl y2
    rw [outs10_at m c t ⟨t.val / 17, by omega⟩ ⟨t.val % 17 * 256 + y1, by omega⟩ y1 rfl rfl y2]
    exact (congrArg (qaArr (xArr m c) (mArr m c) (gArr m c) (wArr m c) (taArr m c)) e).symm
  rw [after0_10]
  generalize qaArr (xArr m c) (mArr m c) (gArr m c) (wArr m c) (taArr m c) = G at key ⊢
  generalize out0_10 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- An entry of the array `ka` over the arrays the host prepared. -/
def kaAt (X : FVec Ideal S34816x1024 .f32) (M : FVec Ideal S8x2x6x1024 .f32) (G : FVec Ideal S1x1024 .f32) (W : FVec Ideal S1024x3328 .bf16) (T : FVec Ideal S3x4352x128 .f32) (b : Fin 8) (s : Fin 4352) (a : Fin 256) : EReal :=
  turn 16 (fun d => zK X M G W b s ⟨512 + (a / 128 * 128 + d), by omega⟩) (T (ix3 0 s (place a))) (T (ix3 1 s (place a))) (T (ix3 2 s (place a))) (place a)

/-- The array `ka` over the arrays the host prepared. -/
def kaArr (X : FVec Ideal S34816x1024 .f32) (M : FVec Ideal S8x2x6x1024 .f32) (G : FVec Ideal S1x1024 .f32) (W : FVec Ideal S1024x3328 .bf16) (T : FVec Ideal S3x4352x128 .f32) : FVec Ideal S8x4352x256 .bf16 :=
  fun i => kaAt X M G W T (i 0) (i 1) (i 2)

theorem emb11 (t : Fin cfg0.N) (b : Fin 8) (s : Fin 4352) (r : Fin 256) (hb : (b : ℕ) = t.val / 17)
    (hs : (s : ℕ) = t.val % 17 * 256 + r) (a : Fin 256) :
    ((cfg0.win 11).blk t).view.emb (ix3 0 r a) = ix3 b s a := by
  blk_ext [idxRest t]

/-- What a point leaves at an entry of its block. -/
theorem outs11_at (c : Dev nD) (t : Fin cfg0.N) (b : Fin 8) (s : Fin 4352) (r : Fin 256) (hb : (b : ℕ) = t.val / 17)
    (hs : (s : ℕ) = t.val % 17 * 256 + r) (a : Fin 256) :
    out0_11 (iblk m c 0 t) (iblk m c 1 t) (iblk m c 2 t) (iblk m c 3 t) (iblk m c 4 t) (iblk m c 5 t) (iblk m c 6 t) (iblk m c 7 t) (iblk m c 8 t) (iblk m c 9 t) (ix3 0 r a)
      = kaAt (xArr m c) (mArr m c) (gArr m c) (wArr m c) (taArr m c) b s a := by
  have hz := fun n => z_at m c t b s r hb hs n
  have hT := taBlk_at m c t s r hs
  generalize iblk m c 0 t = x0 at hz hT ⊢
  generalize iblk m c 1 t = x1 at hz hT ⊢
  generalize iblk m c 2 t = x2 at hz hT ⊢
  generalize iblk m c 3 t = x3 at hz hT ⊢
  generalize iblk m c 4 t = x4 at hz hT ⊢
  generalize iblk m c 5 t = x5 at hz hT ⊢
  generalize iblk m c 6 t = x6 at hz hT ⊢
  generalize iblk m c 7 t = x7 at hz hT ⊢
  generalize iblk m c 8 t = x8 at hz hT ⊢
  generalize iblk m c 9 t = x9 at hz hT ⊢
  frame_out
  canon_tiles x h
  all_goals idx_vars x
  all_goals obtain rfl : x0 = 0 := Subsingleton.elim _ _
  all_goals obtain rfl : r = x1 := Fin.ext h1
  all_goals have hp : place a = x2 := Fin.ext (by simp only [place]; omega)
  all_goals subst hp
  all_goals unfold kaAt
  case piece0 =>
    have hs (d : Fin 128) : (⟨640 + d, by omega⟩ : Fin 3328) = ⟨512 + (a / 128 * 128 + d), by omega⟩ := Fin.ext (by simp only [place] at *; omega)
    refine (ka1_at _ _ _ _ r (place a)).trans (turn_congr 16 (fun d => ?_) ?_ ?_ ?_)
    · refine (hz _).trans ?_
      rw [hs d]
    · pointwise
      exact hT 0 (place a)
    · pointwise
      exact hT 1 (place a)
    · pointwise
      exact hT 2 (place a)
  case piece1 =>
    have hs (d : Fin 128) : (⟨512 + d, by omega⟩ : Fin 3328) = ⟨512 + (a / 128 * 128 + d), by omega⟩ := Fin.ext (by simp only [place] at *; omega)
    refine (ka0_at _ _ _ _ r (place a)).trans (turn_congr 16 (fun d => ?_) ?_ ?_ ?_)
    · refine (hz _).trans ?_
      rw [hs d]
    · pointwise
      exact hT 0 (place a)
    · pointwise
      exact hT 1 (place a)
    · pointwise
      exact hT 2 (place a)

/-- The result array after the run. -/
theorem final11 (c : Dev nD) :
    (dats m 0 c).arrAt 11 cfg0.N = kaArr (xArr m c) (mArr m c) (gArr m c) (wArr m c) (taArr m c) := by
  refine (dats m 0 c).arrAt_eq_of_covers 11 _ (by decide +kernel) fun t hf y => ?_
  have key : ∀ y : S1x256x256.Idx, out0_11 (iblk m c 0 t) (iblk m c 1 t) (iblk m c 2 t) (iblk m c 3 t) (iblk m c 4 t) (iblk m c 5 t) (iblk m c 6 t) (iblk m c 7 t) (iblk m c 8 t) (iblk m c 9 t) y
      = kaArr (xArr m c) (mArr m c) (gArr m c) (wArr m c) (taArr m c) (((cfg0.win 11).blk t).view.emb y) := by
    intro y
    idx_vars y
    obtain rfl : y0 = 0 := Subsingleton.elim _ _
    have ht : t.val < 136 := t.isLt
    have e := emb11 t ⟨t.val / 17, by omega⟩ ⟨t.val % 17 * 256 + y1, by omega⟩ y1 rfl rfl y2
    rw [outs11_at m c t ⟨t.val / 17, by omega⟩ ⟨t.val % 17 * 256 + y1, by omega⟩ y1 rfl rfl y2]
    exact (congrArg (kaArr (xArr m c) (mArr m c) (gArr m c) (wArr m c) (taArr m c)) e).symm
  rw [after0_11]
  generalize kaArr (xArr m c) (mArr m c) (gArr m c) (wArr m c) (taArr m c) = G at key ⊢
  generalize out0_11 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- An entry of the array `qb` over the arrays the host prepared. -/
def qbAt (X : FVec Ideal S34816x1024 .f32) (M : FVec Ideal S8x2x6x1024 .f32) (G : FVec Ideal S1x1024 .f32) (W : FVec Ideal S1024x3328 .bf16) (T : FVec Ideal S3x4352x128 .f32) (g : FVec Ideal S1x256 .f32) (w : FVec Ideal S256x512 .bf16) (b : Fin 8) (s : Fin 4352) (a : Fin 512) : EReal :=
  turn 8 (fun d => upRow ((192⁻¹ : ℝ) : EReal) (fun k => zK X M G W b s ⟨1024 + k, by omega⟩) (fun k => g (ix2 0 k)) (fun k => w (ix2 k ⟨a / 128 * 128 + d, by omega⟩))) (T (ix3 0 s (place a))) (T (ix3 1 s (place a))) (T (ix3 2 s (place a))) (place a)

/-- The array `qb` over the arrays the host prepared. -/
def qbArr (X : FVec Ideal S34816x1024 .f32) (M : FVec Ideal S8x2x6x1024 .f32) (G : FVec Ideal S1x1024 .f32) (W : FVec Ideal S1024x3328 .bf16) (T : FVec Ideal S3x4352x128 .f32) (g : FVec Ideal S1x256 .f32) (w : FVec Ideal S256x512 .bf16) : FVec Ideal S8x4352x512 .bf16 :=
  fun i => qbAt X M G W T g w (i 0) (i 1) (i 2)

theorem emb13 (t : Fin cfg0.N) (b : Fin 8) (s : Fin 4352) (r : Fin 256) (hb : (b : ℕ) = t.val / 17)
    (hs : (s : ℕ) = t.val % 17 * 256 + r) (a : Fin 512) :
    ((cfg0.win 13).blk t).view.emb (ix3 0 r a) = ix3 b s a := by
  blk_ext [idxRest t]

/-- What a point leaves at an entry of its block. -/
theorem outs13_at (c : Dev nD) (t : Fin cfg0.N) (b : Fin 8) (s : Fin 4352) (r : Fin 256) (hb : (b : ℕ) = t.val / 17)
    (hs : (s : ℕ) = t.val % 17 * 256 + r) (a : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (ix3 0 r a)
      = qbAt (xArr m c) (mArr m c) (gArr m c) (wArr m c) (tbArr m c) (qgArr m c) (uqArr m c) b s a := by
  have hz := fun n => z_at m c t b s r hb hs n
  have hT := tbBlk_at m c t s r hs
  have hg := qgBlk_at m c t
  have hw := uqBlk_at m c t
  generalize iblk m c 0 t = x0 at hz hT hg hw ⊢
  generalize iblk m c 1 t = x1 at hz hT hg hw ⊢
  generalize iblk m c 2 t = x2 at hz hT hg hw ⊢
  generalize iblk m c 3 t = x3 at hz hT hg hw ⊢
  generalize iblk m c 4 t = x4 at hz hT hg hw ⊢
  generalize iblk m c 5 t = x5 at hz hT hg hw ⊢
  generalize iblk m c 6 t = x6 at hz hT hg hw ⊢
  generalize iblk m c 7 t = x7 at hz hT hg hw ⊢
  generalize iblk m c 8 t = x8 at hz hT hg hw ⊢
  generalize iblk m c 9 t = x9 at hz hT hg hw ⊢
  have hu : ∀ n : Fin 512, k0_pay51 x0 x1 x2 x3 x4 x5 x6 x7 x8 x9 (ix2 r n) = upRow ((192⁻¹ : ℝ) : EReal) (fun k => zK (xArr m c) (mArr m c) (gArr m c) (wArr m c) b s ⟨1024 + k, by omega⟩) (fun k => qgArr m c (ix2 0 k)) (fun k => uqArr m c (ix2 k n)) := by
    intro n
    refine (uq_at _ _ _ r n).trans (upRow_congr _ (fun k => hz _) (fun k => ?_) fun k => ?_)
    · pointwise
      exact hg 0 k
    · pointwise
      exact hw k n
  frame_out
  canon_tiles x h
  all_goals idx_vars x
  all_goals obtain rfl : x0 = 0 := Subsingleton.elim _ _
  all_goals obtain rfl : r = x1 := Fin.ext h1
  all_goals have hp : place a = x2 := Fin.ext (by simp only [place]; omega)
  all_goals subst hp
  all_goals unfold qbAt
  case piece0 =>
    have hs (d : Fin 128) : (⟨384 + d, by omega⟩ : Fin 512) = ⟨a / 128 * 128 + d, by omega⟩ := Fin.ext (by simp only [place] at *; omega)
    refine (qb3_at _ _ _ _ r (place a)).trans (turn_congr 8 (fun d => ?_) ?_ ?_ ?_)
    · refine (hu _).trans ?_
      rw [hs d]
    · pointwise
      exact hT 0 (place a)
    · pointwise
      exact hT 1 (place a)
    · pointwise
      exact hT 2 (place a)
  case piece1 =>
    have hs (d : Fin 128) : (⟨256 + d, by omega⟩ : Fin 512) = ⟨a / 128 * 128 + d, by omega⟩ := Fin.ext (by simp only [place] at *; omega)
    refine (qb2_at _ _ _ _ r (place a)).trans (turn_congr 8 (fun d => ?_) ?_ ?_ ?_)
    · refine (hu _).trans ?_
      rw [hs d]
    · pointwise
      exact hT 0 (place a)
    · pointwise
      exact hT 1 (place a)
    · pointwise
      exact hT 2 (place a)
  case piece2 =>
    have hs (d : Fin 128) : (⟨128 + d, by omega⟩ : Fin 512) = ⟨a / 128 * 128 + d, by omega⟩ := Fin.ext (by simp only [place] at *; omega)
    refine (qb1_at _ _ _ _ r (place a)).trans (turn_congr 8 (fun d => ?_) ?_ ?_ ?_)
    · refine (hu _).trans ?_
      rw [hs d]
    · pointwise
      exact hT 0 (place a)
    · pointwise
      exact hT 1 (place a)
    · pointwise
      exact hT 2 (place a)
  case piece3 =>
    have hs (d : Fin 128) : (⟨0 + d, by omega⟩ : Fin 512) = ⟨a / 128 * 128 + d, by omega⟩ := Fin.ext (by simp only [place] at *; omega)
    refine (qb0_at _ _ _ _ r (place a)).trans (turn_congr 8 (fun d => ?_) ?_ ?_ ?_)
    · refine (hu _).trans ?_
      rw [hs d]
    · pointwise
      exact hT 0 (place a)
    · pointwise
      exact hT 1 (place a)
    · pointwise
      exact hT 2 (place a)

/-- The result array after the run. -/
theorem final13 (c : Dev nD) :
    (dats m 0 c).arrAt 13 cfg0.N = qbArr (xArr m c) (mArr m c) (gArr m c) (wArr m c) (tbArr m c) (qgArr m c) (uqArr m c) := by
  refine (dats m 0 c).arrAt_eq_of_covers 13 _ (by decide +kernel) fun t hf y => ?_
  have key : ∀ y : S1x256x512.Idx, out0_13 (iblk m c 0 t) (iblk m c 1 t) (iblk m c 2 t) (iblk m c 3 t) (iblk m c 4 t) (iblk m c 5 t) (iblk m c 6 t) (iblk m c 7 t) (iblk m c 8 t) (iblk m c 9 t) y
      = qbArr (xArr m c) (mArr m c) (gArr m c) (wArr m c) (tbArr m c) (qgArr m c) (uqArr m c) (((cfg0.win 13).blk t).view.emb y) := by
    intro y
    idx_vars y
    obtain rfl : y0 = 0 := Subsingleton.elim _ _
    have ht : t.val < 136 := t.isLt
    have e := emb13 t ⟨t.val / 17, by omega⟩ ⟨t.val % 17 * 256 + y1, by omega⟩ y1 rfl rfl y2
    rw [outs13_at m c t ⟨t.val / 17, by omega⟩ ⟨t.val % 17 * 256 + y1, by omega⟩ y1 rfl rfl y2]
    exact (congrArg (qbArr (xArr m c) (mArr m c) (gArr m c) (wArr m c) (tbArr m c) (qgArr m c) (uqArr m c)) e).symm
  rw [after0_13]
  generalize qbArr (xArr m c) (mArr m c) (gArr m c) (wArr m c) (tbArr m c) (qgArr m c) (uqArr m c) = G at key ⊢
  generalize out0_13 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- An entry of the array `kb` over the arrays the host prepared. -/
def kbAt (X : FVec Ideal S34816x1024 .f32) (M : FVec Ideal S8x2x6x1024 .f32) (G : FVec Ideal S1x1024 .f32) (W : FVec Ideal S1024x3328 .bf16) (T : FVec Ideal S3x4352x128 .f32) (g : FVec Ideal S1x128 .f32) (w : FVec Ideal S128x1024 .bf16) (b : Fin 8) (s : Fin 4352) (a : Fin 512) : EReal :=
  upRow ((128⁻¹ : ℝ) : EReal) (fun k => zK X M G W b s ⟨1280 + k, by omega⟩) (fun k => g (ix2 0 k)) (fun k => w (ix2 k ⟨a, by omega⟩))
      + turn 8 (fun d => zK X M G W b s ⟨1408 + d, by omega⟩) (T (ix3 0 s (place a))) (T (ix3 1 s (place a))) (T (ix3 2 s (place a))) (place a)

/-- The array `kb` over the arrays the host prepared. -/
def kbArr (X : FVec Ideal S34816x1024 .f32) (M : FVec Ideal S8x2x6x1024 .f32) (G : FVec Ideal S1x1024 .f32) (W : FVec Ideal S1024x3328 .bf16) (T : FVec Ideal S3x4352x128 .f32) (g : FVec Ideal S1x128 .f32) (w : FVec Ideal S128x1024 .bf16) : FVec Ideal S8x4352x512 .bf16 :=
  fun i => kbAt X M G W T g w (i 0) (i 1) (i 2)

theorem emb14 (t : Fin cfg0.N) (b : Fin 8) (s : Fin 4352) (r : Fin 256) (hb : (b : ℕ) = t.val / 17)
    (hs : (s : ℕ) = t.val % 17 * 256 + r) (a : Fin 512) :
    ((cfg0.win 14).blk t).view.emb (ix3 0 r a) = ix3 b s a := by
  blk_ext [idxRest t]

/-- What a point leaves at an entry of its block. -/
theorem outs14_at (c : Dev nD) (t : Fin cfg0.N) (b : Fin 8) (s : Fin 4352) (r : Fin 256) (hb : (b : ℕ) = t.val / 17)
    (hs : (s : ℕ) = t.val % 17 * 256 + r) (a : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (ix3 0 r a)
      = kbAt (xArr m c) (mArr m c) (gArr m c) (wArr m c) (tbArr m c) (kgArr m c) (ukvArr m c) b s a := by
  have hz := fun n => z_at m c t b s r hb hs n
  have hT := tbBlk_at m c t s r hs
  have hg := kgBlk_at m c t
  have hw := ukvBlk_at m c t
  generalize iblk m c 0 t = x0 at hz hT hg hw ⊢
  generalize iblk m c 1 t = x1 at hz hT hg hw ⊢
  generalize iblk m c 2 t = x2 at hz hT hg hw ⊢
  generalize iblk m c 3 t = x3 at hz hT hg hw ⊢
  generalize iblk m c 4 t = x4 at hz hT hg hw ⊢
  generalize iblk m c 5 t = x5 at hz hT hg hw ⊢
  generalize iblk m c 6 t = x6 at hz hT hg hw ⊢
  generalize iblk m c 7 t = x7 at hz hT hg hw ⊢
  generalize iblk m c 8 t = x8 at hz hT hg hw ⊢
  generalize iblk m c 9 t = x9 at hz hT hg hw ⊢
  have hu : ∀ n : Fin 1024, k0_pay52 x0 x1 x2 x3 x4 x5 x6 x7 x8 x9 (ix2 r n) = upRow ((128⁻¹ : ℝ) : EReal) (fun k => zK (xArr m c) (mArr m c) (gArr m c) (wArr m c) b s ⟨1280 + k, by omega⟩) (fun k => kgArr m c (ix2 0 k)) (fun k => ukvArr m c (ix2 k n)) := by
    intro n
    refine (ukv_at _ _ _ r n).trans (upRow_congr _ (fun k => hz _) (fun k => ?_) fun k => ?_)
    · pointwise
      exact hg 0 k
    · pointwise
      exact hw k n
  have hr : ∀ j : Fin 128, k0_pay53 x0 x1 x2 x3 x4 x5 x6 x7 x8 x9 (ix2 r j) = turn 8 (fun d => zK (xArr m c) (mArr m c) (gArr m c) (wArr m c) b s ⟨1408 + d, by omega⟩) (tbArr m c (ix3 0 s j)) (tbArr m c (ix3 1 s j)) (tbArr m c (ix3 2 s j)) j := by
    intro j
    refine (kr_at _ _ _ _ r j).trans (turn_congr 8 (fun d => hz _) ?_ ?_ ?_)
    · pointwise
      exact hT 0 j
    · pointwise
      exact hT 1 j
    · pointwise
      exact hT 2 j
  frame_out
  canon_tiles x h
  all_goals idx_vars x
  all_goals obtain rfl : x0 = 0 := Subsingleton.elim _ _
  all_goals obtain rfl : r = x1 := Fin.ext h1
  all_goals have hp : place a = x2 := Fin.ext (by simp only [place]; omega)
  all_goals subst hp
  all_goals unfold kbAt
  case piece0 =>
    have hs : (⟨384 + (place a).val, by omega⟩ : Fin 1024) = ⟨a, by omega⟩ := Fin.ext (by simp only [place] at *; omega)
    refine (kb3_at _ _ r (place a)).trans (congrArg₂ (fun y z : EReal => y + z) ?_ (hr _))
    refine (hu _).trans ?_
    rw [hs]
  case piece1 =>
    have hs : (⟨256 + (place a).val, by omega⟩ : Fin 1024) = ⟨a, by omega⟩ := Fin.ext (by simp only [place] at *; omega)
    refine (kb2_at _ _ r (place a)).trans (congrArg₂ (fun y z : EReal => y + z) ?_ (hr _))
    refine (hu _).trans ?_
    rw [hs]
  case piece2 =>
    have hs : (⟨128 + (place a).val, by omega⟩ : Fin 1024) = ⟨a, by omega⟩ := Fin.ext (by simp only [place] at *; omega)
    refine (kb1_at _ _ r (place a)).trans (congrArg₂ (fun y z : EReal => y + z) ?_ (hr _))
    refine (hu _).trans ?_
    rw [hs]
  case piece3 =>
    have hs : (⟨0 + (place a).val, by omega⟩ : Fin 1024) = ⟨a, by omega⟩ := Fin.ext (by simp only [place] at *; omega)
    refine (kb0_at _ _ r (place a)).trans (congrArg₂ (fun y z : EReal => y + z) ?_ (hr _))
    refine (hu _).trans ?_
    rw [hs]

/-- The result array after the run. -/
theorem final14 (c : Dev nD) :
    (dats m 0 c).arrAt 14 cfg0.N = kbArr (xArr m c) (mArr m c) (gArr m c) (wArr m c) (tbArr m c) (kgArr m c) (ukvArr m c) := by
  refine (dats m 0 c).arrAt_eq_of_covers 14 _ (by decide +kernel) fun t hf y => ?_
  have key : ∀ y : S1x256x512.Idx, out0_14 (iblk m c 0 t) (iblk m c 1 t) (iblk m c 2 t) (iblk m c 3 t) (iblk m c 4 t) (iblk m c 5 t) (iblk m c 6 t) (iblk m c 7 t) (iblk m c 8 t) (iblk m c 9 t) y
      = kbArr (xArr m c) (mArr m c) (gArr m c) (wArr m c) (tbArr m c) (kgArr m c) (ukvArr m c) (((cfg0.win 14).blk t).view.emb y) := by
    intro y
    idx_vars y
    obtain rfl : y0 = 0 := Subsingleton.elim _ _
    have ht : t.val < 136 := t.isLt
    have e := emb14 t ⟨t.val / 17, by omega⟩ ⟨t.val % 17 * 256 + y1, by omega⟩ y1 rfl rfl y2
    rw [outs14_at m c t ⟨t.val / 17, by omega⟩ ⟨t.val % 17 * 256 + y1, by omega⟩ y1 rfl rfl y2]
    exact (congrArg (kbArr (xArr m c) (mArr m c) (gArr m c) (wArr m c) (tbArr m c) (kgArr m c) (ukvArr m c)) e).symm
  rw [after0_14]
  generalize kbArr (xArr m c) (mArr m c) (gArr m c) (wArr m c) (tbArr m c) (kgArr m c) (ukvArr m c) = G at key ⊢
  generalize out0_14 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

/-- An entry of the array `vb` over the arrays the host prepared. -/
def vbAt (X : FVec Ideal S34816x1024 .f32) (M : FVec Ideal S8x2x6x1024 .f32) (G : FVec Ideal S1x1024 .f32) (W : FVec Ideal S1024x3328 .bf16) (g : FVec Ideal S1x128 .f32) (w : FVec Ideal S128x1024 .bf16) (b : Fin 8) (s : Fin 4352) (a : Fin 512) : EReal :=
  upRow ((128⁻¹ : ℝ) : EReal) (fun k => zK X M G W b s ⟨1280 + k, by omega⟩) (fun k => g (ix2 0 k)) (fun k => w (ix2 k ⟨512 + a, by omega⟩))
      + (if (place a : ℕ) = 64 then 1 else 0)

/-- The array `vb` over the arrays the host prepared. -/
def vbArr (X : FVec Ideal S34816x1024 .f32) (M : FVec Ideal S8x2x6x1024 .f32) (G : FVec Ideal S1x1024 .f32) (W : FVec Ideal S1024x3328 .bf16) (g : FVec Ideal S1x128 .f32) (w : FVec Ideal S128x1024 .bf16) : FVec Ideal S8x4352x512 .bf16 :=
  fun i => vbAt X M G W g w (i 0) (i 1) (i 2)

theorem emb15 (t : Fin cfg0.N) (b : Fin 8) (s : Fin 4352) (r : Fin 256) (hb : (b : ℕ) = t.val / 17)
    (hs : (s : ℕ) = t.val % 17 * 256 + r) (a : Fin 512) :
    ((cfg0.win 15).blk t).view.emb (ix3 0 r a) = ix3 b s a := by
  blk_ext [idxRest t]

/-- What a point leaves at an entry of its block. -/
theorem outs15_at (c : Dev nD) (t : Fin cfg0.N) (b : Fin 8) (s : Fin 4352) (r : Fin 256) (hb : (b : ℕ) = t.val / 17)
    (hs : (s : ℕ) = t.val % 17 * 256 + r) (a : Fin 512) :
    out0_15 (iblk m c 0 t) (iblk m c 1 t) (iblk m c 2 t) (iblk m c 3 t) (iblk m c 4 t) (iblk m c 5 t) (iblk m c 6 t) (iblk m c 7 t) (iblk m c 8 t) (iblk m c 9 t) (ix3 0 r a)
      = vbAt (xArr m c) (mArr m c) (gArr m c) (wArr m c) (kgArr m c) (ukvArr m c) b s a := by
  have hz := fun n => z_at m c t b s r hb hs n
  have hg := kgBlk_at m c t
  have hw := ukvBlk_at m c t
  generalize iblk m c 0 t = x0 at hz hg hw ⊢
  generalize iblk m c 1 t = x1 at hz hg hw ⊢
  generalize iblk m c 2 t = x2 at hz hg hw ⊢
  generalize iblk m c 3 t = x3 at hz hg hw ⊢
  generalize iblk m c 4 t = x4 at hz hg hw ⊢
  generalize iblk m c 5 t = x5 at hz hg hw ⊢
  generalize iblk m c 6 t = x6 at hz hg hw ⊢
  generalize iblk m c 7 t = x7 at hz hg hw ⊢
  generalize iblk m c 8 t = x8 at hz hg hw ⊢
  generalize iblk m c 9 t = x9 at hz hg hw ⊢
  have hu : ∀ n : Fin 1024, k0_pay52 x0 x1 x2 x3 x4 x5 x6 x7 x8 x9 (ix2 r n) = upRow ((128⁻¹ : ℝ) : EReal) (fun k => zK (xArr m c) (mArr m c) (gArr m c) (wArr m c) b s ⟨1280 + k, by omega⟩) (fun k => kgArr m c (ix2 0 k)) (fun k => ukvArr m c (ix2 k n)) := by
    intro n
    refine (ukv_at _ _ _ r n).trans (upRow_congr _ (fun k => hz _) (fun k => ?_) fun k => ?_)
    · pointwise
      exact hg 0 k
    · pointwise
      exact hw k n
  frame_out
  canon_tiles x h
  all_goals idx_vars x
  all_goals obtain rfl : x0 = 0 := Subsingleton.elim _ _
  all_goals obtain rfl : r = x1 := Fin.ext h1
  all_goals have hp : place a = x2 := Fin.ext (by simp only [place]; omega)
  all_goals subst hp
  all_goals unfold vbAt
  case piece0 =>
    have hs : (⟨896 + (place a).val, by omega⟩ : Fin 1024) = ⟨512 + a, by omega⟩ := Fin.ext (by simp only [place] at *; omega)
    refine (vb3_at _ _ r (place a)).trans (congrArg₂ (fun y z : EReal => y + z) ?_ (one_at _))
    refine (hu _).trans ?_
    rw [hs]
  case piece1 =>
    have hs : (⟨768 + (place a).val, by omega⟩ : Fin 1024) = ⟨512 + a, by omega⟩ := Fin.ext (by simp only [place] at *; omega)
    refine (vb2_at _ _ r (place a)).trans (congrArg₂ (fun y z : EReal => y + z) ?_ (one_at _))
    refine (hu _).trans ?_
    rw [hs]
  case piece2 =>
    have hs : (⟨640 + (place a).val, by omega⟩ : Fin 1024) = ⟨512 + a, by omega⟩ := Fin.ext (by simp only [place] at *; omega)
    refine (vb1_at _ _ r (place a)).trans (congrArg₂ (fun y z : EReal => y + z) ?_ (one_at _))
    refine (hu _).trans ?_
    rw [hs]
  case piece3 =>
    have hs : (⟨512 + (place a).val, by omega⟩ : Fin 1024) = ⟨512 + a, by omega⟩ := Fin.ext (by simp only [place] at *; omega)
    refine (vb0_at _ _ r (place a)).trans (congrArg₂ (fun y z : EReal => y + z) ?_ (one_at _))
    refine (hu _).trans ?_
    rw [hs]

/-- The result array after the run. -/
theorem final15 (c : Dev nD) :
    (dats m 0 c).arrAt 15 cfg0.N = vbArr (xArr m c) (mArr m c) (gArr m c) (wArr m c) (kgArr m c) (ukvArr m c) := by
  refine (dats m 0 c).arrAt_eq_of_covers 15 _ (by decide +kernel) fun t hf y => ?_
  have key : ∀ y : S1x256x512.Idx, out0_15 (iblk m c 0 t) (iblk m c 1 t) (iblk m c 2 t) (iblk m c 3 t) (iblk m c 4 t) (iblk m c 5 t) (iblk m c 6 t) (iblk m c 7 t) (iblk m c 8 t) (iblk m c 9 t) y
      = vbArr (xArr m c) (mArr m c) (gArr m c) (wArr m c) (kgArr m c) (ukvArr m c) (((cfg0.win 15).blk t).view.emb y) := by
    intro y
    idx_vars y
    obtain rfl : y0 = 0 := Subsingleton.elim _ _
    have ht : t.val < 136 := t.isLt
    have e := emb15 t ⟨t.val / 17, by omega⟩ ⟨t.val % 17 * 256 + y1, by omega⟩ y1 rfl rfl y2
    rw [outs15_at m c t ⟨t.val / 17, by omega⟩ ⟨t.val % 17 * 256 + y1, by omega⟩ y1 rfl rfl y2]
    exact (congrArg (vbArr (xArr m c) (mArr m c) (gArr m c) (wArr m c) (kgArr m c) (ukvArr m c)) e).symm
  rw [after0_15]
  generalize vbArr (xArr m c) (mArr m c) (gArr m c) (wArr m c) (kgArr m c) (ukvArr m c) = G at key ⊢
  generalize out0_15 (iblk m c 0 t) (iblk m c 1 t) (iblk m c 2 t) (iblk m c 3 t) (iblk m c 4 t) (iblk m c 5 t) (iblk m c 6 t) (iblk m c 7 t) (iblk m c 8 t) (iblk m c 9 t) = O at key ⊢
  exact key y

end Cert.Kernel2Ideal.Proj

end
-- ==== Proof.Proj.Entries.lean ====
/- The tables and the latent weights the host prepares, read at an entry. -/
module

public import proofs.«01_k».proof.Proof.Proj.HostRest
public import proofs.«01_k».proof.Proof.Proj.Cols
public import proofs.«01_k».proof.Proof.Proj.Rotary
public import Idealize.ShloMosaic.Lib.Pointwise

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj

theorem lanes16_at (a : FVec Ideal S4096x0 .f32) (p0 p1 p2 p3 : FVec Ideal S4096x16 .f32) (z : FVec Ideal S4096x64 .f32) (o : EReal)
    (hz : ∀ i, z i = o) (s : Fin 4096) (j : Fin 128) :
    lanes16 a p0 p1 p2 p3 z (ix2 s j)
      = laneTab 16 0 o (fun k => p0 (ix2 s k)) (fun k => p1 (ix2 s k)) (fun k => p2 (ix2 s k)) (fun k => p3 (ix2 s k)) j := by
  unfold laneTab
  pointwise [lanes16]
  simp only [hz]
  by_cases c0 : (j : ℕ) < 0
  · exact absurd c0 (by omega)
  by_cases c1 : (j : ℕ) < 16
  · rw [dif_neg c0, dif_pos (by omega), dif_neg c0, dif_pos c1]
  by_cases c2 : (j : ℕ) < 32
  · rw [dif_neg c0, dif_neg (by omega), dif_pos (by omega), dif_neg c0, dif_neg c1, dif_pos c2]
  by_cases c3 : (j : ℕ) < 48
  · rw [dif_neg c0, dif_neg (by omega), dif_neg (by omega), dif_pos (by omega), dif_neg c0, dif_neg c1, dif_neg c2, dif_pos c3]
    exact congrArg (fun q => p2 (ix2 s q)) (Fin.ext (by dsimp only; omega))
  by_cases c4 : (j : ℕ) < 64
  · rw [dif_neg c0, dif_neg (by omega), dif_neg (by omega), dif_neg (by omega), dif_pos (by omega), dif_neg c0, dif_neg c1, dif_neg c2, dif_neg c3, dif_pos c4]
    exact congrArg (fun q => p3 (ix2 s q)) (Fin.ext (by dsimp only; omega))
  rw [dif_neg c0, dif_neg (by omega), dif_neg (by omega), dif_neg (by omega), dif_neg (by omega), dif_neg c0, dif_neg c1, dif_neg c2, dif_neg c3, dif_neg c4]

theorem lanes8_at (a : FVec Ideal S4096x64 .f32) (p0 p1 p2 p3 : FVec Ideal S4096x8 .f32) (z : FVec Ideal S4096x32 .f32) (o : EReal)
    (ha : ∀ i, a i = o) (hz : ∀ i, z i = o) (s : Fin 4096) (j : Fin 128) :
    lanes8 a p0 p1 p2 p3 z (ix2 s j)
      = laneTab 8 64 o (fun k => p0 (ix2 s k)) (fun k => p1 (ix2 s k)) (fun k => p2 (ix2 s k)) (fun k => p3 (ix2 s k)) j := by
  unfold laneTab
  pointwise [lanes8]
  simp only [hz, ha]
  by_cases c0 : (j : ℕ) < 64
  · rw [dif_pos c0, dif_pos c0]
  by_cases c1 : (j : ℕ) < 72
  · rw [dif_neg c0, dif_pos (by omega), dif_neg c0, dif_pos c1]
  by_cases c2 : (j : ℕ) < 80
  · rw [dif_neg c0, dif_neg (by omega), dif_pos (by omega), dif_neg c0, dif_neg c1, dif_pos c2]
    exact congrArg (fun q => p1 (ix2 s q)) (Fin.ext (by dsimp only; omega))
  by_cases c3 : (j : ℕ) < 88
  · rw [dif_neg c0, dif_neg (by omega), dif_neg (by omega), dif_pos (by omega), dif_neg c0, dif_neg c1, dif_neg c2, dif_pos c3]
    exact congrArg (fun q => p2 (ix2 s q)) (Fin.ext (by dsimp only; omega))
  by_cases c4 : (j : ℕ) < 96
  · rw [dif_neg c0, dif_neg (by omega), dif_neg (by omega), dif_neg (by omega), dif_pos (by omega), dif_neg c0, dif_neg c1, dif_neg c2, dif_neg c3, dif_pos c4]
    exact congrArg (fun q => p3 (ix2 s q)) (Fin.ext (by dsimp only; omega))
  rw [dif_neg c0, dif_neg (by omega), dif_neg (by omega), dif_neg (by omega), dif_neg (by omega), dif_neg c0, dif_neg c1, dif_neg c2, dif_neg c3, dif_neg c4]

section Stack

variable (a b c : FVec Ideal S1x4096x128 .f32)

theorem lat_0 (s : Fin 4096) (j : Fin 128) : tabCat ctxTab (stackLat a b c) (ix3 0 ⟨256 + s, by omega⟩ j) = a (ix3 0 s j) := by
  pointwise [tabCat, stackLat]

theorem lat_1 (s : Fin 4096) (j : Fin 128) : tabCat ctxTab (stackLat a b c) (ix3 1 ⟨256 + s, by omega⟩ j) = b (ix3 0 s j) := by
  pointwise [tabCat, stackLat]

theorem lat_2 (s : Fin 4096) (j : Fin 128) : tabCat ctxTab (stackLat a b c) (ix3 2 ⟨256 + s, by omega⟩ j) = c (ix3 0 s j) := by
  pointwise [tabCat, stackLat]

variable (w : FVec Ideal S3x4096x128 .f32)

theorem ctx_0 (s : Fin 4352) (h : (s : ℕ) < 256) (j : Fin 128) : tabCat ctxTab w (ix3 0 s j) = 1 := by
  pointwise [tabCat, ctxTab, stackCtx]
  rw [dif_pos h]

theorem ctx_1 (s : Fin 4352) (h : (s : ℕ) < 256) (j : Fin 128) : tabCat ctxTab w (ix3 1 s j) = 0 := by
  pointwise [tabCat, ctxTab, stackCtx]
  rw [dif_pos h]

theorem ctx_2 (s : Fin 4352) (h : (s : ℕ) < 256) (j : Fin 128) : tabCat ctxTab w (ix3 2 s j) = 0 := by
  pointwise [tabCat, ctxTab, stackCtx]
  rw [dif_pos h]

end Stack

theorem slotsKv_at (x : FVec Ideal S128x4x64 .f32) (d : Fin 128) (a : Fin 512) :
    slotsKv x (ix2 d a) = if h : (a : ℕ) % 128 < 64 then x (ix3 d ⟨a / 128, by omega⟩ ⟨a % 128, h⟩) else 0 := by
  by_cases h : (a : ℕ) % 128 < 64
  · rw [dif_pos h]
    pointwise [slotsKv, padNum]
    rw [dif_pos (by omega)]
  · rw [dif_neg h]
    pointwise [slotsKv, padNum]
    rw [dif_neg (by omega), padNum_at]

theorem uqOf_at (w : FVec Ideal S192x384 .f32) (d : Fin 192) (a : Fin 512) :
    uqOf w (ix2 ⟨d, by omega⟩ a) = if h : (a : ℕ) % 128 < 96 then w (ix2 d ⟨a / 128 * 96 + a % 128, by omega⟩) else 0 := by
  by_cases h : (a : ℕ) % 128 < 96
  · rw [dif_pos h]
    pointwise [uqOf, padNum]
    rw [dif_pos (by omega)]
  · rw [dif_neg h]
    pointwise [uqOf, padNum]
    rw [dif_neg (by omega), padNum_at]

theorem ukvOf_k (w : FVec Ideal S128x512 .f32) (d : Fin 128) (a : Fin 512) :
    ukvOf w (ix2 d ⟨a, by omega⟩) = if h : (a : ℕ) % 128 < 64 then w (ix2 d a) else 0 := by
  have e : ukvOf w (ix2 d ⟨a, by omega⟩) = slotsKv (extractStridedSlice S128x4x64 ![0, 0, 0] (shapeCast S128x4x128 w shapeCasts_S128x512_S128x4x128) slices_S128x4x128_S128x4x64_0_0_0) (ix2 d a) := by
    unfold ukvOf
    generalize slotsKv _ = p
    pointwise [ukvCat]
  rw [e, slotsKv_at]
  by_cases h : (a : ℕ) % 128 < 64
  · rw [dif_pos h, dif_pos h]
    pointwise
  · rw [dif_neg h, dif_neg h]

theorem ukvOf_v (w : FVec Ideal S128x512 .f32) (d : Fin 128) (a : Fin 512) :
    ukvOf w (ix2 d ⟨512 + a, by omega⟩) = if h : (a : ℕ) % 128 < 64 then w (ix2 d ⟨a + 64, by omega⟩) else 0 := by
  have e : ukvOf w (ix2 d ⟨512 + a, by omega⟩) = slotsKv (extractStridedSlice S128x4x64 ![0, 0, 64] (shapeCast S128x4x128 w shapeCasts_S128x512_S128x4x128) slices_S128x4x128_S128x4x64_0_0_64) (ix2 d a) := by
    unfold ukvOf
    generalize slotsKv _ = p
    pointwise [ukvCat]
  rw [e, slotsKv_at]
  by_cases h : (a : ℕ) % 128 < 64
  · rw [dif_pos h, dif_pos h]
    pointwise
    exact congrArg (fun q => w (ix2 d q)) (Fin.ext (by dsimp only; omega))
  · rw [dif_neg h, dif_neg h]

theorem qgOf_at (g : FVec Ideal S192 .f32) (k : Fin 192) : qgOf g (ix2 0 ⟨k, by omega⟩) = g (ix1 k) := by
  pointwise [qgOf, padNum]

theorem kg_at (g : FVec Ideal S128 .f32) (k : Fin 128) : shapeCast S1x128 g shapeCasts_S128_S1x128 (ix2 0 k) = g (ix1 k) := by
  pointwise

theorem ropeCat_at (p0 : FVec Ideal S1024x64 .f32) (p1 p2 : FVec Ideal S1024x32 .f32) (h0 : ∀ i, p0 i = 0) (h2 : ∀ i, p2 i = 0) (d : Fin 1024) (a : Fin 128) :
    ropeCat p0 p1 p2 (ix2 d a) = if h : 64 ≤ (a : ℕ) ∧ (a : ℕ) < 96 then p1 (ix2 d ⟨a - 64, by omega⟩) else 0 := by
  pointwise [ropeCat]
  simp only [h0, h2]
  by_cases c : (a : ℕ) < 64
  · rw [dif_pos c, dif_neg (by omega)]
  by_cases e : (a : ℕ) < 96
  · rw [dif_neg c, dif_pos (by omega), dif_pos (by omega)]
  · rw [dif_neg c, dif_neg (by omega), dif_neg (by omega)]

end Cert.Kernel2Ideal.Proj

end
-- ==== Proof.Proj.Rotated.lean ====
/- The reference's rotary turns, read at an entry. -/
module

public import proofs.«01_k».proof.Proof.Proj.Reference
public import proofs.«01_k».proof.Proof.Proj.Rotary

@[expose] public section

set_option maxRecDepth 16384

noncomputable section

open Idealize.ShloMosaic Idealize.ShloMosaic.TcCoe Idealize.SL.Sem

namespace Cert.Reference2Ideal.Proj

open Cert.Reference2Ideal Cert.Reference2Ideal.Gen Cert.Reference2Ideal.Read Cert.Proj

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x1888 .f32)
  (x6 : FVec Ideal S192 .f32) (x7 : FVec Ideal S192x384 .f32) (x8 : FVec Ideal S128 .f32) (x9 : FVec Ideal S128x512 .f32)
  (x10 x11 : IVec S4096 32)

/-- The first half of the turned lanes. -/
theorem rot_row (n : ℕ) (R C : Fin n → EReal) (t : Fin (4 * n) → EReal) (j : Fin (4 * n)) (h' : (j : ℕ) < 2 * n) :
    rot n R C t j = if h : (j : ℕ) < n then
        t ⟨0 + j, by omega⟩ * Ideal.cos (R ⟨j, by omega⟩) - t ⟨0 + (j + n), by omega⟩ * Ideal.sin (R ⟨j, by omega⟩)
      else t ⟨0 + (j - n), by omega⟩ * Ideal.sin (R ⟨j - n, by omega⟩) + t ⟨0 + j, by omega⟩ * Ideal.cos (R ⟨j - n, by omega⟩) := by
  unfold rot
  simp only [Nat.zero_add]
  by_cases h : (j : ℕ) < n
  · rw [dif_pos h, dif_pos h]
  · rw [dif_neg h, dif_neg h, dif_pos h']

/-- The second half of the turned lanes. -/
theorem rot_col (n : ℕ) (R C : Fin n → EReal) (t : Fin (4 * n) → EReal) (j : Fin (4 * n)) (h' : ¬ (j : ℕ) < 2 * n) :
    rot n R C t j = if h : (j : ℕ) - 2 * n < n then
        t ⟨2 * n + (j - 2 * n), by omega⟩ * Ideal.cos (C ⟨j - 2 * n, h⟩) - t ⟨2 * n + (j - 2 * n + n), by omega⟩ * Ideal.sin (C ⟨j - 2 * n, h⟩)
      else t ⟨2 * n + (j - 2 * n - n), by omega⟩ * Ideal.sin (C ⟨j - 2 * n - n, by omega⟩) + t ⟨2 * n + (j - 2 * n), by omega⟩ * Ideal.cos (C ⟨j - 2 * n - n, by omega⟩) := by
  have e (a b : ℕ) (ha : a < 4 * n) (hb : b < 4 * n) (h : a = b) : t ⟨a, ha⟩ = t ⟨b, hb⟩ := by subst h; rfl
  have f (a b : ℕ) (ha : a < n) (hb : b < n) (h : a = b) : C ⟨a, ha⟩ = C ⟨b, hb⟩ := by subst h; rfl
  unfold rot
  by_cases h : (j : ℕ) - 2 * n < n
  · rw [dif_neg (by omega), dif_neg h', dif_pos (by omega), dif_pos h]
    rw [e (2 * n + (j - 2 * n)) j (by omega) j.2 (by omega), e (2 * n + (j - 2 * n + n)) (j + n) (by omega) (by omega) (by omega)]
  · rw [dif_neg (by omega), dif_neg h', dif_neg (by omega), dif_neg h]
    rw [e (2 * n + (j - 2 * n)) j (by omega) j.2 (by omega), e (2 * n + (j - 2 * n - n)) (j - n) (by omega) (by omega) (by omega),
      f (j - 2 * n - n) (j - 3 * n) (by omega) (by omega) (by omega)]

theorem qaRotRowLo (b : Fin 8) (s : Fin 4096) (hd : Fin 4) (j : Fin 16) :
    val_main_v237 (F := Ideal) x0 x2 x4 x5 x10 (ix4 b s hd j) = val_main_v211 (F := Ideal) x0 x2 x4 x5 (ix4 b s hd ⟨0 + j, by omega⟩) * Ideal.cos (val_main_v224 (F := Ideal) x10 (ix2 s j)) - val_main_v211 (F := Ideal) x0 x2 x4 x5 (ix4 b s hd ⟨0 + (j + 16), by omega⟩) * Ideal.sin (val_main_v224 (F := Ideal) x10 (ix2 s j)) := by
  simp only [val_main_v237, val_main_v233, val_main_v236, val_main_v229, val_main_v232, val_main_v230, val_main_v235, val_main_v212, val_main_v231, val_main_v234, val_main_v226, val_main_v228, val_main_v225, val_main_v227]
  generalize val_main_v224 (F := Ideal) x10 = R
  generalize val_main_v211 (F := Ideal) x0 x2 x4 x5 = x
  pointwise
  first
  | rfl
  | (congr 4 <;> exact Fin.ext (by dsimp only; omega))

theorem qaRotRowHi (b : Fin 8) (s : Fin 4096) (hd : Fin 4) (j : Fin 16) :
    val_main_v244 (F := Ideal) x0 x2 x4 x5 x10 (ix4 b s hd j) = val_main_v211 (F := Ideal) x0 x2 x4 x5 (ix4 b s hd ⟨0 + j, by omega⟩) * Ideal.sin (val_main_v224 (F := Ideal) x10 (ix2 s j)) + val_main_v211 (F := Ideal) x0 x2 x4 x5 (ix4 b s hd ⟨0 + (j + 16), by omega⟩) * Ideal.cos (val_main_v224 (F := Ideal) x10 (ix2 s j)) := by
  simp only [val_main_v244, val_main_v240, val_main_v243, val_main_v229, val_main_v239, val_main_v230, val_main_v242, val_main_v212, val_main_v238, val_main_v241, val_main_v228, val_main_v226, val_main_v227, val_main_v225]
  generalize val_main_v224 (F := Ideal) x10 = R
  generalize val_main_v211 (F := Ideal) x0 x2 x4 x5 = x
  pointwise
  first
  | rfl
  | (congr 4 <;> exact Fin.ext (by dsimp only; omega))

theorem qaRotRow (b : Fin 8) (s : Fin 4096) (hd : Fin 4) (j : Fin 32) :
    val_main_v245 (F := Ideal) x0 x2 x4 x5 x10 (ix4 b s hd j)
      = if h : (j : ℕ) < 16 then
          val_main_v211 (F := Ideal) x0 x2 x4 x5 (ix4 b s hd ⟨0 + j, by omega⟩) * Ideal.cos (val_main_v224 (F := Ideal) x10 (ix2 s ⟨j, by omega⟩))
            - val_main_v211 (F := Ideal) x0 x2 x4 x5 (ix4 b s hd ⟨0 + (j + 16), by omega⟩) * Ideal.sin (val_main_v224 (F := Ideal) x10 (ix2 s ⟨j, by omega⟩))
        else
          val_main_v211 (F := Ideal) x0 x2 x4 x5 (ix4 b s hd ⟨0 + (j - 16), by omega⟩) * Ideal.sin (val_main_v224 (F := Ideal) x10 (ix2 s ⟨j - 16, by omega⟩))
            + val_main_v211 (F := Ideal) x0 x2 x4 x5 (ix4 b s hd ⟨0 + j, by omega⟩) * Ideal.cos (val_main_v224 (F := Ideal) x10 (ix2 s ⟨j - 16, by omega⟩)) := by
  have hL := qaRotRowLo x0 x2 x4 x5 x10 b s hd
  have hH := qaRotRowHi x0 x2 x4 x5 x10 b s hd
  have e (n : ℕ) (hn : n < 64) (h : n = 0 + j) : val_main_v211 (F := Ideal) x0 x2 x4 x5 (ix4 b s hd ⟨n, hn⟩) = val_main_v211 (F := Ideal) x0 x2 x4 x5 (ix4 b s hd ⟨0 + j, by omega⟩) := by subst h; rfl
  simp only [val_main_v245]
  generalize val_main_v237 (F := Ideal) x0 x2 x4 x5 x10 = p at hL ⊢
  generalize val_main_v244 (F := Ideal) x0 x2 x4 x5 x10 = q at hH ⊢
  by_cases h : (j : ℕ) < 16
  · rw [dif_pos h]
    refine Eq.trans ?_ (hL ⟨j, h⟩)
    pointwise
    rw [dif_pos h]
  · rw [dif_neg h, ← e (0 + (j - 16 + 16)) (by omega) (by omega)]
    refine Eq.trans ?_ (hH ⟨j - 16, by omega⟩)
    pointwise
    rw [dif_neg h]

theorem qaRotColLo (b : Fin 8) (s : Fin 4096) (hd : Fin 4) (j : Fin 16) :
    val_main_v271 (F := Ideal) x0 x2 x4 x5 x11 (ix4 b s hd j) = val_main_v211 (F := Ideal) x0 x2 x4 x5 (ix4 b s hd ⟨32 + j, by omega⟩) * Ideal.cos (val_main_v258 (F := Ideal) x11 (ix2 s j)) - val_main_v211 (F := Ideal) x0 x2 x4 x5 (ix4 b s hd ⟨32 + (j + 16), by omega⟩) * Ideal.sin (val_main_v258 (F := Ideal) x11 (ix2 s j)) := by
  simp only [val_main_v271, val_main_v267, val_main_v270, val_main_v263, val_main_v266, val_main_v264, val_main_v269, val_main_v246, val_main_v265, val_main_v268, val_main_v260, val_main_v262, val_main_v259, val_main_v261]
  generalize val_main_v258 (F := Ideal) x11 = R
  generalize val_main_v211 (F := Ideal) x0 x2 x4 x5 = x
  pointwise
  first
  | rfl
  | (congr 4 <;> exact Fin.ext (by dsimp only; omega))

theorem qaRotColHi (b : Fin 8) (s : Fin 4096) (hd : Fin 4) (j : Fin 16) :
    val_main_v278 (F := Ideal) x0 x2 x4 x5 x11 (ix4 b s hd j) = val_main_v211 (F := Ideal) x0 x2 x4 x5 (ix4 b s hd ⟨32 + j, by omega⟩) * Ideal.sin (val_main_v258 (F := Ideal) x11 (ix2 s j)) + val_main_v211 (F := Ideal) x0 x2 x4 x5 (ix4 b s hd ⟨32 + (j + 16), by omega⟩) * Ideal.cos (val_main_v258 (F := Ideal) x11 (ix2 s j)) := by
  simp only [val_main_v278, val_main_v274, val_main_v277, val_main_v263, val_main_v273, val_main_v264, val_main_v276, val_main_v246, val_main_v272, val_main_v275, val_main_v262, val_main_v260, val_main_v261, val_main_v259]
  generalize val_main_v258 (F := Ideal) x11 = R
  generalize val_main_v211 (F := Ideal) x0 x2 x4 x5 = x
  pointwise
  first
  | rfl
  | (congr 4 <;> exact Fin.ext (by dsimp only; omega))

theorem qaRotCol (b : Fin 8) (s : Fin 4096) (hd : Fin 4) (j : Fin 32) :
    val_main_v279 (F := Ideal) x0 x2 x4 x5 x11 (ix4 b s hd j)
      = if h : (j : ℕ) < 16 then
          val_main_v211 (F := Ideal) x0 x2 x4 x5 (ix4 b s hd ⟨32 + j, by omega⟩) * Ideal.cos (val_main_v258 (F := Ideal) x11 (ix2 s ⟨j, by omega⟩))
            - val_main_v211 (F := Ideal) x0 x2 x4 x5 (ix4 b s hd ⟨32 + (j + 16), by omega⟩) * Ideal.sin (val_main_v258 (F := Ideal) x11 (ix2 s ⟨j, by omega⟩))
        else
          val_main_v211 (F := Ideal) x0 x2 x4 x5 (ix4 b s hd ⟨32 + (j - 16), by omega⟩) * Ideal.sin (val_main_v258 (F := Ideal) x11 (ix2 s ⟨j - 16, by omega⟩))
            + val_main_v211 (F := Ideal) x0 x2 x4 x5 (ix4 b s hd ⟨32 + j, by omega⟩) * Ideal.cos (val_main_v258 (F := Ideal) x11 (ix2 s ⟨j - 16, by omega⟩)) := by
  have hL := qaRotColLo x0 x2 x4 x5 x11 b s hd
  have hH := qaRotColHi x0 x2 x4 x5 x11 b s hd
  have e (n : ℕ) (hn : n < 64) (h : n = 32 + j) : val_main_v211 (F := Ideal) x0 x2 x4 x5 (ix4 b s hd ⟨n, hn⟩) = val_main_v211 (F := Ideal) x0 x2 x4 x5 (ix4 b s hd ⟨32 + j, by omega⟩) := by subst h; rfl
  simp only [val_main_v279]
  generalize val_main_v271 (F := Ideal) x0 x2 x4 x5 x11 = p at hL ⊢
  generalize val_main_v278 (F := Ideal) x0 x2 x4 x5 x11 = q at hH ⊢
  by_cases h : (j : ℕ) < 16
  · rw [dif_pos h]
    refine Eq.trans ?_ (hL ⟨j, h⟩)
    pointwise
    rw [dif_pos h]
  · rw [dif_neg h, ← e (32 + (j - 16 + 16)) (by omega) (by omega)]
    refine Eq.trans ?_ (hH ⟨j - 16, by omega⟩)
    pointwise
    rw [dif_neg h]

theorem qaRot (b : Fin 8) (s : Fin 4096) (hd : Fin 4) (j : Fin 64) :
    val_main_v280 (F := Ideal) x0 x2 x4 x5 x10 x11 (ix4 b s hd j)
      = rot 16 (fun k => val_main_v224 (F := Ideal) x10 (ix2 s k)) (fun k => val_main_v258 (F := Ideal) x11 (ix2 s k)) (fun d => val_main_v211 (F := Ideal) x0 x2 x4 x5 (ix4 b s hd d)) j := by
  have hR := qaRotRow x0 x2 x4 x5 x10 b s hd
  have hC := qaRotCol x0 x2 x4 x5 x11 b s hd
  simp only [val_main_v280]
  generalize val_main_v245 (F := Ideal) x0 x2 x4 x5 x10 = p at hR ⊢
  generalize val_main_v279 (F := Ideal) x0 x2 x4 x5 x11 = q at hC ⊢
  by_cases h : (j : ℕ) < 32
  · refine Eq.trans ?_ ((hR ⟨j, h⟩).trans (rot_row 16 (fun k => val_main_v224 (F := Ideal) x10 (ix2 s k)) (fun k => val_main_v258 (F := Ideal) x11 (ix2 s k)) (fun d => val_main_v211 (F := Ideal) x0 x2 x4 x5 (ix4 b s hd d)) j h).symm)
    pointwise
    rw [dif_pos h]
  · refine Eq.trans ?_ ((hC ⟨j - 32, by omega⟩).trans (rot_col 16 (fun k => val_main_v224 (F := Ideal) x10 (ix2 s k)) (fun k => val_main_v258 (F := Ideal) x11 (ix2 s k)) (fun d => val_main_v211 (F := Ideal) x0 x2 x4 x5 (ix4 b s hd d)) j h).symm)
    pointwise
    rw [dif_neg h]

theorem kaRotRowLo (b : Fin 8) (s : Fin 4096) (hd : Fin 2) (j : Fin 16) :
    val_main_v309 (F := Ideal) x0 x2 x4 x5 x10 (ix4 b s hd j) = val_main_v283 (F := Ideal) x0 x2 x4 x5 (ix4 b s hd ⟨0 + j, by omega⟩) * Ideal.cos (val_main_v296 (F := Ideal) x10 (ix2 s j)) - val_main_v283 (F := Ideal) x0 x2 x4 x5 (ix4 b s hd ⟨0 + (j + 16), by omega⟩) * Ideal.sin (val_main_v296 (F := Ideal) x10 (ix2 s j)) := by
  simp only [val_main_v309, val_main_v305, val_main_v308, val_main_v301, val_main_v304, val_main_v302, val_main_v307, val_main_v284, val_main_v303, val_main_v306, val_main_v298, val_main_v300, val_main_v297, val_main_v299]
  generalize val_main_v296 (F := Ideal) x10 = R
  generalize val_main_v283 (F := Ideal) x0 x2 x4 x5 = x
  pointwise
  first
  | rfl
  | (congr 4 <;> exact Fin.ext (by dsimp only; omega))

theorem kaRotRowHi (b : Fin 8) (s : Fin 4096) (hd : Fin 2) (j : Fin 16) :
    val_main_v316 (F := Ideal) x0 x2 x4 x5 x10 (ix4 b s hd j) = val_main_v283 (F := Ideal) x0 x2 x4 x5 (ix4 b s hd ⟨0 + j, by omega⟩) * Ideal.sin (val_main_v296 (F := Ideal) x10 (ix2 s j)) + val_main_v283 (F := Ideal) x0 x2 x4 x5 (ix4 b s hd ⟨0 + (j + 16), by omega⟩) * Ideal.cos (val_main_v296 (F := Ideal) x10 (ix2 s j)) := by
  simp only [val_main_v316, val_main_v312, val_main_v315, val_main_v301, val_main_v311, val_main_v302, val_main_v314, val_main_v284, val_main_v310, val_main_v313, val_main_v300, val_main_v298, val_main_v299, val_main_v297]
  generalize val_main_v296 (F := Ideal) x10 = R
  generalize val_main_v283 (F := Ideal) x0 x2 x4 x5 = x
  pointwise
  first
  | rfl
  | (congr 4 <;> exact Fin.ext (by dsimp only; omega))

theorem kaRotRow (b : Fin 8) (s : Fin 4096) (hd : Fin 2) (j : Fin 32) :
    val_main_v317 (F := Ideal) x0 x2 x4 x5 x10 (ix4 b s hd j)
      = if h : (j : ℕ) < 16 then
          val_main_v283 (F := Ideal) x0 x2 x4 x5 (ix4 b s hd ⟨0 + j, by omega⟩) * Ideal.cos (val_main_v296 (F := Ideal) x10 (ix2 s ⟨j, by omega⟩))
            - val_main_v283 (F := Ideal) x0 x2 x4 x5 (ix4 b s hd ⟨0 + (j + 16), by omega⟩) * Ideal.sin (val_main_v296 (F := Ideal) x10 (ix2 s ⟨j, by omega⟩))
        else
          val_main_v283 (F := Ideal) x0 x2 x4 x5 (ix4 b s hd ⟨0 + (j - 16), by omega⟩) * Ideal.sin (val_main_v296 (F := Ideal) x10 (ix2 s ⟨j - 16, by omega⟩))
            + val_main_v283 (F := Ideal) x0 x2 x4 x5 (ix4 b s hd ⟨0 + j, by omega⟩) * Ideal.cos (val_main_v296 (F := Ideal) x10 (ix2 s ⟨j - 16, by omega⟩)) := by
  have hL := kaRotRowLo x0 x2 x4 x5 x10 b s hd
  have hH := kaRotRowHi x0 x2 x4 x5 x10 b s hd
  have e (n : ℕ) (hn : n < 64) (h : n = 0 + j) : val_main_v283 (F := Ideal) x0 x2 x4 x5 (ix4 b s hd ⟨n, hn⟩) = val_main_v283 (F := Ideal) x0 x2 x4 x5 (ix4 b s hd ⟨0 + j, by omega⟩) := by subst h; rfl
  simp only [val_main_v317]
  generalize val_main_v309 (F := Ideal) x0 x2 x4 x5 x10 = p at hL ⊢
  generalize val_main_v316 (F := Ideal) x0 x2 x4 x5 x10 = q at hH ⊢
  by_cases h : (j : ℕ) < 16
  · rw [dif_pos h]
    refine Eq.trans ?_ (hL ⟨j, h⟩)
    pointwise
    rw [dif_pos h]
  · rw [dif_neg h, ← e (0 + (j - 16 + 16)) (by omega) (by omega)]
    refine Eq.trans ?_ (hH ⟨j - 16, by omega⟩)
    pointwise
    rw [dif_neg h]

theorem kaRotColLo (b : Fin 8) (s : Fin 4096) (hd : Fin 2) (j : Fin 16) :
    val_main_v343 (F := Ideal) x0 x2 x4 x5 x11 (ix4 b s hd j) = val_main_v283 (F := Ideal) x0 x2 x4 x5 (ix4 b s hd ⟨32 + j, by omega⟩) * Ideal.cos (val_main_v330 (F := Ideal) x11 (ix2 s j)) - val_main_v283 (F := Ideal) x0 x2 x4 x5 (ix4 b s hd ⟨32 + (j + 16), by omega⟩) * Ideal.sin (val_main_v330 (F := Ideal) x11 (ix2 s j)) := by
  simp only [val_main_v343, val_main_v339, val_main_v342, val_main_v335, val_main_v338, val_main_v336, val_main_v341, val_main_v318, val_main_v337, val_main_v340, val_main_v332, val_main_v334, val_main_v331, val_main_v333]
  generalize val_main_v330 (F := Ideal) x11 = R
  generalize val_main_v283 (F := Ideal) x0 x2 x4 x5 = x
  pointwise
  first
  | rfl
  | (congr 4 <;> exact Fin.ext (by dsimp only; omega))

theorem kaRotColHi (b : Fin 8) (s : Fin 4096) (hd : Fin 2) (j : Fin 16) :
    val_main_v350 (F := Ideal) x0 x2 x4 x5 x11 (ix4 b s hd j) = val_main_v283 (F := Ideal) x0 x2 x4 x5 (ix4 b s hd ⟨32 + j, by omega⟩) * Ideal.sin (val_main_v330 (F := Ideal) x11 (ix2 s j)) + val_main_v283 (F := Ideal) x0 x2 x4 x5 (ix4 b s hd ⟨32 + (j + 16), by omega⟩) * Ideal.cos (val_main_v330 (F := Ideal) x11 (ix2 s j)) := by
  simp only [val_main_v350, val_main_v346, val_main_v349, val_main_v335, val_main_v345, val_main_v336, val_main_v348, val_main_v318, val_main_v344, val_main_v347, val_main_v334, val_main_v332, val_main_v333, val_main_v331]
  generalize val_main_v330 (F := Ideal) x11 = R
  generalize val_main_v283 (F := Ideal) x0 x2 x4 x5 = x
  pointwise
  first
  | rfl
  | (congr 4 <;> exact Fin.ext (by dsimp only; omega))

theorem kaRotCol (b : Fin 8) (s : Fin 4096) (hd : Fin 2) (j : Fin 32) :
    val_main_v351 (F := Ideal) x0 x2 x4 x5 x11 (ix4 b s hd j)
      = if h : (j : ℕ) < 16 then
          val_main_v283 (F := Ideal) x0 x2 x4 x5 (ix4 b s hd ⟨32 + j, by omega⟩) * Ideal.cos (val_main_v330 (F := Ideal) x11 (ix2 s ⟨j, by omega⟩))
            - val_main_v283 (F := Ideal) x0 x2 x4 x5 (ix4 b s hd ⟨32 + (j + 16), by omega⟩) * Ideal.sin (val_main_v330 (F := Ideal) x11 (ix2 s ⟨j, by omega⟩))
        else
          val_main_v283 (F := Ideal) x0 x2 x4 x5 (ix4 b s hd ⟨32 + (j - 16), by omega⟩) * Ideal.sin (val_main_v330 (F := Ideal) x11 (ix2 s ⟨j - 16, by omega⟩))
            + val_main_v283 (F := Ideal) x0 x2 x4 x5 (ix4 b s hd ⟨32 + j, by omega⟩) * Ideal.cos (val_main_v330 (F := Ideal) x11 (ix2 s ⟨j - 16, by omega⟩)) := by
  have hL := kaRotColLo x0 x2 x4 x5 x11 b s hd
  have hH := kaRotColHi x0 x2 x4 x5 x11 b s hd
  have e (n : ℕ) (hn : n < 64) (h : n = 32 + j) : val_main_v283 (F := Ideal) x0 x2 x4 x5 (ix4 b s hd ⟨n, hn⟩) = val_main_v283 (F := Ideal) x0 x2 x4 x5 (ix4 b s hd ⟨32 + j, by omega⟩) := by subst h; rfl
  simp only [val_main_v351]
  generalize val_main_v343 (F := Ideal) x0 x2 x4 x5 x11 = p at hL ⊢
  generalize val_main_v350 (F := Ideal) x0 x2 x4 x5 x11 = q at hH ⊢
  by_cases h : (j : ℕ) < 16
  · rw [dif_pos h]
    refine Eq.trans ?_ (hL ⟨j, h⟩)
    pointwise
    rw [dif_pos h]
  · rw [dif_neg h, ← e (32 + (j - 16 + 16)) (by omega) (by omega)]
    refine Eq.trans ?_ (hH ⟨j - 16, by omega⟩)
    pointwise
    rw [dif_neg h]

theorem kaRot (b : Fin 8) (s : Fin 4096) (hd : Fin 2) (j : Fin 64) :
    val_main_v352 (F := Ideal) x0 x2 x4 x5 x10 x11 (ix4 b s hd j)
      = rot 16 (fun k => val_main_v296 (F := Ideal) x10 (ix2 s k)) (fun k => val_main_v330 (F := Ideal) x11 (ix2 s k)) (fun d => val_main_v283 (F := Ideal) x0 x2 x4 x5 (ix4 b s hd d)) j := by
  have hR := kaRotRow x0 x2 x4 x5 x10 b s hd
  have hC := kaRotCol x0 x2 x4 x5 x11 b s hd
  simp only [val_main_v352]
  generalize val_main_v317 (F := Ideal) x0 x2 x4 x5 x10 = p at hR ⊢
  generalize val_main_v351 (F := Ideal) x0 x2 x4 x5 x11 = q at hC ⊢
  by_cases h : (j : ℕ) < 32
  · refine Eq.trans ?_ ((hR ⟨j, h⟩).trans (rot_row 16 (fun k => val_main_v296 (F := Ideal) x10 (ix2 s k)) (fun k => val_main_v330 (F := Ideal) x11 (ix2 s k)) (fun d => val_main_v283 (F := Ideal) x0 x2 x4 x5 (ix4 b s hd d)) j h).symm)
    pointwise
    rw [dif_pos h]
  · refine Eq.trans ?_ ((hC ⟨j - 32, by omega⟩).trans (rot_col 16 (fun k => val_main_v296 (F := Ideal) x10 (ix2 s k)) (fun k => val_main_v330 (F := Ideal) x11 (ix2 s k)) (fun d => val_main_v283 (F := Ideal) x0 x2 x4 x5 (ix4 b s hd d)) j h).symm)
    pointwise
    rw [dif_neg h]

theorem qbRotRowLo (b : Fin 8) (s : Fin 4096) (hd : Fin 4) (j : Fin 8) :
    val_main_v78 (F := Ideal) x0 x2 x4 x5 x6 x7 x10 (ix4 b s hd j) = val_main_v52 (F := Ideal) x0 x2 x4 x5 x6 x7 (ix4 b s hd ⟨0 + j, by omega⟩) * Ideal.cos (val_main_v65 (F := Ideal) x10 (ix2 s j)) - val_main_v52 (F := Ideal) x0 x2 x4 x5 x6 x7 (ix4 b s hd ⟨0 + (j + 8), by omega⟩) * Ideal.sin (val_main_v65 (F := Ideal) x10 (ix2 s j)) := by
  simp only [val_main_v78, val_main_v74, val_main_v77, val_main_v70, val_main_v73, val_main_v71, val_main_v76, val_main_v53, val_main_v72, val_main_v75, val_main_v67, val_main_v69, val_main_v66, val_main_v68]
  generalize val_main_v65 (F := Ideal) x10 = R
  generalize val_main_v52 (F := Ideal) x0 x2 x4 x5 x6 x7 = x
  pointwise
  first
  | rfl
  | (congr 4 <;> exact Fin.ext (by dsimp only; omega))

theorem qbRotRowHi (b : Fin 8) (s : Fin 4096) (hd : Fin 4) (j : Fin 8) :
    val_main_v85 (F := Ideal) x0 x2 x4 x5 x6 x7 x10 (ix4 b s hd j) = val_main_v52 (F := Ideal) x0 x2 x4 x5 x6 x7 (ix4 b s hd ⟨0 + j, by omega⟩) * Ideal.sin (val_main_v65 (F := Ideal) x10 (ix2 s j)) + val_main_v52 (F := Ideal) x0 x2 x4 x5 x6 x7 (ix4 b s hd ⟨0 + (j + 8), by omega⟩) * Ideal.cos (val_main_v65 (F := Ideal) x10 (ix2 s j)) := by
  simp only [val_main_v85, val_main_v81, val_main_v84, val_main_v70, val_main_v80, val_main_v71, val_main_v83, val_main_v53, val_main_v79, val_main_v82, val_main_v69, val_main_v67, val_main_v68, val_main_v66]
  generalize val_main_v65 (F := Ideal) x10 = R
  generalize val_main_v52 (F := Ideal) x0 x2 x4 x5 x6 x7 = x
  pointwise
  first
  | rfl
  | (congr 4 <;> exact Fin.ext (by dsimp only; omega))

theorem qbRotRow (b : Fin 8) (s : Fin 4096) (hd : Fin 4) (j : Fin 16) :
    val_main_v86 (F := Ideal) x0 x2 x4 x5 x6 x7 x10 (ix4 b s hd j)
      = if h : (j : ℕ) < 8 then
          val_main_v52 (F := Ideal) x0 x2 x4 x5 x6 x7 (ix4 b s hd ⟨0 + j, by omega⟩) * Ideal.cos (val_main_v65 (F := Ideal) x10 (ix2 s ⟨j, by omega⟩))
            - val_main_v52 (F := Ideal) x0 x2 x4 x5 x6 x7 (ix4 b s hd ⟨0 + (j + 8), by omega⟩) * Ideal.sin (val_main_v65 (F := Ideal) x10 (ix2 s ⟨j, by omega⟩))
        else
          val_main_v52 (F := Ideal) x0 x2 x4 x5 x6 x7 (ix4 b s hd ⟨0 + (j - 8), by omega⟩) * Ideal.sin (val_main_v65 (F := Ideal) x10 (ix2 s ⟨j - 8, by omega⟩))
            + val_main_v52 (F := Ideal) x0 x2 x4 x5 x6 x7 (ix4 b s hd ⟨0 + j, by omega⟩) * Ideal.cos (val_main_v65 (F := Ideal) x10 (ix2 s ⟨j - 8, by omega⟩)) := by
  have hL := qbRotRowLo x0 x2 x4 x5 x6 x7 x10 b s hd
  have hH := qbRotRowHi x0 x2 x4 x5 x6 x7 x10 b s hd
  have e (n : ℕ) (hn : n < 32) (h : n = 0 + j) : val_main_v52 (F := Ideal) x0 x2 x4 x5 x6 x7 (ix4 b s hd ⟨n, hn⟩) = val_main_v52 (F := Ideal) x0 x2 x4 x5 x6 x7 (ix4 b s hd ⟨0 + j, by omega⟩) := by subst h; rfl
  simp only [val_main_v86]
  generalize val_main_v78 (F := Ideal) x0 x2 x4 x5 x6 x7 x10 = p at hL ⊢
  generalize val_main_v85 (F := Ideal) x0 x2 x4 x5 x6 x7 x10 = q at hH ⊢
  by_cases h : (j : ℕ) < 8
  · rw [dif_pos h]
    refine Eq.trans ?_ (hL ⟨j, h⟩)
    pointwise
    rw [dif_pos h]
  · rw [dif_neg h, ← e (0 + (j - 8 + 8)) (by omega) (by omega)]
    refine Eq.trans ?_ (hH ⟨j - 8, by omega⟩)
    pointwise
    rw [dif_neg h]

theorem qbRotColLo (b : Fin 8) (s : Fin 4096) (hd : Fin 4) (j : Fin 8) :
    val_main_v112 (F := Ideal) x0 x2 x4 x5 x6 x7 x11 (ix4 b s hd j) = val_main_v52 (F := Ideal) x0 x2 x4 x5 x6 x7 (ix4 b s hd ⟨16 + j, by omega⟩) * Ideal.cos (val_main_v99 (F := Ideal) x11 (ix2 s j)) - val_main_v52 (F := Ideal) x0 x2 x4 x5 x6 x7 (ix4 b s hd ⟨16 + (j + 8), by omega⟩) * Ideal.sin (val_main_v99 (F := Ideal) x11 (ix2 s j)) := by
  simp only [val_main_v112, val_main_v108, val_main_v111, val_main_v104, val_main_v107, val_main_v105, val_main_v110, val_main_v87, val_main_v106, val_main_v109, val_main_v101, val_main_v103, val_main_v100, val_main_v102]
  generalize val_main_v99 (F := Ideal) x11 = R
  generalize val_main_v52 (F := Ideal) x0 x2 x4 x5 x6 x7 = x
  pointwise
  first
  | rfl
  | (congr 4 <;> exact Fin.ext (by dsimp only; omega))

theorem qbRotColHi (b : Fin 8) (s : Fin 4096) (hd : Fin 4) (j : Fin 8) :
    val_main_v119 (F := Ideal) x0 x2 x4 x5 x6 x7 x11 (ix4 b s hd j) = val_main_v52 (F := Ideal) x0 x2 x4 x5 x6 x7 (ix4 b s hd ⟨16 + j, by omega⟩) * Ideal.sin (val_main_v99 (F := Ideal) x11 (ix2 s j)) + val_main_v52 (F := Ideal) x0 x2 x4 x5 x6 x7 (ix4 b s hd ⟨16 + (j + 8), by omega⟩) * Ideal.cos (val_main_v99 (F := Ideal) x11 (ix2 s j)) := by
  simp only [val_main_v119, val_main_v115, val_main_v118, val_main_v104, val_main_v114, val_main_v105, val_main_v117, val_main_v87, val_main_v113, val_main_v116, val_main_v103, val_main_v101, val_main_v102, val_main_v100]
  generalize val_main_v99 (F := Ideal) x11 = R
  generalize val_main_v52 (F := Ideal) x0 x2 x4 x5 x6 x7 = x
  pointwise
  first
  | rfl
  | (congr 4 <;> exact Fin.ext (by dsimp only; omega))

theorem qbRotCol (b : Fin 8) (s : Fin 4096) (hd : Fin 4) (j : Fin 16) :
    val_main_v120 (F := Ideal) x0 x2 x4 x5 x6 x7 x11 (ix4 b s hd j)
      = if h : (j : ℕ) < 8 then
          val_main_v52 (F := Ideal) x0 x2 x4 x5 x6 x7 (ix4 b s hd ⟨16 + j, by omega⟩) * Ideal.cos (val_main_v99 (F := Ideal) x11 (ix2 s ⟨j, by omega⟩))
            - val_main_v52 (F := Ideal) x0 x2 x4 x5 x6 x7 (ix4 b s hd ⟨16 + (j + 8), by omega⟩) * Ideal.sin (val_main_v99 (F := Ideal) x11 (ix2 s ⟨j, by omega⟩))
        else
          val_main_v52 (F := Ideal) x0 x2 x4 x5 x6 x7 (ix4 b s hd ⟨16 + (j - 8), by omega⟩) * Ideal.sin (val_main_v99 (F := Ideal) x11 (ix2 s ⟨j - 8, by omega⟩))
            + val_main_v52 (F := Ideal) x0 x2 x4 x5 x6 x7 (ix4 b s hd ⟨16 + j, by omega⟩) * Ideal.cos (val_main_v99 (F := Ideal) x11 (ix2 s ⟨j - 8, by omega⟩)) := by
  have hL := qbRotColLo x0 x2 x4 x5 x6 x7 x11 b s hd
  have hH := qbRotColHi x0 x2 x4 x5 x6 x7 x11 b s hd
  have e (n : ℕ) (hn : n < 32) (h : n = 16 + j) : val_main_v52 (F := Ideal) x0 x2 x4 x5 x6 x7 (ix4 b s hd ⟨n, hn⟩) = val_main_v52 (F := Ideal) x0 x2 x4 x5 x6 x7 (ix4 b s hd ⟨16 + j, by omega⟩) := by subst h; rfl
  simp only [val_main_v120]
  generalize val_main_v112 (F := Ideal) x0 x2 x4 x5 x6 x7 x11 = p at hL ⊢
  generalize val_main_v119 (F := Ideal) x0 x2 x4 x5 x6 x7 x11 = q at hH ⊢
  by_cases h : (j : ℕ) < 8
  · rw [dif_pos h]
    refine Eq.trans ?_ (hL ⟨j, h⟩)
    pointwise
    rw [dif_pos h]
  · rw [dif_neg h, ← e (16 + (j - 8 + 8)) (by omega) (by omega)]
    refine Eq.trans ?_ (hH ⟨j - 8, by omega⟩)
    pointwise
    rw [dif_neg h]

theorem qbRot (b : Fin 8) (s : Fin 4096) (hd : Fin 4) (j : Fin 32) :
    val_main_v121 (F := Ideal) x0 x2 x4 x5 x6 x7 x10 x11 (ix4 b s hd j)
      = rot 8 (fun k => val_main_v65 (F := Ideal) x10 (ix2 s k)) (fun k => val_main_v99 (F := Ideal) x11 (ix2 s k)) (fun d => val_main_v52 (F := Ideal) x0 x2 x4 x5 x6 x7 (ix4 b s hd d)) j := by
  have hR := qbRotRow x0 x2 x4 x5 x6 x7 x10 b s hd
  have hC := qbRotCol x0 x2 x4 x5 x6 x7 x11 b s hd
  simp only [val_main_v121]
  generalize val_main_v86 (F := Ideal) x0 x2 x4 x5 x6 x7 x10 = p at hR ⊢
  generalize val_main_v120 (F := Ideal) x0 x2 x4 x5 x6 x7 x11 = q at hC ⊢
  by_cases h : (j : ℕ) < 16
  · refine Eq.trans ?_ ((hR ⟨j, h⟩).trans (rot_row 8 (fun k => val_main_v65 (F := Ideal) x10 (ix2 s k)) (fun k => val_main_v99 (F := Ideal) x11 (ix2 s k)) (fun d => val_main_v52 (F := Ideal) x0 x2 x4 x5 x6 x7 (ix4 b s hd d)) j h).symm)
    pointwise
    rw [dif_pos h]
  · refine Eq.trans ?_ ((hC ⟨j - 16, by omega⟩).trans (rot_col 8 (fun k => val_main_v65 (F := Ideal) x10 (ix2 s k)) (fun k => val_main_v99 (F := Ideal) x11 (ix2 s k)) (fun d => val_main_v52 (F := Ideal) x0 x2 x4 x5 x6 x7 (ix4 b s hd d)) j h).symm)
    pointwise
    rw [dif_neg h]

theorem krRotRowLo (b : Fin 8) (s : Fin 4096) (hd : Fin 1) (j : Fin 8) :
    val_main_v164 (F := Ideal) x0 x2 x4 x5 x10 (ix4 b s hd j) = val_main_v138 (F := Ideal) x0 x2 x4 x5 (ix4 b s hd ⟨0 + j, by omega⟩) * Ideal.cos (val_main_v151 (F := Ideal) x10 (ix2 s j)) - val_main_v138 (F := Ideal) x0 x2 x4 x5 (ix4 b s hd ⟨0 + (j + 8), by omega⟩) * Ideal.sin (val_main_v151 (F := Ideal) x10 (ix2 s j)) := by
  simp only [val_main_v164, val_main_v160, val_main_v163, val_main_v156, val_main_v159, val_main_v157, val_main_v162, val_main_v139, val_main_v158, val_main_v161, val_main_v153, val_main_v155, val_main_v152, val_main_v154]
  generalize val_main_v151 (F := Ideal) x10 = R
  generalize val_main_v138 (F := Ideal) x0 x2 x4 x5 = x
  obtain rfl : hd = 0 := Subsingleton.elim _ _
  pointwise
  first
  | rfl
  | (congr 4 <;> exact Fin.ext (by dsimp only; omega))

theorem krRotRowHi (b : Fin 8) (s : Fin 4096) (hd : Fin 1) (j : Fin 8) :
    val_main_v171 (F := Ideal) x0 x2 x4 x5 x10 (ix4 b s hd j) = val_main_v138 (F := Ideal) x0 x2 x4 x5 (ix4 b s hd ⟨0 + j, by omega⟩) * Ideal.sin (val_main_v151 (F := Ideal) x10 (ix2 s j)) + val_main_v138 (F := Ideal) x0 x2 x4 x5 (ix4 b s hd ⟨0 + (j + 8), by omega⟩) * Ideal.cos (val_main_v151 (F := Ideal) x10 (ix2 s j)) := by
  simp only [val_main_v171, val_main_v167, val_main_v170, val_main_v156, val_main_v166, val_main_v157, val_main_v169, val_main_v139, val_main_v165, val_main_v168, val_main_v155, val_main_v153, val_main_v154, val_main_v152]
  generalize val_main_v151 (F := Ideal) x10 = R
  generalize val_main_v138 (F := Ideal) x0 x2 x4 x5 = x
  obtain rfl : hd = 0 := Subsingleton.elim _ _
  pointwise
  first
  | rfl
  | (congr 4 <;> exact Fin.ext (by dsimp only; omega))

theorem krRotRow (b : Fin 8) (s : Fin 4096) (hd : Fin 1) (j : Fin 16) :
    val_main_v172 (F := Ideal) x0 x2 x4 x5 x10 (ix4 b s hd j)
      = if h : (j : ℕ) < 8 then
          val_main_v138 (F := Ideal) x0 x2 x4 x5 (ix4 b s hd ⟨0 + j, by omega⟩) * Ideal.cos (val_main_v151 (F := Ideal) x10 (ix2 s ⟨j, by omega⟩))
            - val_main_v138 (F := Ideal) x0 x2 x4 x5 (ix4 b s hd ⟨0 + (j + 8), by omega⟩) * Ideal.sin (val_main_v151 (F := Ideal) x10 (ix2 s ⟨j, by omega⟩))
        else
          val_main_v138 (F := Ideal) x0 x2 x4 x5 (ix4 b s hd ⟨0 + (j - 8), by omega⟩) * Ideal.sin (val_main_v151 (F := Ideal) x10 (ix2 s ⟨j - 8, by omega⟩))
            + val_main_v138 (F := Ideal) x0 x2 x4 x5 (ix4 b s hd ⟨0 + j, by omega⟩) * Ideal.cos (val_main_v151 (F := Ideal) x10 (ix2 s ⟨j - 8, by omega⟩)) := by
  obtain rfl : hd = 0 := Subsingleton.elim _ _
  have hL := krRotRowLo x0 x2 x4 x5 x10 b s 0
  have hH := krRotRowHi x0 x2 x4 x5 x10 b s 0
  have e (n : ℕ) (hn : n < 32) (h : n = 0 + j) : val_main_v138 (F := Ideal) x0 x2 x4 x5 (ix4 b s 0 ⟨n, hn⟩) = val_main_v138 (F := Ideal) x0 x2 x4 x5 (ix4 b s 0 ⟨0 + j, by omega⟩) := by subst h; rfl
  simp only [val_main_v172]
  generalize val_main_v164 (F := Ideal) x0 x2 x4 x5 x10 = p at hL ⊢
  generalize val_main_v171 (F := Ideal) x0 x2 x4 x5 x10 = q at hH ⊢
  by_cases h : (j : ℕ) < 8
  · rw [dif_pos h]
    refine Eq.trans ?_ (hL ⟨j, h⟩)
    pointwise
    rw [dif_pos h]
  · rw [dif_neg h, ← e (0 + (j - 8 + 8)) (by omega) (by omega)]
    refine Eq.trans ?_ (hH ⟨j - 8, by omega⟩)
    pointwise
    rw [dif_neg h]

theorem krRotColLo (b : Fin 8) (s : Fin 4096) (hd : Fin 1) (j : Fin 8) :
    val_main_v198 (F := Ideal) x0 x2 x4 x5 x11 (ix4 b s hd j) = val_main_v138 (F := Ideal) x0 x2 x4 x5 (ix4 b s hd ⟨16 + j, by omega⟩) * Ideal.cos (val_main_v185 (F := Ideal) x11 (ix2 s j)) - val_main_v138 (F := Ideal) x0 x2 x4 x5 (ix4 b s hd ⟨16 + (j + 8), by omega⟩) * Ideal.sin (val_main_v185 (F := Ideal) x11 (ix2 s j)) := by
  simp only [val_main_v198, val_main_v194, val_main_v197, val_main_v190, val_main_v193, val_main_v191, val_main_v196, val_main_v173, val_main_v192, val_main_v195, val_main_v187, val_main_v189, val_main_v186, val_main_v188]
  generalize val_main_v185 (F := Ideal) x11 = R
  generalize val_main_v138 (F := Ideal) x0 x2 x4 x5 = x
  obtain rfl : hd = 0 := Subsingleton.elim _ _
  pointwise
  first
  | rfl
  | (congr 4 <;> exact Fin.ext (by dsimp only; omega))

theorem krRotColHi (b : Fin 8) (s : Fin 4096) (hd : Fin 1) (j : Fin 8) :
    val_main_v205 (F := Ideal) x0 x2 x4 x5 x11 (ix4 b s hd j) = val_main_v138 (F := Ideal) x0 x2 x4 x5 (ix4 b s hd ⟨16 + j, by omega⟩) * Ideal.sin (val_main_v185 (F := Ideal) x11 (ix2 s j)) + val_main_v138 (F := Ideal) x0 x2 x4 x5 (ix4 b s hd ⟨16 + (j + 8), by omega⟩) * Ideal.cos (val_main_v185 (F := Ideal) x11 (ix2 s j)) := by
  simp only [val_main_v205, val_main_v201, val_main_v204, val_main_v190, val_main_v200, val_main_v191, val_main_v203, val_main_v173, val_main_v199, val_main_v202, val_main_v189, val_main_v187, val_main_v188, val_main_v186]
  generalize val_main_v185 (F := Ideal) x11 = R
  generalize val_main_v138 (F := Ideal) x0 x2 x4 x5 = x
  obtain rfl : hd = 0 := Subsingleton.elim _ _
  pointwise
  first
  | rfl
  | (congr 4 <;> exact Fin.ext (by dsimp only; omega))

theorem krRotCol (b : Fin 8) (s : Fin 4096) (hd : Fin 1) (j : Fin 16) :
    val_main_v206 (F := Ideal) x0 x2 x4 x5 x11 (ix4 b s hd j)
      = if h : (j : ℕ) < 8 then
          val_main_v138 (F := Ideal) x0 x2 x4 x5 (ix4 b s hd ⟨16 + j, by omega⟩) * Ideal.cos (val_main_v185 (F := Ideal) x11 (ix2 s ⟨j, by omega⟩))
            - val_main_v138 (F := Ideal) x0 x2 x4 x5 (ix4 b s hd ⟨16 + (j + 8), by omega⟩) * Ideal.sin (val_main_v185 (F := Ideal) x11 (ix2 s ⟨j, by omega⟩))
        else
          val_main_v138 (F := Ideal) x0 x2 x4 x5 (ix4 b s hd ⟨16 + (j - 8), by omega⟩) * Ideal.sin (val_main_v185 (F := Ideal) x11 (ix2 s ⟨j - 8, by omega⟩))
            + val_main_v138 (F := Ideal) x0 x2 x4 x5 (ix4 b s hd ⟨16 + j, by omega⟩) * Ideal.cos (val_main_v185 (F := Ideal) x11 (ix2 s ⟨j - 8, by omega⟩)) := by
  obtain rfl : hd = 0 := Subsingleton.elim _ _
  have hL := krRotColLo x0 x2 x4 x5 x11 b s 0
  have hH := krRotColHi x0 x2 x4 x5 x11 b s 0
  have e (n : ℕ) (hn : n < 32) (h : n = 16 + j) : val_main_v138 (F := Ideal) x0 x2 x4 x5 (ix4 b s 0 ⟨n, hn⟩) = val_main_v138 (F := Ideal) x0 x2 x4 x5 (ix4 b s 0 ⟨16 + j, by omega⟩) := by subst h; rfl
  simp only [val_main_v206]
  generalize val_main_v198 (F := Ideal) x0 x2 x4 x5 x11 = p at hL ⊢
  generalize val_main_v205 (F := Ideal) x0 x2 x4 x5 x11 = q at hH ⊢
  by_cases h : (j : ℕ) < 8
  · rw [dif_pos h]
    refine Eq.trans ?_ (hL ⟨j, h⟩)
    pointwise
    rw [dif_pos h]
  · rw [dif_neg h, ← e (16 + (j - 8 + 8)) (by omega) (by omega)]
    refine Eq.trans ?_ (hH ⟨j - 8, by omega⟩)
    pointwise
    rw [dif_neg h]

theorem krRot (b : Fin 8) (s : Fin 4096) (hd : Fin 1) (j : Fin 32) :
    val_main_v207 (F := Ideal) x0 x2 x4 x5 x10 x11 (ix4 b s hd j)
      = rot 8 (fun k => val_main_v151 (F := Ideal) x10 (ix2 s k)) (fun k => val_main_v185 (F := Ideal) x11 (ix2 s k)) (fun d => val_main_v138 (F := Ideal) x0 x2 x4 x5 (ix4 b s hd d)) j := by
  obtain rfl : hd = 0 := Subsingleton.elim _ _
  have hR := krRotRow x0 x2 x4 x5 x10 b s 0
  have hC := krRotCol x0 x2 x4 x5 x11 b s 0
  simp only [val_main_v207]
  generalize val_main_v172 (F := Ideal) x0 x2 x4 x5 x10 = p at hR ⊢
  generalize val_main_v206 (F := Ideal) x0 x2 x4 x5 x11 = q at hC ⊢
  by_cases h : (j : ℕ) < 16
  · refine Eq.trans ?_ ((hR ⟨j, h⟩).trans (rot_row 8 (fun k => val_main_v151 (F := Ideal) x10 (ix2 s k)) (fun k => val_main_v185 (F := Ideal) x11 (ix2 s k)) (fun d => val_main_v138 (F := Ideal) x0 x2 x4 x5 (ix4 b s 0 d)) j h).symm)
    pointwise
    rw [dif_pos h]
  · refine Eq.trans ?_ ((hC ⟨j - 16, by omega⟩).trans (rot_col 8 (fun k => val_main_v151 (F := Ideal) x10 (ix2 s k)) (fun k => val_main_v185 (F := Ideal) x11 (ix2 s k)) (fun d => val_main_v138 (F := Ideal) x0 x2 x4 x5 (ix4 b s 0 d)) j h).symm)
    pointwise
    rw [dif_neg h]

end Cert.Reference2Ideal.Proj

end
-- ==== Proof.Proj.ReferenceRest.lean ====
/- The reference's turned and normalised results, read at an entry. -/
module

public import proofs.«01_k».proof.Proof.Proj.Rotated

@[expose] public section

set_option maxRecDepth 16384

noncomputable section

open Idealize.ShloMosaic Idealize.ShloMosaic.TcCoe Idealize.SL.Sem

namespace Cert.Reference2Ideal.Proj

open Cert.Reference2Ideal Cert.Reference2Ideal.Gen Cert.Reference2Ideal.Read Cert.Proj

variable (x0 : FVec Ideal S8x4096x1024 .f32) (x1 : FVec Ideal S8x256x1024 .f32) (x2 : FVec Ideal S8x6144 .f32)
  (x3 : FVec Ideal S6144 .f32) (x4 : FVec Ideal S1024 .f32) (x5 : FVec Ideal S1024x1888 .f32)
  (x6 : FVec Ideal S192 .f32) (x7 : FVec Ideal S192x384 .f32) (x8 : FVec Ideal S128 .f32) (x9 : FVec Ideal S128x512 .f32)
  (x10 x11 : IVec S4096 32)

/-- Row `s` of a batch: the context's rows stay, the latent's are turned by their place's angles. -/
def rotJ (n : ℕ) (R C : Fin 4096 → Fin n → EReal) (s : Fin 4352) (t : Fin (4 * n) → EReal) (j : Fin (4 * n)) : EReal :=
  if h : (s : ℕ) < 256 then t j else rot n (R ⟨s - 256, by omega⟩) (C ⟨s - 256, by omega⟩) t j

theorem zR_early (b : Fin 8) (s : Fin 4352) (h : (s : ℕ) < 256) (n : Fin 1888) :
    zR x0 x1 x2 x3 x4 x5 b s n = val_main_v381 (F := Ideal) x1 x3 x4 x5 (ix3 b ⟨s, h⟩ n) := by
  rw [← zJ_eq x0 x1 x2 x3 x4 x5 _ _ (v381_at x1 x3 x4 x5) (v25_at x0 x2 x4 x5)]
  unfold zJ
  rw [dif_pos h]

theorem zR_late (b : Fin 8) (s : Fin 4352) (h : ¬ (s : ℕ) < 256) (n : Fin 1888) :
    zR x0 x1 x2 x3 x4 x5 b s n = val_main_v25 (F := Ideal) x0 x2 x4 x5 (ix3 b ⟨s - 256, by omega⟩ n) := by
  rw [← zJ_eq x0 x1 x2 x3 x4 x5 _ _ (v381_at x1 x3 x4 x5) (v25_at x0 x2 x4 x5)]
  unfold zJ
  rw [dif_neg h]

/-- A row's normalised query latent times a column. -/
def qU (b : Fin 8) (s : Fin 4352) (n : Fin 384) : EReal :=
  upRow ((192⁻¹ : ℝ) : EReal) (fun k => zR x0 x1 x2 x3 x4 x5 b s ⟨512 + k, by omega⟩) (fun k => x6 (ix1 k)) (fun k => x7 (ix2 k n))

/-- A row's normalised key and value latent times a column. -/
def kvU (b : Fin 8) (s : Fin 4352) (n : Fin 512) : EReal :=
  upRow ((128⁻¹ : ℝ) : EReal) (fun k => zR x0 x1 x2 x3 x4 x5 b s ⟨704 + k, by omega⟩) (fun k => x8 (ix1 k)) (fun k => x9 (ix2 k n))

theorem v405_at (b : Fin 8) (s : Fin 256) (n : Fin 384) :
    val_main_v405 (F := Ideal) x1 x3 x4 x5 x6 x7 (ix3 b s n)
      = upRow ((192⁻¹ : ℝ) : EReal) (fun k => val_main_v381 (F := Ideal) x1 x3 x4 x5 (ix3 b s ⟨512 + k, by omega⟩)) (fun k => x6 (ix1 k)) (fun k => x7 (ix2 k n)) := by
  simp only [val_main_v405, val_main_v404, val_main_v401, val_main_v403, val_main_v385, val_main_v400, val_main_v402, val_main_v399, val_main_v398, val_main_v396, val_main_v397, val_main_v394, val_main_v395, val_main_cst_33, val_main_v393, val_main_cst_32, val_main_v392, val_main_cst_31]
  generalize val_main_v381 (F := Ideal) x1 x3 x4 x5 = u
  unfold upRow
  pointwise
  simp only [div_192, zero_add]

theorem v49_at (b : Fin 8) (s : Fin 4096) (n : Fin 384) :
    val_main_v49 (F := Ideal) x0 x2 x4 x5 x6 x7 (ix3 b s n)
      = upRow ((192⁻¹ : ℝ) : EReal) (fun k => val_main_v25 (F := Ideal) x0 x2 x4 x5 (ix3 b s ⟨512 + k, by omega⟩)) (fun k => x6 (ix1 k)) (fun k => x7 (ix2 k n)) := by
  simp only [val_main_v49, val_main_v48, val_main_v45, val_main_v47, val_main_v29, val_main_v44, val_main_v46, val_main_v43, val_main_v42, val_main_v40, val_main_v41, val_main_v38, val_main_v39, val_main_cst_5, val_main_v37, val_main_cst_4, val_main_v36, val_main_cst_3]
  generalize val_main_v25 (F := Ideal) x0 x2 x4 x5 = u
  unfold upRow
  pointwise
  simp only [div_192, zero_add]

theorem v423_at (b : Fin 8) (s : Fin 256) (n : Fin 512) :
    val_main_v423 (F := Ideal) x1 x3 x4 x5 x8 x9 (ix3 b s n)
      = upRow ((128⁻¹ : ℝ) : EReal) (fun k => val_main_v381 (F := Ideal) x1 x3 x4 x5 (ix3 b s ⟨704 + k, by omega⟩)) (fun k => x8 (ix1 k)) (fun k => x9 (ix2 k n)) := by
  simp only [val_main_v423, val_main_v422, val_main_v419, val_main_v421, val_main_v386, val_main_v418, val_main_v420, val_main_v417, val_main_v416, val_main_v414, val_main_v415, val_main_v412, val_main_v413, val_main_cst_36, val_main_v411, val_main_cst_35, val_main_v410, val_main_cst_34]
  generalize val_main_v381 (F := Ideal) x1 x3 x4 x5 = u
  unfold upRow
  pointwise
  simp only [div_128, zero_add]

theorem v136_at (b : Fin 8) (s : Fin 4096) (n : Fin 512) :
    val_main_v136 (F := Ideal) x0 x2 x4 x5 x8 x9 (ix3 b s n)
      = upRow ((128⁻¹ : ℝ) : EReal) (fun k => val_main_v25 (F := Ideal) x0 x2 x4 x5 (ix3 b s ⟨704 + k, by omega⟩)) (fun k => x8 (ix1 k)) (fun k => x9 (ix2 k n)) := by
  simp only [val_main_v136, val_main_v135, val_main_v132, val_main_v134, val_main_v30, val_main_v131, val_main_v133, val_main_v130, val_main_v129, val_main_v127, val_main_v128, val_main_v125, val_main_v126, val_main_cst_12, val_main_v124, val_main_cst_11, val_main_v123, val_main_cst_10]
  generalize val_main_v25 (F := Ideal) x0 x2 x4 x5 = u
  unfold upRow
  pointwise
  simp only [div_128, zero_add]

theorem qU_early (b : Fin 8) (s : Fin 4352) (h : (s : ℕ) < 256) (n : Fin 384) :
    qU x0 x1 x2 x3 x4 x5 x6 x7 b s n = val_main_v405 (F := Ideal) x1 x3 x4 x5 x6 x7 (ix3 b ⟨s, h⟩ n) := by
  unfold qU
  simp only [zR_early x0 x1 x2 x3 x4 x5 b s h]
  rw [v405_at]

theorem qU_late (b : Fin 8) (s : Fin 4352) (h : ¬ (s : ℕ) < 256) (n : Fin 384) :
    qU x0 x1 x2 x3 x4 x5 x6 x7 b s n = val_main_v49 (F := Ideal) x0 x2 x4 x5 x6 x7 (ix3 b ⟨s - 256, by omega⟩ n) := by
  unfold qU
  simp only [zR_late x0 x1 x2 x3 x4 x5 b s h]
  rw [v49_at]

theorem kvU_early (b : Fin 8) (s : Fin 4352) (h : (s : ℕ) < 256) (n : Fin 512) :
    kvU x0 x1 x2 x3 x4 x5 x8 x9 b s n = val_main_v423 (F := Ideal) x1 x3 x4 x5 x8 x9 (ix3 b ⟨s, h⟩ n) := by
  unfold kvU
  simp only [zR_early x0 x1 x2 x3 x4 x5 b s h]
  rw [v423_at]

theorem kvU_late (b : Fin 8) (s : Fin 4352) (h : ¬ (s : ℕ) < 256) (n : Fin 512) :
    kvU x0 x1 x2 x3 x4 x5 x8 x9 b s n = val_main_v136 (F := Ideal) x0 x2 x4 x5 x8 x9 (ix3 b ⟨s - 256, by omega⟩ n) := by
  unfold kvU
  simp only [zR_late x0 x1 x2 x3 x4 x5 b s h]
  rw [v136_at]

theorem qaCtx (b : Fin 8) (s : Fin 256) (hd : Fin 4) (j : Fin 64) :
    val_main_v431 (F := Ideal) x1 x3 x4 x5 (ix4 b s hd j) = val_main_v381 (F := Ideal) x1 x3 x4 x5 (ix3 b s ⟨0 + (hd * 64 + j), by omega⟩) * Ideal.ofBits .f32 0x3E000000#32 := by
  simp only [val_main_v431, val_main_v429, val_main_v430, val_main_v382, val_main_cst_37]
  generalize val_main_v381 (F := Ideal) x1 x3 x4 x5 = u
  pointwise

theorem qaBase (b : Fin 8) (s : Fin 4096) (hd : Fin 4) (j : Fin 64) :
    val_main_v211 (F := Ideal) x0 x2 x4 x5 (ix4 b s hd j) = val_main_v25 (F := Ideal) x0 x2 x4 x5 (ix3 b s ⟨0 + (hd * 64 + j), by omega⟩) := by
  simp only [val_main_v211, val_main_v26]
  generalize val_main_v25 (F := Ideal) x0 x2 x4 x5 = u
  pointwise

theorem qaLat (b : Fin 8) (s : Fin 4096) (hd : Fin 4) (j : Fin 64) :
    val_main_v282 (F := Ideal) x0 x2 x4 x5 x10 x11 (ix4 b s hd j)
      = rot 16 (fun k => val_main_v224 (F := Ideal) x10 (ix2 s k)) (fun k => val_main_v258 (F := Ideal) x11 (ix2 s k)) (fun d : Fin 64 => val_main_v25 (F := Ideal) x0 x2 x4 x5 (ix3 b s ⟨0 + (hd * 64 + d), by omega⟩)) j * Ideal.ofBits .f32 0x3E000000#32 := by
  have hr := qaRot x0 x2 x4 x5 x10 x11 b s hd j
  simp only [qaBase] at hr
  rw [← hr]
  simp only [val_main_v282, val_main_v281, val_main_cst_21]
  generalize val_main_v280 (F := Ideal) x0 x2 x4 x5 x10 x11 = y
  pointwise

theorem qa_at (b : Fin 8) (s : Fin 4352) (a : Fin 512) :
    val_main_v443 (F := Ideal) x0 x1 x2 x3 x4 x5 x10 x11 (ix3 b s a)
      = if h : (a : ℕ) % 128 < 64 then
          rotJ 16 (fun s k => val_main_v224 (F := Ideal) x10 (ix2 s k)) (fun s k => val_main_v258 (F := Ideal) x11 (ix2 s k)) s (fun d : Fin 64 => zR x0 x1 x2 x3 x4 x5 b s ⟨0 + (a / 128 * 64 + d), by omega⟩) ⟨a % 128, h⟩ * Ideal.ofBits .f32 0x3E000000#32
        else 0 := by
  have h1 := qaCtx x1 x3 x4 x5
  have h2 := qaLat x0 x2 x4 x5 x10 x11
  simp only [val_main_v443, val_main_v442, val_main_v441, val_main_v440, val_main_call0_v0, val_main_c]
  generalize val_main_v431 (F := Ideal) x1 x3 x4 x5 = p at h1 ⊢
  generalize val_main_v282 (F := Ideal) x0 x2 x4 x5 x10 x11 = q at h2 ⊢
  by_cases h : (a : ℕ) % 128 < 64
  · rw [dif_pos h]
    unfold rotJ
    by_cases hs : (s : ℕ) < 256
    · simp only [zR_early x0 x1 x2 x3 x4 x5 b s hs]
      rw [dif_pos hs]
      refine Eq.trans ?_ (h1 b ⟨s, hs⟩ ⟨a / 128, by omega⟩ ⟨a % 128, h⟩)
      clear h1 h2
      pointwise
      rw [dif_pos (by omega), dif_pos (by omega)]
    · simp only [zR_late x0 x1 x2 x3 x4 x5 b s hs]
      rw [dif_neg hs]
      refine Eq.trans ?_ (h2 b ⟨s - 256, by omega⟩ ⟨a / 128, by omega⟩ ⟨a % 128, h⟩)
      clear h1 h2
      pointwise
      rw [dif_pos (by omega), dif_neg (by omega)]
  · rw [dif_neg h]
    clear h1 h2
    pointwise
    rw [dif_neg (by omega), padNum_at]

theorem kaCtx (b : Fin 8) (s : Fin 256) (hd : Fin 2) (j : Fin 64) :
    val_main_v432 (F := Ideal) x1 x3 x4 x5 (ix4 b s hd j) = val_main_v381 (F := Ideal) x1 x3 x4 x5 (ix3 b s ⟨256 + (hd * 64 + j), by omega⟩) := by
  simp only [val_main_v432, val_main_v383]
  generalize val_main_v381 (F := Ideal) x1 x3 x4 x5 = u
  pointwise

theorem kaBase (b : Fin 8) (s : Fin 4096) (hd : Fin 2) (j : Fin 64) :
    val_main_v283 (F := Ideal) x0 x2 x4 x5 (ix4 b s hd j) = val_main_v25 (F := Ideal) x0 x2 x4 x5 (ix3 b s ⟨256 + (hd * 64 + j), by omega⟩) := by
  simp only [val_main_v283, val_main_v27]
  generalize val_main_v25 (F := Ideal) x0 x2 x4 x5 = u
  pointwise

theorem kaLat (b : Fin 8) (s : Fin 4096) (hd : Fin 2) (j : Fin 64) :
    val_main_v352 (F := Ideal) x0 x2 x4 x5 x10 x11 (ix4 b s hd j)
      = rot 16 (fun k => val_main_v296 (F := Ideal) x10 (ix2 s k)) (fun k => val_main_v330 (F := Ideal) x11 (ix2 s k)) (fun d : Fin 64 => val_main_v25 (F := Ideal) x0 x2 x4 x5 (ix3 b s ⟨256 + (hd * 64 + d), by omega⟩)) j := by
  have hr := kaRot x0 x2 x4 x5 x10 x11 b s hd j
  simp only [kaBase] at hr
  exact hr

theorem ka_at (b : Fin 8) (s : Fin 4352) (a : Fin 256) :
    val_main_v447 (F := Ideal) x0 x1 x2 x3 x4 x5 x10 x11 (ix3 b s a)
      = if h : (a : ℕ) % 128 < 64 then
          rotJ 16 (fun s k => val_main_v296 (F := Ideal) x10 (ix2 s k)) (fun s k => val_main_v330 (F := Ideal) x11 (ix2 s k)) s (fun d : Fin 64 => zR x0 x1 x2 x3 x4 x5 b s ⟨256 + (a / 128 * 64 + d), by omega⟩) ⟨a % 128, h⟩
        else 0 := by
  have h1 := kaCtx x1 x3 x4 x5
  have h2 := kaLat x0 x2 x4 x5 x10 x11
  simp only [val_main_v447, val_main_v446, val_main_v445, val_main_v444, val_main_call1_v0, val_main_c_39]
  generalize val_main_v432 (F := Ideal) x1 x3 x4 x5 = p at h1 ⊢
  generalize val_main_v352 (F := Ideal) x0 x2 x4 x5 x10 x11 = q at h2 ⊢
  by_cases h : (a : ℕ) % 128 < 64
  · rw [dif_pos h]
    unfold rotJ
    by_cases hs : (s : ℕ) < 256
    · simp only [zR_early x0 x1 x2 x3 x4 x5 b s hs]
      rw [dif_pos hs]
      refine Eq.trans ?_ (h1 b ⟨s, hs⟩ ⟨a / 128, by omega⟩ ⟨a % 128, h⟩)
      clear h1 h2
      pointwise
      rw [dif_pos (by omega), dif_pos (by omega)]
    · simp only [zR_late x0 x1 x2 x3 x4 x5 b s hs]
      rw [dif_neg hs]
      refine Eq.trans ?_ (h2 b ⟨s - 256, by omega⟩ ⟨a / 128, by omega⟩ ⟨a % 128, h⟩)
      clear h1 h2
      pointwise
      rw [dif_pos (by omega), dif_neg (by omega)]
  · rw [dif_neg h]
    clear h1 h2
    pointwise
    rw [dif_neg (by omega), padNum_at]

theorem qbCtx (b : Fin 8) (s : Fin 256) (hd : Fin 4) (j : Fin 64) :
    val_main_v409 (F := Ideal) x1 x3 x4 x5 x6 x7 (ix4 b s hd ⟨j, by omega⟩) = val_main_v405 (F := Ideal) x1 x3 x4 x5 x6 x7 (ix3 b s ⟨hd * 96 + j, by omega⟩) := by
  have e : val_main_v407 (F := Ideal) x1 x3 x4 x5 x6 x7 (ix4 b s hd j) = val_main_v405 (F := Ideal) x1 x3 x4 x5 x6 x7 (ix3 b s ⟨hd * 96 + j, by omega⟩) := by
    simp only [val_main_v407, val_main_v406]
    generalize val_main_v405 (F := Ideal) x1 x3 x4 x5 x6 x7 = u
    pointwise
  rw [← e]
  clear e
  simp only [val_main_v409]
  generalize val_main_v407 (F := Ideal) x1 x3 x4 x5 x6 x7 = y0
  generalize val_main_v408 (F := Ideal) x1 x3 x4 x5 x6 x7 = y1
  pointwise

theorem qbCtxR (b : Fin 8) (s : Fin 256) (hd : Fin 4) (j : Fin 32) :
    val_main_v409 (F := Ideal) x1 x3 x4 x5 x6 x7 (ix4 b s hd ⟨64 + j, by omega⟩) = val_main_v405 (F := Ideal) x1 x3 x4 x5 x6 x7 (ix3 b s ⟨hd * 96 + (64 + j), by omega⟩) := by
  have e : val_main_v408 (F := Ideal) x1 x3 x4 x5 x6 x7 (ix4 b s hd j) = val_main_v405 (F := Ideal) x1 x3 x4 x5 x6 x7 (ix3 b s ⟨hd * 96 + (64 + j), by omega⟩) := by
    simp only [val_main_v408, val_main_v406]
    generalize val_main_v405 (F := Ideal) x1 x3 x4 x5 x6 x7 = u
    pointwise
  rw [← e]
  clear e
  simp only [val_main_v409]
  generalize val_main_v407 (F := Ideal) x1 x3 x4 x5 x6 x7 = y0
  generalize val_main_v408 (F := Ideal) x1 x3 x4 x5 x6 x7 = y1
  pointwise

theorem qbLat (b : Fin 8) (s : Fin 4096) (hd : Fin 4) (j : Fin 64) :
    val_main_v122 (F := Ideal) x0 x2 x4 x5 x6 x7 x10 x11 (ix4 b s hd ⟨j, by omega⟩) = val_main_v49 (F := Ideal) x0 x2 x4 x5 x6 x7 (ix3 b s ⟨hd * 96 + j, by omega⟩) := by
  have e : val_main_v51 (F := Ideal) x0 x2 x4 x5 x6 x7 (ix4 b s hd j) = val_main_v49 (F := Ideal) x0 x2 x4 x5 x6 x7 (ix3 b s ⟨hd * 96 + j, by omega⟩) := by
    simp only [val_main_v51, val_main_v50]
    generalize val_main_v49 (F := Ideal) x0 x2 x4 x5 x6 x7 = u
    pointwise
  rw [← e]
  clear e
  simp only [val_main_v122]
  generalize val_main_v51 (F := Ideal) x0 x2 x4 x5 x6 x7 = y0
  generalize val_main_v121 (F := Ideal) x0 x2 x4 x5 x6 x7 x10 x11 = y1
  pointwise

theorem qbBase (b : Fin 8) (s : Fin 4096) (hd : Fin 4) (j : Fin 32) :
    val_main_v52 (F := Ideal) x0 x2 x4 x5 x6 x7 (ix4 b s hd j) = val_main_v49 (F := Ideal) x0 x2 x4 x5 x6 x7 (ix3 b s ⟨hd * 96 + (64 + j), by omega⟩) := by
  simp only [val_main_v52, val_main_v50]
  generalize val_main_v49 (F := Ideal) x0 x2 x4 x5 x6 x7 = u
  pointwise

theorem qbLatR (b : Fin 8) (s : Fin 4096) (hd : Fin 4) (j : Fin 32) :
    val_main_v122 (F := Ideal) x0 x2 x4 x5 x6 x7 x10 x11 (ix4 b s hd ⟨64 + j, by omega⟩) = rot 8 (fun k => val_main_v65 (F := Ideal) x10 (ix2 s k)) (fun k => val_main_v99 (F := Ideal) x11 (ix2 s k)) (fun d : Fin 32 => val_main_v49 (F := Ideal) x0 x2 x4 x5 x6 x7 (ix3 b s ⟨hd * 96 + (64 + d), by omega⟩)) j := by
  have hr := qbRot x0 x2 x4 x5 x6 x7 x10 x11 b s hd j
  simp only [qbBase] at hr
  rw [← hr]
  clear hr
  simp only [val_main_v122]
  generalize val_main_v51 (F := Ideal) x0 x2 x4 x5 x6 x7 = y0
  generalize val_main_v121 (F := Ideal) x0 x2 x4 x5 x6 x7 x10 x11 = y1
  pointwise

theorem qb_at (b : Fin 8) (s : Fin 4352) (a : Fin 512) :
    val_main_v455 (F := Ideal) x0 x1 x2 x3 x4 x5 x6 x7 x10 x11 (ix3 b s a)
      = if h1 : (a : ℕ) % 128 < 64 then qU x0 x1 x2 x3 x4 x5 x6 x7 b s ⟨a / 128 * 96 + a % 128, by omega⟩
        else if h2 : (a : ℕ) % 128 < 96 then rotJ 8 (fun s k => val_main_v65 (F := Ideal) x10 (ix2 s k)) (fun s k => val_main_v99 (F := Ideal) x11 (ix2 s k)) s (fun d : Fin 32 => qU x0 x1 x2 x3 x4 x5 x6 x7 b s ⟨a / 128 * 96 + (64 + d), by omega⟩) ⟨a % 128 - 64, by omega⟩
        else 0 := by
  have h1 := qbCtx x1 x3 x4 x5 x6 x7
  have h2 := qbLat x0 x2 x4 x5 x6 x7 x10 x11
  have l1 := qbCtxR x1 x3 x4 x5 x6 x7
  have l2 := qbLatR x0 x2 x4 x5 x6 x7 x10 x11
  simp only [val_main_v455, val_main_v454, val_main_v453, val_main_v452, val_main_call3_v0, val_main_c_41]
  generalize val_main_v409 (F := Ideal) x1 x3 x4 x5 x6 x7 = p at h1 l1 ⊢
  generalize val_main_v122 (F := Ideal) x0 x2 x4 x5 x6 x7 x10 x11 = q at h2 l2 ⊢
  by_cases h : (a : ℕ) % 128 < 64
  · rw [dif_pos h]
    by_cases hs : (s : ℕ) < 256
    · rw [qU_early _ _ _ _ _ _ _ _ b s hs]
      refine Eq.trans ?_ (h1 b ⟨s, hs⟩ ⟨a / 128, by omega⟩ ⟨a % 128, h⟩)
      clear h1 h2 l1 l2
      pointwise
      rw [dif_pos (by omega), dif_pos (by omega)]
    · rw [qU_late _ _ _ _ _ _ _ _ b s hs]
      refine Eq.trans ?_ (h2 b ⟨s - 256, by omega⟩ ⟨a / 128, by omega⟩ ⟨a % 128, h⟩)
      clear h1 h2 l1 l2
      pointwise
      rw [dif_pos (by omega), dif_neg (by omega)]
  · rw [dif_neg h]
    by_cases h' : (a : ℕ) % 128 < 96
    · rw [dif_pos h']
      unfold rotJ
      by_cases hs : (s : ℕ) < 256
      · simp only [qU_early x0 x1 x2 x3 x4 x5 x6 x7 b s hs]
        rw [dif_pos hs]
        refine Eq.trans ?_ (l1 b ⟨s, hs⟩ ⟨a / 128, by omega⟩ ⟨a % 128 - 64, by omega⟩)
        have e : (⟨64 + (a % 128 - 64), by omega⟩ : Fin 96) = ⟨a % 128, h'⟩ := Fin.ext (by dsimp only; omega)
        rw [e]
        clear h1 h2 l1 l2 e
        pointwise
        rw [dif_pos (by omega), dif_pos (by omega)]
      · simp only [qU_late x0 x1 x2 x3 x4 x5 x6 x7 b s hs]
        rw [dif_neg hs]
        refine Eq.trans ?_ (l2 b ⟨s - 256, by omega⟩ ⟨a / 128, by omega⟩ ⟨a % 128 - 64, by omega⟩)
        have e : (⟨64 + (a % 128 - 64), by omega⟩ : Fin 96) = ⟨a % 128, h'⟩ := Fin.ext (by dsimp only; omega)
        rw [e]
        clear h1 h2 l1 l2 e
        pointwise
        rw [dif_pos (by omega), dif_neg (by omega)]
    · rw [dif_neg h']
      clear h1 h2 l1 l2
      pointwise
      rw [dif_neg (by omega), padNum_at]

theorem kbCtx (b : Fin 8) (s : Fin 256) (hd : Fin 4) (j : Fin 64) :
    val_main_v428 (F := Ideal) x1 x3 x4 x5 x8 x9 (ix4 b s hd ⟨j, by omega⟩) = val_main_v423 (F := Ideal) x1 x3 x4 x5 x8 x9 (ix3 b s ⟨hd * 128 + j, by omega⟩) := by
  have e : val_main_v426 (F := Ideal) x1 x3 x4 x5 x8 x9 (ix4 b s hd j) = val_main_v423 (F := Ideal) x1 x3 x4 x5 x8 x9 (ix3 b s ⟨hd * 128 + j, by omega⟩) := by
    simp only [val_main_v426, val_main_v424]
    generalize val_main_v423 (F := Ideal) x1 x3 x4 x5 x8 x9 = u
    pointwise
  rw [← e]
  clear e
  simp only [val_main_v428]
  generalize val_main_v426 (F := Ideal) x1 x3 x4 x5 x8 x9 = y0
  generalize val_main_v427 (F := Ideal) x1 x3 x4 x5 = y1
  pointwise

theorem kbCtxR (b : Fin 8) (s : Fin 256) (hd : Fin 4) (j : Fin 32) :
    val_main_v428 (F := Ideal) x1 x3 x4 x5 x8 x9 (ix4 b s hd ⟨64 + j, by omega⟩) = val_main_v381 (F := Ideal) x1 x3 x4 x5 (ix3 b s ⟨832 + j, by omega⟩) := by
  have e : val_main_v427 (F := Ideal) x1 x3 x4 x5 (ix4 b s hd j) = val_main_v381 (F := Ideal) x1 x3 x4 x5 (ix3 b s ⟨832 + j, by omega⟩) := by
    simp only [val_main_v427, val_main_v425, val_main_v387]
    generalize val_main_v381 (F := Ideal) x1 x3 x4 x5 = u
    pointwise
  rw [← e]
  clear e
  simp only [val_main_v428]
  generalize val_main_v426 (F := Ideal) x1 x3 x4 x5 x8 x9 = y0
  generalize val_main_v427 (F := Ideal) x1 x3 x4 x5 = y1
  pointwise

theorem kbLat (b : Fin 8) (s : Fin 4096) (hd : Fin 4) (j : Fin 64) :
    val_main_v210 (F := Ideal) x0 x2 x4 x5 x8 x9 x10 x11 (ix4 b s hd ⟨j, by omega⟩) = val_main_v136 (F := Ideal) x0 x2 x4 x5 x8 x9 (ix3 b s ⟨hd * 128 + j, by omega⟩) := by
  have e : val_main_v208 (F := Ideal) x0 x2 x4 x5 x8 x9 (ix4 b s hd j) = val_main_v136 (F := Ideal) x0 x2 x4 x5 x8 x9 (ix3 b s ⟨hd * 128 + j, by omega⟩) := by
    simp only [val_main_v208, val_main_v137]
    generalize val_main_v136 (F := Ideal) x0 x2 x4 x5 x8 x9 = u
    pointwise
  rw [← e]
  clear e
  simp only [val_main_v210]
  generalize val_main_v208 (F := Ideal) x0 x2 x4 x5 x8 x9 = y0
  generalize val_main_v209 (F := Ideal) x0 x2 x4 x5 x10 x11 = y1
  pointwise

theorem kbBase (b : Fin 8) (s : Fin 4096) (j : Fin 32) :
    val_main_v138 (F := Ideal) x0 x2 x4 x5 (ix4 b s 0 j) = val_main_v25 (F := Ideal) x0 x2 x4 x5 (ix3 b s ⟨832 + j, by omega⟩) := by
  simp only [val_main_v138, val_main_v31]
  generalize val_main_v25 (F := Ideal) x0 x2 x4 x5 = u
  pointwise

theorem kbLatR (b : Fin 8) (s : Fin 4096) (hd : Fin 4) (j : Fin 32) :
    val_main_v210 (F := Ideal) x0 x2 x4 x5 x8 x9 x10 x11 (ix4 b s hd ⟨64 + j, by omega⟩) = rot 8 (fun k => val_main_v151 (F := Ideal) x10 (ix2 s k)) (fun k => val_main_v185 (F := Ideal) x11 (ix2 s k)) (fun d : Fin 32 => val_main_v25 (F := Ideal) x0 x2 x4 x5 (ix3 b s ⟨832 + d, by omega⟩)) j := by
  have hr := krRot x0 x2 x4 x5 x10 x11 b s 0 j
  simp only [kbBase] at hr
  have e : val_main_v209 (F := Ideal) x0 x2 x4 x5 x10 x11 (ix4 b s hd j) = val_main_v207 (F := Ideal) x0 x2 x4 x5 x10 x11 (ix4 b s 0 j) := by
    simp only [val_main_v209]
    generalize val_main_v207 (F := Ideal) x0 x2 x4 x5 x10 x11 = u
    pointwise
  rw [← hr, ← e]
  clear hr e
  simp only [val_main_v210]
  generalize val_main_v208 (F := Ideal) x0 x2 x4 x5 x8 x9 = y0
  generalize val_main_v209 (F := Ideal) x0 x2 x4 x5 x10 x11 = y1
  pointwise

theorem kb_at (b : Fin 8) (s : Fin 4352) (a : Fin 512) :
    val_main_v459 (F := Ideal) x0 x1 x2 x3 x4 x5 x8 x9 x10 x11 (ix3 b s a)
      = if h1 : (a : ℕ) % 128 < 64 then kvU x0 x1 x2 x3 x4 x5 x8 x9 b s ⟨a / 128 * 128 + a % 128, by omega⟩
        else if h2 : (a : ℕ) % 128 < 96 then rotJ 8 (fun s k => val_main_v151 (F := Ideal) x10 (ix2 s k)) (fun s k => val_main_v185 (F := Ideal) x11 (ix2 s k)) s (fun d : Fin 32 => zR x0 x1 x2 x3 x4 x5 b s ⟨832 + d, by omega⟩) ⟨a % 128 - 64, by omega⟩
        else 0 := by
  have h1 := kbCtx x1 x3 x4 x5 x8 x9
  have h2 := kbLat x0 x2 x4 x5 x8 x9 x10 x11
  have l1 := kbCtxR x1 x3 x4 x5 x8 x9
  have l2 := kbLatR x0 x2 x4 x5 x8 x9 x10 x11
  simp only [val_main_v459, val_main_v458, val_main_v457, val_main_v456, val_main_call4_v0, val_main_c_42]
  generalize val_main_v428 (F := Ideal) x1 x3 x4 x5 x8 x9 = p at h1 l1 ⊢
  generalize val_main_v210 (F := Ideal) x0 x2 x4 x5 x8 x9 x10 x11 = q at h2 l2 ⊢
  by_cases h : (a : ℕ) % 128 < 64
  · rw [dif_pos h]
    by_cases hs : (s : ℕ) < 256
    · rw [kvU_early _ _ _ _ _ _ _ _ b s hs]
      refine Eq.trans ?_ (h1 b ⟨s, hs⟩ ⟨a / 128, by omega⟩ ⟨a % 128, h⟩)
      clear h1 h2 l1 l2
      pointwise
      rw [dif_pos (by omega), dif_pos (by omega)]
    · rw [kvU_late _ _ _ _ _ _ _ _ b s hs]
      refine Eq.trans ?_ (h2 b ⟨s - 256, by omega⟩ ⟨a / 128, by omega⟩ ⟨a % 128, h⟩)
      clear h1 h2 l1 l2
      pointwise
      rw [dif_pos (by omega), dif_neg (by omega)]
  · rw [dif_neg h]
    by_cases h' : (a : ℕ) % 128 < 96
    · rw [dif_pos h']
      unfold rotJ
      by_cases hs : (s : ℕ) < 256
      · simp only [zR_early x0 x1 x2 x3 x4 x5 b s hs]
        rw [dif_pos hs]
        refine Eq.trans ?_ (l1 b ⟨s, hs⟩ ⟨a / 128, by omega⟩ ⟨a % 128 - 64, by omega⟩)
        have e : (⟨64 + (a % 128 - 64), by omega⟩ : Fin 96) = ⟨a % 128, h'⟩ := Fin.ext (by dsimp only; omega)
        rw [e]
        clear h1 h2 l1 l2 e
        pointwise
        rw [dif_pos (by omega), dif_pos (by omega)]
      · simp only [zR_late x0 x1 x2 x3 x4 x5 b s hs]
        rw [dif_neg hs]
        refine Eq.trans ?_ (l2 b ⟨s - 256, by omega⟩ ⟨a / 128, by omega⟩ ⟨a % 128 - 64, by omega⟩)
        have e : (⟨64 + (a % 128 - 64), by omega⟩ : Fin 96) = ⟨a % 128, h'⟩ := Fin.ext (by dsimp only; omega)
        rw [e]
        clear h1 h2 l1 l2 e
        pointwise
        rw [dif_pos (by omega), dif_neg (by omega)]
    · rw [dif_neg h']
      clear h1 h2 l1 l2
      pointwise
      rw [dif_neg (by omega), padNum_at]

theorem vbCtx (b : Fin 8) (s : Fin 256) (hd : Fin 4) (j : Fin 64) :
    val_main_v434 (F := Ideal) x1 x3 x4 x5 x8 x9 (ix4 b s hd j) = val_main_v423 (F := Ideal) x1 x3 x4 x5 x8 x9 (ix3 b s ⟨hd * 128 + (64 + j), by omega⟩) := by
  simp only [val_main_v434, val_main_v424]
  generalize val_main_v423 (F := Ideal) x1 x3 x4 x5 x8 x9 = u
  pointwise

theorem vbLat (b : Fin 8) (s : Fin 4096) (hd : Fin 4) (j : Fin 64) :
    val_main_v354 (F := Ideal) x0 x2 x4 x5 x8 x9 (ix4 b s hd j) = val_main_v136 (F := Ideal) x0 x2 x4 x5 x8 x9 (ix3 b s ⟨hd * 128 + (64 + j), by omega⟩) := by
  simp only [val_main_v354, val_main_v137]
  generalize val_main_v136 (F := Ideal) x0 x2 x4 x5 x8 x9 = u
  pointwise

theorem vbHead (b : Fin 8) (s : Fin 4352) (hd : Fin 4) (j : Fin 64) :
    val_main_v460 (F := Ideal) x0 x1 x2 x3 x4 x5 x8 x9 (ix4 b s hd j) = kvU x0 x1 x2 x3 x4 x5 x8 x9 b s ⟨hd * 128 + (64 + j), by omega⟩ := by
  have h1 := vbCtx x1 x3 x4 x5 x8 x9
  have h2 := vbLat x0 x2 x4 x5 x8 x9
  simp only [val_main_v460]
  generalize val_main_v434 (F := Ideal) x1 x3 x4 x5 x8 x9 = p at h1 ⊢
  generalize val_main_v354 (F := Ideal) x0 x2 x4 x5 x8 x9 = q at h2 ⊢
  by_cases hs : (s : ℕ) < 256
  · rw [kvU_early _ _ _ _ _ _ _ _ b s hs]
    refine Eq.trans ?_ (h1 b ⟨s, hs⟩ hd j)
    clear h1 h2
    pointwise
    rw [dif_pos hs]
  · rw [kvU_late _ _ _ _ _ _ _ _ b s hs]
    refine Eq.trans ?_ (h2 b ⟨s - 256, by omega⟩ hd j)
    clear h1 h2
    pointwise
    rw [dif_neg hs]

theorem vb_at (b : Fin 8) (s : Fin 4352) (a : Fin 512) :
    val_main_v465 (F := Ideal) x0 x1 x2 x3 x4 x5 x8 x9 (ix3 b s a)
      = if h1 : (a : ℕ) % 128 < 64 then kvU x0 x1 x2 x3 x4 x5 x8 x9 b s ⟨a / 128 * 128 + (64 + a % 128), by omega⟩
        else if (a : ℕ) % 128 = 64 then 1 else 0 := by
  have h1 := vbHead x0 x1 x2 x3 x4 x5 x8 x9 b s
  simp only [val_main_v465, val_main_v464, val_main_v463, val_main_v462, val_main_v461, val_main_cst_43, val_main_call5_v0, val_main_c_44]
  generalize val_main_v460 (F := Ideal) x0 x1 x2 x3 x4 x5 x8 x9 = p at h1 ⊢
  by_cases h : (a : ℕ) % 128 < 64
  · rw [dif_pos h]
    refine Eq.trans ?_ (h1 ⟨a / 128, by omega⟩ ⟨a % 128, h⟩)
    clear h1
    pointwise
    rw [dif_pos (by omega), dif_pos (by omega)]
  · rw [dif_neg h]
    clear h1
    by_cases h' : (a : ℕ) % 128 = 64
    · rw [if_pos h']
      pointwise
      rw [dif_pos (by omega), dif_neg (by omega)]
    · rw [if_neg h']
      pointwise
      rw [dif_neg (by omega), padNum_at]

end Cert.Reference2Ideal.Proj

end
-- ==== Proof.Proj.ResultRest.lean ====
/- The projection kernel's turned and normalised results over the arguments. -/
module

public import proofs.«01_k».proof.Proof.Proj.ArrayRest
public import proofs.«01_k».proof.Proof.Proj.Entries
public import proofs.«01_k».proof.Proof.Proj.ReferenceRest
public import proofs.«01_k».proof.Proof.Proj.Result

@[expose] public section

set_option maxRecDepth 16384

noncomputable section

open Idealize.ShloMosaic Idealize.ShloMosaic.TcCoe Idealize.SL.Sem

namespace Cert.Kernel2Ideal.Proj

open Cert.Kernel2Ideal Cert.Kernel2Ideal.Gen Cert.Proj Cert.Reference2Ideal.Proj

section Tab16

variable (R C : FVec Ideal S4096x16 .f32)

theorem leadLanes16 (y : FVec Ideal S4096x128 .f32) (s : Fin 4096) (j : Fin 128) :
    broadcastInDim S1x4096x128 ![1, 2] bcast_S4096x128_S1x4096x128_1_2 y (ix3 0 s j) = y (ix2 s j) := by
  pointwise

theorem tab16_0 (s : Fin 4096) (j : Fin 128) :
    tab16 R C (ix3 0 ⟨256 + s, by omega⟩ j) = laneTab 16 0 1 (fun k => Ideal.cos (R (ix2 s k))) (fun k => Ideal.cos (R (ix2 s k))) (fun k => Ideal.cos (C (ix2 s k))) (fun k => Ideal.cos (C (ix2 s k))) j := by
  unfold tab16
  rw [lat_0, leadLanes16, lanes16_at _ _ _ _ _ _ 1 (by intro i; pointwise)]
  rfl

theorem tab16_1 (s : Fin 4096) (j : Fin 128) :
    tab16 R C (ix3 1 ⟨256 + s, by omega⟩ j) = laneTab 16 0 0 (fun _ => 0) (fun k => Ideal.sin (R (ix2 s k))) (fun _ => 0) (fun k => Ideal.sin (C (ix2 s k))) j := by
  unfold tab16
  rw [lat_1, leadLanes16, lanes16_at _ _ _ _ _ _ 0 (by intro i; pointwise)]
  have e : ∀ i, broadcastInDim S4096x16 ![] bcast_S_S4096x16 (constant (F := Ideal) S_ .f32 0x00000000#32) i = 0 := by intro i; pointwise
  simp only [e]
  rfl

theorem tab16_2 (s : Fin 4096) (j : Fin 128) :
    tab16 R C (ix3 2 ⟨256 + s, by omega⟩ j) = laneTab 16 0 0 (fun k => -Ideal.sin (R (ix2 s k))) (fun _ => 0) (fun k => -Ideal.sin (C (ix2 s k))) (fun _ => 0) j := by
  unfold tab16
  rw [lat_2, leadLanes16, lanes16_at _ _ _ _ _ _ 0 (by intro i; pointwise)]
  have e : ∀ i, broadcastInDim S4096x16 ![] bcast_S_S4096x16 (constant (F := Ideal) S_ .f32 0x00000000#32) i = 0 := by intro i; pointwise
  simp only [e]
  rfl

/-- The tables turn the latent's rows and leave the context's. -/
theorem tab16_turn (T : Fin 128 → EReal) (t : Fin 64 → EReal) (hT : ∀ d : Fin 64, T ⟨0 + d, by omega⟩ = t d) (s : Fin 4352) (j : Fin 128) :
    turn 16 T (tab16 R C (ix3 0 s j)) (tab16 R C (ix3 1 s j)) (tab16 R C (ix3 2 s j)) j
      = if h : (j : ℕ) < 64 then rotJ 16 (fun s k => R (ix2 s k)) (fun s k => C (ix2 s k)) s t ⟨j, h⟩ else T j := by
  by_cases hs : (s : ℕ) < 256
  · have e0 : tab16 R C (ix3 0 s j) = 1 := by
      unfold tab16
      exact ctx_0 _ s hs j
    have e1 : tab16 R C (ix3 1 s j) = 0 := by
      unfold tab16
      exact ctx_1 _ s hs j
    have e2 : tab16 R C (ix3 2 s j) = 0 := by
      unfold tab16
      exact ctx_2 _ s hs j
    rw [e0, e1, e2, turn_one]
    by_cases h : (j : ℕ) < 64
    · rw [dif_pos h]
      unfold rotJ
      rw [dif_pos hs, ← hT]
      exact congrArg T (Fin.ext (by dsimp only; omega))
    · rw [dif_neg h]
  · have es : s = ⟨256 + (⟨s - 256, by omega⟩ : Fin 4096).val, by omega⟩ := Fin.ext (by dsimp only; omega)
    have e0 := tab16_0 R C ⟨s - 256, by omega⟩ j
    have e1 := tab16_1 R C ⟨s - 256, by omega⟩ j
    have e2 := tab16_2 R C ⟨s - 256, by omega⟩ j
    rw [← es] at e0 e1 e2
    rw [e0, e1, e2]
    by_cases h : (j : ℕ) < 64
    · rw [dif_pos h]
      unfold rotJ
      rw [dif_neg hs]
      exact turn_tab 16 0 (by omega) (by omega) (fun k => R (ix2 ⟨s - 256, by omega⟩ k)) (fun k => C (ix2 ⟨s - 256, by omega⟩ k)) T t hT j (by omega) (by omega)
    · rw [dif_neg h]
      exact turn_rest 16 0 (by omega) _ _ _ _ _ _ _ _ _ _ _ _ T j (by omega)

end Tab16

section Tab8

variable (R C : FVec Ideal S4096x8 .f32)

theorem leadLanes8 (y : FVec Ideal S4096x128 .f32) (s : Fin 4096) (j : Fin 128) :
    broadcastInDim S1x4096x128 ![1, 2] bcast_S4096x128_S1x4096x128_1_2 y (ix3 0 s j) = y (ix2 s j) := by
  pointwise

theorem tab8_0 (s : Fin 4096) (j : Fin 128) :
    tab8 R C (ix3 0 ⟨256 + s, by omega⟩ j) = laneTab 8 64 1 (fun k => Ideal.cos (R (ix2 s k))) (fun k => Ideal.cos (R (ix2 s k))) (fun k => Ideal.cos (C (ix2 s k))) (fun k => Ideal.cos (C (ix2 s k))) j := by
  unfold tab8
  rw [lat_0, leadLanes8, lanes8_at _ _ _ _ _ _ 1 (by intro i; pointwise) (by intro i; pointwise)]
  rfl

theorem tab8_1 (s : Fin 4096) (j : Fin 128) :
    tab8 R C (ix3 1 ⟨256 + s, by omega⟩ j) = laneTab 8 64 0 (fun _ => 0) (fun k => Ideal.sin (R (ix2 s k))) (fun _ => 0) (fun k => Ideal.sin (C (ix2 s k))) j := by
  unfold tab8
  rw [lat_1, leadLanes8, lanes8_at _ _ _ _ _ _ 0 (by intro i; pointwise) (by intro i; pointwise)]
  have e : ∀ i, broadcastInDim S4096x8 ![] bcast_S_S4096x8 (constant (F := Ideal) S_ .f32 0x00000000#32) i = 0 := by intro i; pointwise
  simp only [e]
  rfl

theorem tab8_2 (s : Fin 4096) (j : Fin 128) :
    tab8 R C (ix3 2 ⟨256 + s, by omega⟩ j) = laneTab 8 64 0 (fun k => -Ideal.sin (R (ix2 s k))) (fun _ => 0) (fun k => -Ideal.sin (C (ix2 s k))) (fun _ => 0) j := by
  unfold tab8
  rw [lat_2, leadLanes8, lanes8_at _ _ _ _ _ _ 0 (by intro i; pointwise) (by intro i; pointwise)]
  have e : ∀ i, broadcastInDim S4096x8 ![] bcast_S_S4096x8 (constant (F := Ideal) S_ .f32 0x00000000#32) i = 0 := by intro i; pointwise
  simp only [e]
  rfl

/-- The tables turn the latent's rows and leave the context's. -/
theorem tab8_turn (T : Fin 128 → EReal) (t : Fin 32 → EReal) (hT : ∀ d : Fin 32, T ⟨64 + d, by omega⟩ = t d) (s : Fin 4352) (j : Fin 128) :
    turn 8 T (tab8 R C (ix3 0 s j)) (tab8 R C (ix3 1 s j)) (tab8 R C (ix3 2 s j)) j
      = if h : 64 ≤ (j : ℕ) ∧ (j : ℕ) < 96 then rotJ 8 (fun s k => R (ix2 s k)) (fun s k => C (ix2 s k)) s t ⟨j - 64, by omega⟩ else T j := by
  by_cases hs : (s : ℕ) < 256
  · have e0 : tab8 R C (ix3 0 s j) = 1 := by
      unfold tab8
      exact ctx_0 _ s hs j
    have e1 : tab8 R C (ix3 1 s j) = 0 := by
      unfold tab8
      exact ctx_1 _ s hs j
    have e2 : tab8 R C (ix3 2 s j) = 0 := by
      unfold tab8
      exact ctx_2 _ s hs j
    rw [e0, e1, e2, turn_one]
    by_cases h : 64 ≤ (j : ℕ) ∧ (j : ℕ) < 96
    · rw [dif_pos h]
      unfold rotJ
      rw [dif_pos hs, ← hT]
      exact congrArg T (Fin.ext (by dsimp only; omega))
    · rw [dif_neg h]
  · have es : s = ⟨256 + (⟨s - 256, by omega⟩ : Fin 4096).val, by omega⟩ := Fin.ext (by dsimp only; omega)
    have e0 := tab8_0 R C ⟨s - 256, by omega⟩ j
    have e1 := tab8_1 R C ⟨s - 256, by omega⟩ j
    have e2 := tab8_2 R C ⟨s - 256, by omega⟩ j
    rw [← es] at e0 e1 e2
    rw [e0, e1, e2]
    by_cases h : 64 ≤ (j : ℕ) ∧ (j : ℕ) < 96
    · rw [dif_pos h]
      unfold rotJ
      rw [dif_neg hs]
      exact turn_tab 8 64 (by omega) (by omega) (fun k => R (ix2 ⟨s - 256, by omega⟩ k)) (fun k => C (ix2 ⟨s - 256, by omega⟩ k)) T t hT j (by omega) (by omega)
    · rw [dif_neg h]
      exact turn_rest 8 64 (by omega) _ _ _ _ _ _ _ _ _ _ _ _ T j (by omega)

end Tab8

theorem qa_row (R C : FVec Ideal S4096x16 .f32) (s : Fin 4352) (a : Fin 512) (zk : Fin 3328 → EReal) (zr : Fin 1888 → EReal)
    (h1 : ∀ d : Fin 64, zk ⟨a / 128 * 128 + d, by omega⟩ = zr ⟨0 + (a / 128 * 64 + d), by omega⟩) (h0 : ∀ d : Fin 128, 64 ≤ (d : ℕ) → zk ⟨a / 128 * 128 + d, by omega⟩ = 0) :
    turn 16 (fun d => zk ⟨a / 128 * 128 + d, by omega⟩) (tab16 R C (ix3 0 s (place a))) (tab16 R C (ix3 1 s (place a))) (tab16 R C (ix3 2 s (place a))) (place a) * Ideal.ofBits .f32 0x3E000000#32
      = if h : (a : ℕ) % 128 < 64 then rotJ 16 (fun s k => R (ix2 s k)) (fun s k => C (ix2 s k)) s (fun d : Fin 64 => zr ⟨0 + (a / 128 * 64 + d), by omega⟩) ⟨a % 128, h⟩ * Ideal.ofBits .f32 0x3E000000#32 else 0 := by
  rw [tab16_turn R C (fun d => zk ⟨a / 128 * 128 + d, by omega⟩) (fun d : Fin 64 => zr ⟨0 + (a / 128 * 64 + d), by omega⟩) (fun d => by
    rw [← h1]
    exact congrArg zk (Fin.ext (by dsimp only; omega))) s (place a)]
  by_cases h : (a : ℕ) % 128 < 64
  · rw [dif_pos h, dif_pos (show (place a : ℕ) < 64 from h)]
    rfl
  · rw [dif_neg h, dif_neg (show ¬(place a : ℕ) < 64 from h), h0 (place a) (by simp only [place]; omega)]
    rw [zero_mul]

theorem ka_row (R C : FVec Ideal S4096x16 .f32) (s : Fin 4352) (a : Fin 256) (zk : Fin 3328 → EReal) (zr : Fin 1888 → EReal)
    (h1 : ∀ d : Fin 64, zk ⟨512 + (a / 128 * 128 + d), by omega⟩ = zr ⟨256 + (a / 128 * 64 + d), by omega⟩) (h0 : ∀ d : Fin 128, 64 ≤ (d : ℕ) → zk ⟨512 + (a / 128 * 128 + d), by omega⟩ = 0) :
    turn 16 (fun d => zk ⟨512 + (a / 128 * 128 + d), by omega⟩) (tab16 R C (ix3 0 s (place a))) (tab16 R C (ix3 1 s (place a))) (tab16 R C (ix3 2 s (place a))) (place a)
      = if h : (a : ℕ) % 128 < 64 then rotJ 16 (fun s k => R (ix2 s k)) (fun s k => C (ix2 s k)) s (fun d : Fin 64 => zr ⟨256 + (a / 128 * 64 + d), by omega⟩) ⟨a % 128, h⟩ else 0 := by
  rw [tab16_turn R C (fun d => zk ⟨512 + (a / 128 * 128 + d), by omega⟩) (fun d : Fin 64 => zr ⟨256 + (a / 128 * 64 + d), by omega⟩) (fun d => by
    rw [← h1]
    exact congrArg zk (Fin.ext (by dsimp only; omega))) s (place a)]
  by_cases h : (a : ℕ) % 128 < 64
  · rw [dif_pos h, dif_pos (show (place a : ℕ) < 64 from h)]
    rfl
  · rw [dif_neg h, dif_neg (show ¬(place a : ℕ) < 64 from h), h0 (place a) (by simp only [place]; omega)]

theorem qb_row (R C : FVec Ideal S4096x8 .f32) (s : Fin 4352) (a : Fin 512) (T : Fin 128 → EReal) (t : Fin 384 → EReal)
    (h1 : ∀ d : Fin 96, T ⟨d, by omega⟩ = t ⟨a / 128 * 96 + d, by omega⟩) (h0 : ∀ d : Fin 128, 96 ≤ (d : ℕ) → T d = 0) :
    turn 8 T (tab8 R C (ix3 0 s (place a))) (tab8 R C (ix3 1 s (place a))) (tab8 R C (ix3 2 s (place a))) (place a)
      = if h1 : (a : ℕ) % 128 < 64 then t ⟨a / 128 * 96 + a % 128, by omega⟩
        else if h2 : (a : ℕ) % 128 < 96 then rotJ 8 (fun s k => R (ix2 s k)) (fun s k => C (ix2 s k)) s (fun d : Fin 32 => t ⟨a / 128 * 96 + (64 + d), by omega⟩) ⟨a % 128 - 64, by omega⟩ else 0 := by
  rw [tab8_turn R C T (fun d : Fin 32 => t ⟨a / 128 * 96 + (64 + d), by omega⟩) (fun d => h1 ⟨64 + d, by omega⟩) s (place a)]
  have hv : (place a : ℕ) = a % 128 := rfl
  by_cases h : (a : ℕ) % 128 < 64
  · rw [dif_pos h, dif_neg (by omega)]
    exact h1 ⟨a % 128, by omega⟩
  · rw [dif_neg h]
    by_cases h' : (a : ℕ) % 128 < 96
    · rw [dif_pos h', dif_pos (by omega)]
      rfl
    · rw [dif_neg h', dif_neg (by omega), h0 (place a) (by omega)]

theorem kb_row (R C : FVec Ideal S4096x8 .f32) (s : Fin 4352) (a : Fin 512) (u : EReal) (t : Fin 512 → EReal) (zk : Fin 3328 → EReal) (zr : Fin 1888 → EReal)
    (hu : u = if (a : ℕ) % 128 < 64 then t a else 0)
    (h1 : ∀ d : Fin 32, zk ⟨1408 + (64 + d), by omega⟩ = zr ⟨832 + d, by omega⟩)
    (h0 : ∀ d : Fin 128, ¬(64 ≤ (d : ℕ) ∧ (d : ℕ) < 96) → zk ⟨1408 + d, by omega⟩ = 0) :
    u + turn 8 (fun d => zk ⟨1408 + d, by omega⟩) (tab8 R C (ix3 0 s (place a))) (tab8 R C (ix3 1 s (place a))) (tab8 R C (ix3 2 s (place a))) (place a)
      = if h1 : (a : ℕ) % 128 < 64 then t ⟨a / 128 * 128 + a % 128, by omega⟩
        else if h2 : (a : ℕ) % 128 < 96 then rotJ 8 (fun s k => R (ix2 s k)) (fun s k => C (ix2 s k)) s (fun d : Fin 32 => zr ⟨832 + d, by omega⟩) ⟨a % 128 - 64, by omega⟩ else 0 := by
  rw [tab8_turn R C (fun d => zk ⟨1408 + d, by omega⟩) (fun d : Fin 32 => zr ⟨832 + d, by omega⟩) h1 s (place a), hu]
  have hv : (place a : ℕ) = a % 128 := rfl
  by_cases h : (a : ℕ) % 128 < 64
  · rw [if_pos h, dif_pos h, dif_neg (by omega), h0 (place a) (by omega), add_zero]
    exact congrArg t (Fin.ext (by dsimp only; omega))
  · rw [if_neg h, dif_neg h, zero_add]
    by_cases h' : (a : ℕ) % 128 < 96
    · rw [dif_pos h', dif_pos (by omega)]
      rfl
    · rw [dif_neg h', dif_neg (by omega), h0 (place a) (by omega)]

theorem vb_row (a : Fin 512) (u : EReal) (t : Fin 512 → EReal) (hu : u = if h : (a : ℕ) % 128 < 64 then t ⟨a + 64, by omega⟩ else 0) :
    u + (if (place a : ℕ) = 64 then 1 else 0)
      = if h1 : (a : ℕ) % 128 < 64 then t ⟨a / 128 * 128 + (64 + a % 128), by omega⟩ else if (a : ℕ) % 128 = 64 then 1 else 0 := by
  have hv : (place a : ℕ) = a % 128 := rfl
  rw [hu]
  by_cases h : (a : ℕ) % 128 < 64
  · rw [dif_pos h, dif_pos h, if_neg (by omega), add_zero]
    exact congrArg t (Fin.ext (by dsimp only; omega))
  · rw [dif_neg h, dif_neg h, zero_add, hv]

section Columns

variable (x5 : FVec Ideal S1024x1888 .f32)

theorem qaCol (d : Fin 1024) (a : Fin 512) :
    (truncf .bf16 (colsOf x5) bitsLt_bf16_f32 : FVec Ideal S1024x3328 .bf16) (ix2 d ⟨a, by omega⟩)
      = if h : (a : ℕ) % 128 < 64 then x5 (ix2 d ⟨0 + (a / 128 * 64 + a % 128), by omega⟩) else 0 := by
  show colsOf x5 (ix2 d ⟨a, by omega⟩) = _
  unfold colsOf
  rw [show (⟨a, by omega⟩ : Fin 3328) = ⟨0 + a.val, by omega⟩ from Fin.ext (by dsimp only; omega)]
  rw [colsCat_0, slots4_at]
  by_cases h : (a : ℕ) % 128 < 64
  · rw [dif_pos h, dif_pos h]
    pointwise
  · rw [dif_neg h, dif_neg h]

theorem kaCol (d : Fin 1024) (a : Fin 256) :
    (truncf .bf16 (colsOf x5) bitsLt_bf16_f32 : FVec Ideal S1024x3328 .bf16) (ix2 d ⟨512 + a, by omega⟩)
      = if h : (a : ℕ) % 128 < 64 then x5 (ix2 d ⟨256 + (a / 128 * 64 + a % 128), by omega⟩) else 0 := by
  show colsOf x5 (ix2 d ⟨512 + a, by omega⟩) = _
  unfold colsOf
  rw [colsCat_1, slots2_at]
  by_cases h : (a : ℕ) % 128 < 64
  · rw [dif_pos h, dif_pos h]
    pointwise
  · rw [dif_neg h, dif_neg h]

theorem latCol (d : Fin 1024) (k : Fin 192) :
    (truncf .bf16 (colsOf x5) bitsLt_bf16_f32 : FVec Ideal S1024x3328 .bf16) (ix2 d ⟨1024 + k, by omega⟩) = x5 (ix2 d ⟨512 + k, by omega⟩) := by
  show colsOf x5 (ix2 d ⟨1024 + k, by omega⟩) = _
  unfold colsOf
  refine (colsCat_3 _ _ _ _ _ _ _ _ _ _ d ⟨k, by omega⟩).trans ?_
  pointwise

theorem latPad (d : Fin 1024) (k : Fin 256) (h : 192 ≤ (k : ℕ)) :
    (truncf .bf16 (colsOf x5) bitsLt_bf16_f32 : FVec Ideal S1024x3328 .bf16) (ix2 d ⟨1024 + k, by omega⟩) = 0 := by
  show colsOf x5 (ix2 d ⟨1024 + k, by omega⟩) = _
  unfold colsOf
  rw [colsCat_3]
  pointwise [padNum]
  rw [dif_neg (by omega), padNum_at]

theorem kvCol (d : Fin 1024) (k : Fin 128) :
    (truncf .bf16 (colsOf x5) bitsLt_bf16_f32 : FVec Ideal S1024x3328 .bf16) (ix2 d ⟨1280 + k, by omega⟩) = x5 (ix2 d ⟨704 + k, by omega⟩) := by
  show colsOf x5 (ix2 d ⟨1280 + k, by omega⟩) = _
  unfold colsOf
  rw [colsCat_4]
  pointwise

theorem ropeCol (d : Fin 1024) (a : Fin 128) :
    (truncf .bf16 (colsOf x5) bitsLt_bf16_f32 : FVec Ideal S1024x3328 .bf16) (ix2 d ⟨1408 + a, by omega⟩) = if h : 64 ≤ (a : ℕ) ∧ (a : ℕ) < 96 then x5 (ix2 d ⟨832 + (a - 64), by omega⟩) else 0 := by
  show colsOf x5 (ix2 d ⟨1408 + a, by omega⟩) = _
  unfold colsOf
  rw [colsCat_5, ropeCat_at _ _ _ (by intro i; pointwise) (by intro i; pointwise)]
  by_cases h : 64 ≤ (a : ℕ) ∧ (a : ℕ) < 96
  · rw [dif_pos h, dif_pos h]
    pointwise
  · rw [dif_neg h, dif_neg h]

end Columns

/-- The query latent's column, over the padded arrays. -/
theorem uq_row (zk : Fin 3328 → EReal) (zr : Fin 1888 → EReal) (g : FVec Ideal S192 .f32) (w : FVec Ideal S192x384 .f32)
    (hz : ∀ k : Fin 192, zk ⟨1024 + k, by omega⟩ = zr ⟨512 + k, by omega⟩) (z0 : ∀ k : Fin 256, 192 ≤ (k : ℕ) → zk ⟨1024 + k, by omega⟩ = 0) (a : Fin 512) :
    upRow ((192⁻¹ : ℝ) : EReal) (fun k => zk ⟨1024 + k, by omega⟩) (fun k => qgOf g (ix2 0 k))
        (fun k => (truncf .bf16 (uqOf w) bitsLt_bf16_f32 : FVec Ideal S256x512 .bf16) (ix2 k a))
      = if h : (a : ℕ) % 128 < 96 then
          upRow ((192⁻¹ : ℝ) : EReal) (fun k => zr ⟨512 + k, by omega⟩) (fun k => g (ix1 k)) (fun k => w (ix2 k ⟨a / 128 * 96 + a % 128, by omega⟩))
        else 0 := by
  by_cases h : (a : ℕ) % 128 < 96
  · rw [dif_pos h]
    exact upRow_pad _ _ _ _ (fun k => zr ⟨512 + k, by omega⟩) (fun k => g (ix1 k)) _ hz (qgOf_at g) (fun k => (uqOf_at w k a).trans (dif_pos h)) z0
  · rw [dif_neg h]
    exact (upRow_pad _ _ _ _ (fun k => zr ⟨512 + k, by omega⟩) (fun k => g (ix1 k)) (fun _ => 0) hz (qgOf_at g) (fun k => (uqOf_at w k a).trans (dif_neg h)) z0).trans (upRow_zero _ _ _)

/-- The keys' column of the key and value latent. -/
theorem uk_row (zk : Fin 3328 → EReal) (zr : Fin 1888 → EReal) (g : FVec Ideal S128 .f32) (w : FVec Ideal S128x512 .f32)
    (hz : ∀ k : Fin 128, zk ⟨1280 + k, by omega⟩ = zr ⟨704 + k, by omega⟩) (a : Fin 512) :
    upRow ((128⁻¹ : ℝ) : EReal) (fun k => zk ⟨1280 + k, by omega⟩) (fun k => shapeCast S1x128 g shapeCasts_S128_S1x128 (ix2 0 k))
        (fun k => (truncf .bf16 (ukvOf w) bitsLt_bf16_f32 : FVec Ideal S128x1024 .bf16) (ix2 k ⟨a, by omega⟩))
      = if (a : ℕ) % 128 < 64 then
          upRow ((128⁻¹ : ℝ) : EReal) (fun k => zr ⟨704 + k, by omega⟩) (fun k => g (ix1 k)) (fun k => w (ix2 k a))
        else 0 := by
  by_cases h : (a : ℕ) % 128 < 64
  · rw [if_pos h]
    exact upRow_congr _ hz (kg_at g) fun k => (ukvOf_k w k a).trans (dif_pos h)
  · rw [if_neg h]
    exact (upRow_congr _ hz (kg_at g) fun k => (ukvOf_k w k a).trans (dif_neg h)).trans (upRow_zero _ _ _)

/-- The values' column of the key and value latent. -/
theorem uv_row (zk : Fin 3328 → EReal) (zr : Fin 1888 → EReal) (g : FVec Ideal S128 .f32) (w : FVec Ideal S128x512 .f32)
    (hz : ∀ k : Fin 128, zk ⟨1280 + k, by omega⟩ = zr ⟨704 + k, by omega⟩) (a : Fin 512) :
    upRow ((128⁻¹ : ℝ) : EReal) (fun k => zk ⟨1280 + k, by omega⟩) (fun k => shapeCast S1x128 g shapeCasts_S128_S1x128 (ix2 0 k))
        (fun k => (truncf .bf16 (ukvOf w) bitsLt_bf16_f32 : FVec Ideal S128x1024 .bf16) (ix2 k ⟨512 + a, by omega⟩))
      = if h : (a : ℕ) % 128 < 64 then
          upRow ((128⁻¹ : ℝ) : EReal) (fun k => zr ⟨704 + k, by omega⟩) (fun k => g (ix1 k)) (fun k => w (ix2 k ⟨a + 64, by omega⟩))
        else 0 := by
  by_cases h : (a : ℕ) % 128 < 64
  · rw [dif_pos h]
    exact upRow_congr _ hz (kg_at g) fun k => (ukvOf_v w k a).trans (dif_pos h)
  · rw [dif_neg h]
    exact (upRow_congr _ hz (kg_at g) fun k => (ukvOf_v w k a).trans (dif_neg h)).trans (upRow_zero _ _ _)

theorem v224_ang (p : IVec S4096 32) : Cert.Reference2Ideal.Read.val_main_v224 (F := Ideal) p = ang16 p := by
  rfl

theorem v258_ang (p : IVec S4096 32) : Cert.Reference2Ideal.Read.val_main_v258 (F := Ideal) p = ang16 p := by
  rfl

theorem v296_ang (p : IVec S4096 32) : Cert.Reference2Ideal.Read.val_main_v296 (F := Ideal) p = ang16 p := by
  rfl

theorem v330_ang (p : IVec S4096 32) : Cert.Reference2Ideal.Read.val_main_v330 (F := Ideal) p = ang16 p := by
  rfl

theorem v65_ang (p : IVec S4096 32) : Cert.Reference2Ideal.Read.val_main_v65 (F := Ideal) p = ang8 p := by
  rfl

theorem v99_ang (p : IVec S4096 32) : Cert.Reference2Ideal.Read.val_main_v99 (F := Ideal) p = ang8 p := by
  rfl

theorem v151_ang (p : IVec S4096 32) : Cert.Reference2Ideal.Read.val_main_v151 (F := Ideal) p = ang8 p := by
  rfl

theorem v185_ang (p : IVec S4096 32) : Cert.Reference2Ideal.Read.val_main_v185 (F := Ideal) p = ang8 p := by
  rfl

variable (m : (ℓ : Loc nD τ sig) → Buf (Elt Ideal) ℓ)

/-- The kernel's `qa` is the reference's. -/
theorem qa_eq (c : Dev nD) : (dats m 0 c).arrAt 10 cfg0.N
      = Cert.Reference2Ideal.Read.val_main_v443 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [final10]
  funext i
  idx_vars i
  refine Eq.trans ?_ (qa_at _ _ _ _ _ _ _ _ i0 i1 i2).symm
  simp only [v224_ang, v258_ang]
  show qaAt (xArr m c) (mArr m c) (gArr m c) (wArr m c) (taArr m c) i0 i1 i2 = _
  rw [V_ta]
  unfold qaAt
  refine qa_row _ _ i1 i2 (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1) (fun d => ?_) (fun d hd => ?_)
  · refine z_eq m c _ _ (fun k => ?_) i0 i1
    rw [V_w]
    refine (qaCol _ k ⟨i2 / 128 * 128 + d, by omega⟩).trans ((dif_pos (by dsimp only; omega)).trans ?_)
    exact congrArg (fun n => (m ((c : Thread nD τ).loc main_arg5)) (ix2 k n)) (Fin.ext (by dsimp only; omega))
  · refine z_zero m c _ (fun k => ?_) i0 i1
    rw [V_w]
    exact (qaCol _ k ⟨i2 / 128 * 128 + d, by omega⟩).trans (dif_neg (by dsimp only; omega))

/-- The kernel's `ka` is the reference's. -/
theorem ka_eq (c : Dev nD) : (dats m 0 c).arrAt 11 cfg0.N
      = Cert.Reference2Ideal.Read.val_main_v447 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  rw [final11]
  funext i
  idx_vars i
  refine Eq.trans ?_ (ka_at _ _ _ _ _ _ _ _ i0 i1 i2).symm
  simp only [v296_ang, v330_ang]
  show kaAt (xArr m c) (mArr m c) (gArr m c) (wArr m c) (taArr m c) i0 i1 i2 = _
  rw [V_ta]
  unfold kaAt
  refine ka_row _ _ i1 i2 (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1) (fun d => ?_) (fun d hd => ?_)
  · refine z_eq m c _ _ (fun k => ?_) i0 i1
    rw [V_w]
    refine (kaCol _ k ⟨i2 / 128 * 128 + d, by omega⟩).trans ((dif_pos (by dsimp only; omega)).trans ?_)
    exact congrArg (fun n => (m ((c : Thread nD τ).loc main_arg5)) (ix2 k n)) (Fin.ext (by dsimp only; omega))
  · refine z_zero m c _ (fun k => ?_) i0 i1
    rw [V_w]
    exact (kaCol _ k ⟨i2 / 128 * 128 + d, by omega⟩).trans (dif_neg (by dsimp only; omega))

/-- The kernel's `qb` is the reference's. -/
theorem qb_eq (c : Dev nD) : (dats m 0 c).arrAt 13 cfg0.N
      = Cert.Reference2Ideal.Read.val_main_v455 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  rw [final13]
  funext i
  idx_vars i
  refine Eq.trans ?_ (qb_at _ _ _ _ _ _ _ _ _ _ i0 i1 i2).symm
  simp only [v65_ang, v99_ang]
  show qbAt (xArr m c) (mArr m c) (gArr m c) (wArr m c) (tbArr m c) (qgArr m c) (uqArr m c) i0 i1 i2 = _
  rw [V_tb, V_qg, V_uq]
  unfold qbAt
  have hu := uq_row (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1) (m ((c : Thread nD τ).loc main_arg6)) (m ((c : Thread nD τ).loc main_arg7))
    (fun k => z_eq m c _ _ (fun d => by rw [V_w]; exact latCol _ d k) i0 i1)
      (fun k hk => z_zero m c _ (fun d => by rw [V_w]; exact latPad _ d k hk) i0 i1)
  refine qb_row _ _ i1 i2 _ (qU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i0 i1) (fun d => ?_) (fun d hd => ?_)
  · refine (hu ⟨i2 / 128 * 128 + d, by omega⟩).trans ((dif_pos (by dsimp only; omega)).trans ?_)
    exact congrArg (qU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i0 i1) (Fin.ext (by dsimp only; omega))
  · exact (hu ⟨i2 / 128 * 128 + d, by omega⟩).trans (dif_neg (by dsimp only; omega))

/-- The kernel's `kb` is the reference's. -/
theorem kb_eq (c : Dev nD) : (dats m 0 c).arrAt 14 cfg0.N
      = Cert.Reference2Ideal.Read.val_main_v459 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  rw [final14]
  funext i
  idx_vars i
  refine Eq.trans ?_ (kb_at _ _ _ _ _ _ _ _ _ _ i0 i1 i2).symm
  simp only [v151_ang, v185_ang]
  show kbAt (xArr m c) (mArr m c) (gArr m c) (wArr m c) (tbArr m c) (kgArr m c) (ukvArr m c) i0 i1 i2 = _
  rw [V_tb, V_kg, V_ukv]
  unfold kbAt
  refine kb_row _ _ i1 i2 _ (kvU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) i0 i1) (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1)
    (uk_row (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1) (m ((c : Thread nD τ).loc main_arg8)) (m ((c : Thread nD τ).loc main_arg9)) (fun k => z_eq m c _ _ (fun d => by rw [V_w]; exact kvCol _ d k) i0 i1) i2) (fun d => ?_) (fun d hd => ?_)
  · refine z_eq m c _ _ (fun k => ?_) i0 i1
    rw [V_w]
    refine (ropeCol _ k ⟨64 + d, by omega⟩).trans ((dif_pos (by dsimp only; omega)).trans ?_)
    exact congrArg (fun n => (m ((c : Thread nD τ).loc main_arg5)) (ix2 k n)) (Fin.ext (by dsimp only; omega))
  · refine z_zero m c _ (fun k => ?_) i0 i1
    rw [V_w]
    exact (ropeCol _ k d).trans (dif_neg hd)

/-- The kernel's `vb` is the reference's. -/
theorem vb_eq (c : Dev nD) : (dats m 0 c).arrAt 15 cfg0.N
      = Cert.Reference2Ideal.Read.val_main_v465 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  rw [final15]
  funext i
  idx_vars i
  refine Eq.trans ?_ (vb_at _ _ _ _ _ _ _ _ i0 i1 i2).symm
  show vbAt (xArr m c) (mArr m c) (gArr m c) (wArr m c) (kgArr m c) (ukvArr m c) i0 i1 i2 = _
  rw [V_kg, V_ukv]
  unfold vbAt
  exact vb_row i2 _ (kvU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) i0 i1) (uv_row (zK (xArr m c) (mArr m c) (gArr m c) (wArr m c) i0 i1) (zR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i0 i1) (m ((c : Thread nD τ).loc main_arg8)) (m ((c : Thread nD τ).loc main_arg9)) (fun k => z_eq m c _ _ (fun d => by rw [V_w]; exact kvCol _ d k) i0 i1) i2)

end Cert.Kernel2Ideal.Proj

end
-- ==== Proof.lean ====
/- The certificate of the latent attention kernel and of the projection kernel: frames, idealizations, values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Mla.Result
public import proofs.«01_k».proof.Proof.Proj.Result
public import proofs.«01_k».proof.Proof.Proj.ResultRest
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, leaves its arguments as they were and every counter at zero. -/
theorem frameReference : Cert.quiescent_ReferenceIdeal (hReferenceIdeal := Cert.ReferenceIdeal.Gen.facts) := by
  intro m ρ _
  refine (θ_run _ _ _).mono (fun r h => ⟨fun c => (h c).2, ?_⟩) (Cert.ReferenceIdeal.Value.run m ρ)
  exact Idealize.ShloMosaic.sem_eq_zero_of_no_sems (by decide) r.2

/-- The kernel over the reals and the reference end with the same result. -/
theorem value : Cert.algebraic_KernelIdeal_ReferenceIdeal_pre_finite_queries_keys
    (hKernelIdeal := Cert.KernelIdeal.Gen.facts) (hReferenceIdeal := Cert.ReferenceIdeal.Gen.facts) (hPre_finite_queries_keys := Cert.Mla.preFacts) := by
  intro m g m' g' hpre hagree
  refine ⟨_, Cert.KernelIdeal.Value.run_blocks m g, ?_⟩
  refine (θ_run _ _ _).mono (fun r h c => ?_) (Cert.ReferenceIdeal.Value.run m' g')
  refine ⟨?_, (h c).2⟩
  obtain ⟨a0, a1, a2, a3, a4, a5⟩ := hagree c
  rw [(h c).1, Cert.ReferenceIdeal.Read.val_main_v43_eq, a0, a1, a2, a3, a4, a5]
  exact (Cert.KernelIdeal.Mla.result m hpre c).symm

/-- The projection's reference runs, leaves its arguments as they were and every counter at zero. -/
theorem frameReference2 : Cert.quiescent_Reference2Ideal (hReference2Ideal := Cert.Reference2Ideal.Gen.facts) := by
  intro m ρ _
  refine (θ_run _ _ _).mono (fun r h => ⟨fun c => (h c).2.2.2.2.2.2.2.2.2.2, ?_⟩) (Cert.Reference2Ideal.Value.run m ρ)
  exact Idealize.ShloMosaic.sem_eq_zero_of_no_sems (by decide) r.2

set_option maxHeartbeats 4000000 in
/-- The projection kernel over the reals and its reference end with the same ten results. -/
theorem value2 : Cert.algebraic_Kernel2Ideal_Reference2Ideal
    (hKernel2Ideal := Cert.Kernel2Ideal.Gen.facts) (hReference2Ideal := Cert.Reference2Ideal.Gen.facts) := by
  intro m g m' g' _ hagree
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    (θ_run _ _ _).mono (fun r h c => h c) (Cert.Kernel2Ideal.Value.run_blocks m g), ?_⟩
  refine (θ_run _ _ _).mono (fun r h c => ?_) (Cert.Reference2Ideal.Value.run m' g')
  obtain ⟨a0, a1, a2, a3, a4, a5, a6, a7, a8, a9, a10, a11⟩ := hagree c
  refine ⟨?_, ?_, ?_, ?_, ?_, ?_, ?_, ?_, ?_, ?_, (h c).2.2.2.2.2.2.2.2.2.2⟩
  · refine ((h c).1.trans (Cert.Reference2Ideal.Read.val_main_v443_eq _)).trans ?_
    show Cert.Reference2Ideal.Read.val_main_v443 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) (m' ((c.tc : Idealize.ShloMosaic.Thread Cert.Reference2Ideal.nD Cert.Reference2Ideal.τ).loc Cert.Reference2Ideal.main_arg10)) (m' ((c.tc : Idealize.ShloMosaic.Thread Cert.Reference2Ideal.nD Cert.Reference2Ideal.τ).loc Cert.Reference2Ideal.main_arg11)) = _
    rw [a0, a1, a2, a3, a4, a5, a10, a11]
    exact (Cert.Kernel2Ideal.Proj.qa_eq m c).symm
  · refine ((h c).2.1.trans (Cert.Reference2Ideal.Read.val_main_v447_eq _)).trans ?_
    show Cert.Reference2Ideal.Read.val_main_v447 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) (m' ((c.tc : Idealize.ShloMosaic.Thread Cert.Reference2Ideal.nD Cert.Reference2Ideal.τ).loc Cert.Reference2Ideal.main_arg10)) (m' ((c.tc : Idealize.ShloMosaic.Thread Cert.Reference2Ideal.nD Cert.Reference2Ideal.τ).loc Cert.Reference2Ideal.main_arg11)) = _
    rw [a0, a1, a2, a3, a4, a5, a10, a11]
    exact (Cert.Kernel2Ideal.Proj.ka_eq m c).symm
  · refine ((h c).2.2.1.trans (Cert.Reference2Ideal.Read.val_main_v451_eq _)).trans ?_
    show Cert.Reference2Ideal.Read.val_main_v451 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) = _
    rw [a0, a1, a2, a3, a4, a5]
    exact (Cert.Kernel2Ideal.Proj.va_eq m c).symm
  · refine ((h c).2.2.2.1.trans (Cert.Reference2Ideal.Read.val_main_v455_eq _)).trans ?_
    show Cert.Reference2Ideal.Read.val_main_v455 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) (m' ((c.tc : Idealize.ShloMosaic.Thread Cert.Reference2Ideal.nD Cert.Reference2Ideal.τ).loc Cert.Reference2Ideal.main_arg6)) (m' ((c.tc : Idealize.ShloMosaic.Thread Cert.Reference2Ideal.nD Cert.Reference2Ideal.τ).loc Cert.Reference2Ideal.main_arg7)) (m' ((c.tc : Idealize.ShloMosaic.Thread Cert.Reference2Ideal.nD Cert.Reference2Ideal.τ).loc Cert.Reference2Ideal.main_arg10)) (m' ((c.tc : Idealize.ShloMosaic.Thread Cert.Reference2Ideal.nD Cert.Reference2Ideal.τ).loc Cert.Reference2Ideal.main_arg11)) = _
    rw [a0, a1, a2, a3, a4, a5, a6, a7, a10, a11]
    exact (Cert.Kernel2Ideal.Proj.qb_eq m c).symm
  · refine ((h c).2.2.2.2.1.trans (Cert.Reference2Ideal.Read.val_main_v459_eq _)).trans ?_
    show Cert.Reference2Ideal.Read.val_main_v459 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) (m' ((c.tc : Idealize.ShloMosaic.Thread Cert.Reference2Ideal.nD Cert.Reference2Ideal.τ).loc Cert.Reference2Ideal.main_arg8)) (m' ((c.tc : Idealize.ShloMosaic.Thread Cert.Reference2Ideal.nD Cert.Reference2Ideal.τ).loc Cert.Reference2Ideal.main_arg9)) (m' ((c.tc : Idealize.ShloMosaic.Thread Cert.Reference2Ideal.nD Cert.Reference2Ideal.τ).loc Cert.Reference2Ideal.main_arg10)) (m' ((c.tc : Idealize.ShloMosaic.Thread Cert.Reference2Ideal.nD Cert.Reference2Ideal.τ).loc Cert.Reference2Ideal.main_arg11)) = _
    rw [a0, a1, a2, a3, a4, a5, a8, a9, a10, a11]
    exact (Cert.Kernel2Ideal.Proj.kb_eq m c).symm
  · refine ((h c).2.2.2.2.2.1.trans (Cert.Reference2Ideal.Read.val_main_v465_eq _)).trans ?_
    show Cert.Reference2Ideal.Read.val_main_v465 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) (m' ((c.tc : Idealize.ShloMosaic.Thread Cert.Reference2Ideal.nD Cert.Reference2Ideal.τ).loc Cert.Reference2Ideal.main_arg8)) (m' ((c.tc : Idealize.ShloMosaic.Thread Cert.Reference2Ideal.nD Cert.Reference2Ideal.τ).loc Cert.Reference2Ideal.main_arg9)) = _
    rw [a0, a1, a2, a3, a4, a5, a8, a9]
    exact (Cert.Kernel2Ideal.Proj.vb_eq m c).symm
  · refine ((h c).2.2.2.2.2.2.1.trans (Cert.Reference2Ideal.Read.val_main_v468_eq _)).trans ?_
    show Cert.Reference2Ideal.Read.val_main_v468 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) = _
    rw [a0, a1, a2, a3, a4, a5]
    exact (Cert.Kernel2Ideal.Proj.cu_eq m c).symm
  · refine ((h c).2.2.2.2.2.2.2.1.trans (Cert.Reference2Ideal.Read.val_main_v472_eq _)).trans ?_
    show Cert.Reference2Ideal.Read.val_main_v472 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) = _
    rw [a0, a1, a2, a3, a4, a5]
    exact (Cert.Kernel2Ideal.Proj.qd_eq m c).symm
  · refine ((h c).2.2.2.2.2.2.2.2.1.trans (Cert.Reference2Ideal.Read.val_main_v476_eq _)).trans ?_
    show Cert.Reference2Ideal.Read.val_main_v476 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) = _
    rw [a0, a1, a2, a3, a4, a5]
    exact (Cert.Kernel2Ideal.Proj.kd_eq m c).symm
  · refine ((h c).2.2.2.2.2.2.2.2.2.1.trans (Cert.Reference2Ideal.Read.val_main_v480_eq _)).trans ?_
    show Cert.Reference2Ideal.Read.val_main_v480 (F := Ideal) (m' ((c.tc : Idealize.ShloMosaic.Thread Cert.Reference2Ideal.nD Cert.Reference2Ideal.τ).loc Cert.Reference2Ideal.main_arg0)) (m' ((c.tc : Idealize.ShloMosaic.Thread Cert.Reference2Ideal.nD Cert.Reference2Ideal.τ).loc Cert.Reference2Ideal.main_arg1)) (m' ((c.tc : Idealize.ShloMosaic.Thread Cert.Reference2Ideal.nD Cert.Reference2Ideal.τ).loc Cert.Reference2Ideal.main_arg2)) (m' ((c.tc : Idealize.ShloMosaic.Thread Cert.Reference2Ideal.nD Cert.Reference2Ideal.τ).loc Cert.Reference2Ideal.main_arg3)) (m' ((c.tc : Idealize.ShloMosaic.Thread Cert.Reference2Ideal.nD Cert.Reference2Ideal.τ).loc Cert.Reference2Ideal.main_arg4)) (m' ((c.tc : Idealize.ShloMosaic.Thread Cert.Reference2Ideal.nD Cert.Reference2Ideal.τ).loc Cert.Reference2Ideal.main_arg5)) = _
    rw [a0, a1, a2, a3, a4, a5]
    exact (Cert.Kernel2Ideal.Proj.vd_eq m c).symm

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Mla.preFacts,
  fun m ρ _ => Cert.Kernel.Gen.frame m ρ,
  fun m ρ _ => Cert.KernelIdeal.Gen.frame m ρ,
  fun m ρ _ => Cert.KernelIdeal.Gen.frame m ρ,
  fun m ρ _ => frameReference m ρ (by trivial),
  fun m ρ _ => frameReference m ρ (by trivial),
  fun m ρ _ => Cert.Kernel2.Gen.frame m ρ,
  fun m ρ _ => Cert.Kernel2Ideal.Gen.frame m ρ,
  frameReference2,
  trivial, value, IdealRules.named_const.statement _ _ _ _ _ rfl, value2⟩

end Cert.Proof

end
